-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_v62) = v2 c
          ∧ r.2.mem ((c.tc : Thread Cert.Reference5Ideal.nD Cert.Reference5Ideal.τ).loc Cert.Reference5Ideal.main_v64) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S2x8192x16x128 : Shape := ⟨4, ![2, 8192, 16, 128]⟩
abbrev S2x8192x2048 : Shape := ⟨3, ![2, 8192, 2048]⟩
abbrev S2x8192x8192 : Shape := ⟨3, ![2, 8192, 8192]⟩
abbrev S_ : Shape := ⟨0, ![]⟩
abbrev S16384x4096 : Shape := ⟨2, ![16384, 4096]⟩
abbrev S16384x2048 : Shape := ⟨2, ![16384, 2048]⟩
abbrev S16384x6144 : Shape := ⟨2, ![16384, 6144]⟩
abbrev S16384x14336 : Shape := ⟨2, ![16384, 14336]⟩
abbrev S2x16x512x2048 : Shape := ⟨4, ![2, 16, 512, 2048]⟩
abbrev S2x16x2048x512 : Shape := ⟨4, ![2, 16, 2048, 512]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S2x32x256x64x128 : Shape := ⟨5, ![2, 32, 256, 64, 128]⟩
abbrev S2x32x64x256x128 : Shape := ⟨5, ![2, 32, 64, 256, 128]⟩
abbrev S512x512 : Shape := ⟨2, ![512, 512]⟩
abbrev S1x16x512x512 : Shape := ⟨4, ![1, 16, 512, 512]⟩
abbrev S8192x512 : Shape := ⟨2, ![8192, 512]⟩
abbrev S1x2x64x256x128 : Shape := ⟨5, ![1, 2, 64, 256, 128]⟩
abbrev S4x512x128 : Shape := ⟨3, ![4, 512, 128]⟩
abbrev S4x512x256 : Shape := ⟨3, ![4, 512, 256]⟩
abbrev S2x4x512x512 : Shape := ⟨4, ![2, 4, 512, 512]⟩
abbrev S512x128 : Shape := ⟨2, ![512, 128]⟩
abbrev S1x1x1x256x128 : Shape := ⟨5, ![1, 1, 1, 256, 128]⟩
abbrev S256x128 : Shape := ⟨2, ![256, 128]⟩
abbrev S256x512 : Shape := ⟨2, ![256, 512]⟩
abbrev S1x1x128x512 : Shape := ⟨4, ![1, 1, 128, 512]⟩
abbrev S128x512 : Shape := ⟨2, ![128, 512]⟩
abbrev S1x1x512x512 : Shape := ⟨4, ![1, 1, 512, 512]⟩
abbrev S1x512x128 : Shape := ⟨3, ![1, 512, 128]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩

abbrev nBuf : Space → Nat
  | .hbm => 46
  | .vmem => 13
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x16x128, .f32⟩
  | .hbm, ⟨2, _⟩ => ⟨S2x8192x16x128, .f32⟩
  | .hbm, ⟨3, _⟩ => ⟨S2x8192x2048, .f32⟩
  | .hbm, ⟨4, _⟩ => ⟨S2x8192x8192, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x6144, .f32⟩
  | .hbm, ⟨18, _⟩ => ⟨S16384x14336, .f32⟩
  | .hbm, ⟨19, _⟩ => ⟨S16384x14336, .bf16⟩
  | .hbm, ⟨20, _⟩ => ⟨S2x16x512x2048, .f32⟩
  | .hbm, ⟨21, _⟩ => ⟨S2x16x2048x512, .f32⟩
  | .hbm, ⟨22, _⟩ => ⟨S2x16x2048x512, .bf16⟩
  | .hbm, ⟨23, _⟩ => ⟨S16384x2048, .f32⟩
  | .hbm, ⟨24, _⟩ => ⟨S16384x2048, .bf16⟩
  | .hbm, ⟨25, _⟩ => ⟨S8192, .i32⟩
  | .hbm, ⟨26, _⟩ => ⟨S_, .i32⟩
  | .hbm, ⟨27, _⟩ => ⟨S2x8192x8192, .i32⟩
  | .hbm, ⟨28, _⟩ => ⟨S2x8192x8192, .i1⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S1x8192x8192, .i1⟩
  | .hbm, ⟨35, _⟩ => ⟨S2x8192x8192, .i1⟩
  | .hbm, ⟨36, _⟩ => ⟨S2x8192x8192, .i1⟩
  | .hbm, ⟨37, _⟩ => ⟨S_, .f32⟩
  | .hbm, ⟨38, _⟩ => ⟨S_, .f32⟩
  | .hbm, ⟨39, _⟩ => ⟨S2x8192x8192, .f32⟩
  | .hbm, ⟨40, _⟩ => ⟨S2x8192x8192, .f32⟩
  | .hbm, ⟨41, _⟩ => ⟨S2x8192x8192, .f32⟩
  | .hbm, ⟨42, _⟩ => ⟨S2x32x256x64x128, .f32⟩
  | .hbm, ⟨43, _⟩ => ⟨S2x32x64x256x128, .f32⟩
  | .hbm, ⟨44, _⟩ => ⟨S2x32x64x256x128, .bf16⟩
  | .hbm, ⟨45, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S1x16x512x512, .bf16⟩
  | .local _ .vmem, ⟨3, _⟩ => ⟨S8192x512, .bf16⟩
  | .local _ .vmem, ⟨4, _⟩ => ⟨S1x2x64x256x128, .bf16⟩
  | .local _ .vmem, ⟨5, _⟩ => ⟨S1x2x64x256x128, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x512x128, .f32⟩
  | .local _ .vmem, ⟨11, _⟩ => ⟨S4x512x256, .f32⟩
  | .local _ .vmem, ⟨12, _⟩ => ⟨S2x4x512x512, .f32⟩
  | _, _ => ⟨S2x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_103 : BitVec 32 := 1#32
  ⟨c0_i32_101, v108, c1_i32_103⟩
def k0_mult1 (i : grid0.Coords) (k0_t1 : Fin (k0_t1_loop i).trips) : BitVec 32 :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let c0_i32_158 : BitVec 32 := 0#32
  let v214 : BitVec 32 := Scalar.addi v213 c0_i32_158
  let c512_i32_159 : BitVec 32 := 512#32
  let v215 : BitVec 32 := Scalar.muli v214 c512_i32_159
  v215
def k0_off1 (i : grid0.Coords) (k0_t1 : Fin (k0_t1_loop i).trips) (c0_i32_158 : BitVec 32) : Fin 2 → Nat :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v214 : BitVec 32 := Scalar.addi v213 c0_i32_158
  let c512_i32_159 : BitVec 32 := 512#32
  let v215 : BitVec 32 := Scalar.muli v214 c512_i32_159
  let v216 : BitVec 32 := v215
  let v230 : Index := Scalar.indexCast v216
  let c0_168 : Index := 0#32
  ![v230.toNat, 0]
def k0_off2 (i : grid0.Coords) (k0_t1 : Fin (k0_t1_loop i).trips) (c0_i32_158 : BitVec 32) : Fin 2 → Nat :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v214 : BitVec 32 := Scalar.addi v213 c0_i32_158
  let c512_i32_159 : BitVec 32 := 512#32
  let v215 : BitVec 32 := Scalar.muli v214 c512_i32_159
  let v216 : BitVec 32 := v215
  let v260 : Index := Scalar.indexCast v216
  let c128_187 : Index := 128#32
  ![v260.toNat, 128]
def k0_off3 (i : grid0.Coords) (k0_t1 : Fin (k0_t1_loop i).trips) (c0_i32_158 : BitVec 32) : Fin 2 → Nat :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v214 : BitVec 32 := Scalar.addi v213 c0_i32_158
  let c512_i32_159 : BitVec 32 := 512#32
  let v215 : BitVec 32 := Scalar.muli v214 c512_i32_159
  let v216 : BitVec 32 := v215
  let v290 : Index := Scalar.indexCast v216
  let c256_206 : Index := 256#32
  ![v290.toNat, 256]
def k0_off4 (i : grid0.Coords) (k0_t1 : Fin (k0_t1_loop i).trips) (c0_i32_158 : BitVec 32) : Fin 2 → Nat :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v214 : BitVec 32 := Scalar.addi v213 c0_i32_158
  let c512_i32_159 : BitVec 32 := 512#32
  let v215 : BitVec 32 := Scalar.muli v214 c512_i32_159
  let v216 : BitVec 32 := v215
  let v320 : Index := Scalar.indexCast v216
  let c384_225 : Index := 384#32
  ![v320.toNat, 384]
def k0_off5 (i : grid0.Coords) (k0_t1 : Fin (k0_t1_loop i).trips) (c0_i32_236 : BitVec 32) (c0_i32_239 : BitVec 32) : Fin 5 → Nat :=
  let c0_240 : Index := 0#32
  let c0_241 : Index := 0#32
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v337 : BitVec 32 := Scalar.addi v213 c0_i32_236
  let c1_i32_237 : BitVec 32 := 1#32
  let v338 : BitVec 32 := Scalar.addi v337 c1_i32_237
  let c4_i32_238 : BitVec 32 := 4#32
  let v339 : BitVec 32 := Scalar.muli v338 c4_i32_238
  let v340 : BitVec 32 := Scalar.addi v339 c0_i32_239
  let v341 : Index := Scalar.indexCast v340
  let c0_242 : Index := 0#32
  let c0_243 : Index := 0#32
  ![0, 0, v341.toNat, 0, 0]
def k0_off6 (i : grid0.Coords) (k0_t1 : Fin (k0_t1_loop i).trips) (c0_i32_236 : BitVec 32) (c0_i32_262 : BitVec 32) : Fin 5 → Nat :=
  let c0_263 : Index := 0#32
  let c1_264 : Index := 1#32
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v337 : BitVec 32 := Scalar.addi v213 c0_i32_236
  let c1_i32_237 : BitVec 32 := 1#32
  let v338 : BitVec 32 := Scalar.addi v337 c1_i32_237
  let c4_i32_261 : BitVec 32 := 4#32
  let v360 : BitVec 32 := Scalar.muli v338 c4_i32_261
  let v361 : BitVec 32 := Scalar.addi v360 c0_i32_262
  let v362 : Index := Scalar.indexCast v361
  let c0_265 : Index := 0#32
  let c0_266 : Index := 0#32
  ![0, 1, v362.toNat, 0, 0]
def k0_off7 (i : grid0.Coords) (k0_t1 : Fin (k0_t1_loop i).trips) (c0_i32_236 : BitVec 32) : Fin 4 → Nat :=
  let c0_287 : Index := 0#32
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v337 : BitVec 32 := Scalar.addi v213 c0_i32_236
  let c1_i32_237 : BitVec 32 := 1#32
  let v338 : BitVec 32 := Scalar.addi v337 c1_i32_237
  let v385 : Index := Scalar.indexCast v338
  let c0_288 : Index := 0#32
  let c0_289 : Index := 0#32
  ![0, v385.toNat, 0, 0]
def k0_off8 (i : grid0.Coords) (k0_t1 : Fin (k0_t1_loop i).trips) (c0_i32_236 : BitVec 32) : Fin 4 → Nat :=
  let c0_297 : Index := 0#32
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v337 : BitVec 32 := Scalar.addi v213 c0_i32_236
  let c1_i32_237 : BitVec 32 := 1#32
  let v338 : BitVec 32 := Scalar.addi v337 c1_i32_237
  let v395 : Index := Scalar.indexCast v338
  let c128_298 : Index := 128#32
  let c0_299 : Index := 0#32
  ![0, v395.toNat, 128, 0]
def k0_off9 (i : grid0.Coords) (k0_t1 : Fin (k0_t1_loop i).trips) (c0_i32_236 : BitVec 32) : Fin 4 → Nat :=
  let c0_307 : Index := 0#32
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v337 : BitVec 32 := Scalar.addi v213 c0_i32_236
  let c1_i32_237 : BitVec 32 := 1#32
  let v338 : BitVec 32 := Scalar.addi v337 c1_i32_237
  let v405 : Index := Scalar.indexCast v338
  let c256_308 : Index := 256#32
  let c0_309 : Index := 0#32
  ![0, v405.toNat, 256, 0]
def k0_off10 (i : grid0.Coords) (k0_t1 : Fin (k0_t1_loop i).trips) (c0_i32_236 : BitVec 32) : Fin 4 → Nat :=
  let c0_317 : Index := 0#32
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let v337 : BitVec 32 := Scalar.addi v213 c0_i32_236
  let c1_i32_237 : BitVec 32 := 1#32
  let v338 : BitVec 32 := Scalar.addi v337 c1_i32_237
  let v415 : Index := Scalar.indexCast v338
  let c384_318 : Index := 384#32
  let c0_319 : Index := 0#32
  ![0, v415.toNat, 384, 0]
def k0_mult2 (i : grid0.Coords) (k0_t1 : Fin (k0_t1_loop i).trips) : BitVec 32 :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let c1_i32_325 : BitVec 32 := 1#32
  let v423 : BitVec 32 := Scalar.addi v213 c1_i32_325
  let c512_i32_326 : BitVec 32 := 512#32
  let v424 : BitVec 32 := Scalar.muli v423 c512_i32_326
  v424
def k0_mult3 (i : grid0.Coords) (k0_t1 : Fin (k0_t1_loop i).trips) : BitVec 32 :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let c2_i32_493 : BitVec 32 := 2#32
  let v632 : BitVec 32 := Scalar.addi v213 c2_i32_493
  let c512_i32_494 : BitVec 32 := 512#32
  let v633 : BitVec 32 := Scalar.muli v632 c512_i32_494
  v633
def k0_mult4 (i : grid0.Coords) (k0_t1 : Fin (k0_t1_loop i).trips) : BitVec 32 :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let c3_i32_661 : BitVec 32 := 3#32
  let v841 : BitVec 32 := Scalar.addi v213 c3_i32_661
  let c512_i32_662 : BitVec 32 := 512#32
  let v842 : BitVec 32 := Scalar.muli v841 c512_i32_662
  v842
def k0_mult5 (i : grid0.Coords) (k0_t1 : Fin (k0_t1_loop i).trips) : BitVec 32 :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let c4_i32_829 : BitVec 32 := 4#32
  let v1050 : BitVec 32 := Scalar.addi v213 c4_i32_829
  let c512_i32_830 : BitVec 32 := 512#32
  let v1051 : BitVec 32 := Scalar.muli v1050 c512_i32_830
  v1051
def k0_mult6 (i : grid0.Coords) (k0_t1 : Fin (k0_t1_loop i).trips) : BitVec 32 :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let c5_i32 : BitVec 32 := 5#32
  let v1259 : BitVec 32 := Scalar.addi v213 c5_i32
  let c512_i32_997 : BitVec 32 := 512#32
  let v1260 : BitVec 32 := Scalar.muli v1259 c512_i32_997
  v1260
def k0_mult7 (i : grid0.Coords) (k0_t1 : Fin (k0_t1_loop i).trips) : BitVec 32 :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let c6_i32 : BitVec 32 := 6#32
  let v1468 : BitVec 32 := Scalar.addi v213 c6_i32
  let c512_i32_1164 : BitVec 32 := 512#32
  let v1469 : BitVec 32 := Scalar.muli v1468 c512_i32_1164
  v1469
def k0_mult8 (i : grid0.Coords) (k0_t1 : Fin (k0_t1_loop i).trips) : BitVec 32 :=
  let c8_i32_157 : BitVec 32 := 8#32
  let c0_i32_101 : BitVec 32 := 0#32
  let c1_i32_103 : BitVec 32 := 1#32
  let arg12 : BitVec 32 := Scf.iv c0_i32_101 c1_i32_103 k0_t1
  let v213 : BitVec 32 := Scalar.muli c8_i32_157 arg12
  let c7_i32 : BitVec 32 := 7#32
  let v1677 : BitVec 32 := Scalar.addi v213 c7_i32
  let c512_i32_1331 : BitVec 32 := 512#32
  let v1678 : BitVec 32 := Scalar.muli v1677 c512_i32_1331
  v1678
@[reducible] def k0_t2_loop (i : grid0.Coords) : Scf.Loop 32 :=
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let v105 : BitVec 32 := Scalar.addi c0_i32_101 v104
  let c1_i32_104 : BitVec 32 := 1#32
  ⟨v108, v105, c1_i32_104⟩
def k0_mult9 (i : grid0.Coords) (k0_t2 : Fin (k0_t2_loop i).trips) : BitVec 32 :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let c0_i32_158 : BitVec 32 := 0#32
  let v214 : BitVec 32 := Scalar.addi v213 c0_i32_158
  let c512_i32_159 : BitVec 32 := 512#32
  let v215 : BitVec 32 := Scalar.muli v214 c512_i32_159
  v215
def k0_off11 (i : grid0.Coords) (k0_t2 : Fin (k0_t2_loop i).trips) (c0_i32_158 : BitVec 32) : Fin 2 → Nat :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v214 : BitVec 32 := Scalar.addi v213 c0_i32_158
  let c512_i32_159 : BitVec 32 := 512#32
  let v215 : BitVec 32 := Scalar.muli v214 c512_i32_159
  let v216 : BitVec 32 := v215
  let v230 : Index := Scalar.indexCast v216
  let c0_168 : Index := 0#32
  ![v230.toNat, 0]
def k0_off12 (i : grid0.Coords) (k0_t2 : Fin (k0_t2_loop i).trips) (c0_i32_158 : BitVec 32) : Fin 2 → Nat :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v214 : BitVec 32 := Scalar.addi v213 c0_i32_158
  let c512_i32_159 : BitVec 32 := 512#32
  let v215 : BitVec 32 := Scalar.muli v214 c512_i32_159
  let v216 : BitVec 32 := v215
  let v260 : Index := Scalar.indexCast v216
  let c128_187 : Index := 128#32
  ![v260.toNat, 128]
def k0_off13 (i : grid0.Coords) (k0_t2 : Fin (k0_t2_loop i).trips) (c0_i32_158 : BitVec 32) : Fin 2 → Nat :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v214 : BitVec 32 := Scalar.addi v213 c0_i32_158
  let c512_i32_159 : BitVec 32 := 512#32
  let v215 : BitVec 32 := Scalar.muli v214 c512_i32_159
  let v216 : BitVec 32 := v215
  let v290 : Index := Scalar.indexCast v216
  let c256_206 : Index := 256#32
  ![v290.toNat, 256]
def k0_off14 (i : grid0.Coords) (k0_t2 : Fin (k0_t2_loop i).trips) (c0_i32_158 : BitVec 32) : Fin 2 → Nat :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v214 : BitVec 32 := Scalar.addi v213 c0_i32_158
  let c512_i32_159 : BitVec 32 := 512#32
  let v215 : BitVec 32 := Scalar.muli v214 c512_i32_159
  let v216 : BitVec 32 := v215
  let v320 : Index := Scalar.indexCast v216
  let c384_225 : Index := 384#32
  ![v320.toNat, 384]
def k0_off15 (i : grid0.Coords) (k0_t2 : Fin (k0_t2_loop i).trips) (c0_i32_236 : BitVec 32) (c0_i32_239 : BitVec 32) : Fin 5 → Nat :=
  let c0_240 : Index := 0#32
  let c0_241 : Index := 0#32
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v337 : BitVec 32 := Scalar.addi v213 c0_i32_236
  let c1_i32_237 : BitVec 32 := 1#32
  let v338 : BitVec 32 := Scalar.addi v337 c1_i32_237
  let c4_i32_238 : BitVec 32 := 4#32
  let v339 : BitVec 32 := Scalar.muli v338 c4_i32_238
  let v340 : BitVec 32 := Scalar.addi v339 c0_i32_239
  let v341 : Index := Scalar.indexCast v340
  let c0_242 : Index := 0#32
  let c0_243 : Index := 0#32
  ![0, 0, v341.toNat, 0, 0]
def k0_off16 (i : grid0.Coords) (k0_t2 : Fin (k0_t2_loop i).trips) (c0_i32_236 : BitVec 32) (c0_i32_262 : BitVec 32) : Fin 5 → Nat :=
  let c0_263 : Index := 0#32
  let c1_264 : Index := 1#32
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v337 : BitVec 32 := Scalar.addi v213 c0_i32_236
  let c1_i32_237 : BitVec 32 := 1#32
  let v338 : BitVec 32 := Scalar.addi v337 c1_i32_237
  let c4_i32_261 : BitVec 32 := 4#32
  let v360 : BitVec 32 := Scalar.muli v338 c4_i32_261
  let v361 : BitVec 32 := Scalar.addi v360 c0_i32_262
  let v362 : Index := Scalar.indexCast v361
  let c0_265 : Index := 0#32
  let c0_266 : Index := 0#32
  ![0, 1, v362.toNat, 0, 0]
def k0_off17 (i : grid0.Coords) (k0_t2 : Fin (k0_t2_loop i).trips) (c0_i32_236 : BitVec 32) : Fin 4 → Nat :=
  let c0_287 : Index := 0#32
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v337 : BitVec 32 := Scalar.addi v213 c0_i32_236
  let c1_i32_237 : BitVec 32 := 1#32
  let v338 : BitVec 32 := Scalar.addi v337 c1_i32_237
  let v385 : Index := Scalar.indexCast v338
  let c0_288 : Index := 0#32
  let c0_289 : Index := 0#32
  ![0, v385.toNat, 0, 0]
def k0_off18 (i : grid0.Coords) (k0_t2 : Fin (k0_t2_loop i).trips) (c0_i32_236 : BitVec 32) : Fin 4 → Nat :=
  let c0_297 : Index := 0#32
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v337 : BitVec 32 := Scalar.addi v213 c0_i32_236
  let c1_i32_237 : BitVec 32 := 1#32
  let v338 : BitVec 32 := Scalar.addi v337 c1_i32_237
  let v395 : Index := Scalar.indexCast v338
  let c128_298 : Index := 128#32
  let c0_299 : Index := 0#32
  ![0, v395.toNat, 128, 0]
def k0_off19 (i : grid0.Coords) (k0_t2 : Fin (k0_t2_loop i).trips) (c0_i32_236 : BitVec 32) : Fin 4 → Nat :=
  let c0_307 : Index := 0#32
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v337 : BitVec 32 := Scalar.addi v213 c0_i32_236
  let c1_i32_237 : BitVec 32 := 1#32
  let v338 : BitVec 32 := Scalar.addi v337 c1_i32_237
  let v405 : Index := Scalar.indexCast v338
  let c256_308 : Index := 256#32
  let c0_309 : Index := 0#32
  ![0, v405.toNat, 256, 0]
def k0_off20 (i : grid0.Coords) (k0_t2 : Fin (k0_t2_loop i).trips) (c0_i32_236 : BitVec 32) : Fin 4 → Nat :=
  let c0_317 : Index := 0#32
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let v337 : BitVec 32 := Scalar.addi v213 c0_i32_236
  let c1_i32_237 : BitVec 32 := 1#32
  let v338 : BitVec 32 := Scalar.addi v337 c1_i32_237
  let v415 : Index := Scalar.indexCast v338
  let c384_318 : Index := 384#32
  let c0_319 : Index := 0#32
  ![0, v415.toNat, 384, 0]
def k0_mult10 (i : grid0.Coords) (k0_t2 : Fin (k0_t2_loop i).trips) : BitVec 32 :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let c1_i32_325 : BitVec 32 := 1#32
  let v423 : BitVec 32 := Scalar.addi v213 c1_i32_325
  let c512_i32_326 : BitVec 32 := 512#32
  let v424 : BitVec 32 := Scalar.muli v423 c512_i32_326
  v424
def k0_mult11 (i : grid0.Coords) (k0_t2 : Fin (k0_t2_loop i).trips) : BitVec 32 :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let c2_i32_493 : BitVec 32 := 2#32
  let v632 : BitVec 32 := Scalar.addi v213 c2_i32_493
  let c512_i32_494 : BitVec 32 := 512#32
  let v633 : BitVec 32 := Scalar.muli v632 c512_i32_494
  v633
def k0_mult12 (i : grid0.Coords) (k0_t2 : Fin (k0_t2_loop i).trips) : BitVec 32 :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let c3_i32_661 : BitVec 32 := 3#32
  let v841 : BitVec 32 := Scalar.addi v213 c3_i32_661
  let c512_i32_662 : BitVec 32 := 512#32
  let v842 : BitVec 32 := Scalar.muli v841 c512_i32_662
  v842
def k0_mult13 (i : grid0.Coords) (k0_t2 : Fin (k0_t2_loop i).trips) : BitVec 32 :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let c4_i32_829 : BitVec 32 := 4#32
  let v1050 : BitVec 32 := Scalar.addi v213 c4_i32_829
  let c512_i32_830 : BitVec 32 := 512#32
  let v1051 : BitVec 32 := Scalar.muli v1050 c512_i32_830
  v1051
def k0_mult14 (i : grid0.Coords) (k0_t2 : Fin (k0_t2_loop i).trips) : BitVec 32 :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let c5_i32 : BitVec 32 := 5#32
  let v1259 : BitVec 32 := Scalar.addi v213 c5_i32
  let c512_i32_997 : BitVec 32 := 512#32
  let v1260 : BitVec 32 := Scalar.muli v1259 c512_i32_997
  v1260
def k0_mult15 (i : grid0.Coords) (k0_t2 : Fin (k0_t2_loop i).trips) : BitVec 32 :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let c6_i32 : BitVec 32 := 6#32
  let v1468 : BitVec 32 := Scalar.addi v213 c6_i32
  let c512_i32_1164 : BitVec 32 := 512#32
  let v1469 : BitVec 32 := Scalar.muli v1468 c512_i32_1164
  v1469
def k0_mult16 (i : grid0.Coords) (k0_t2 : Fin (k0_t2_loop i).trips) : BitVec 32 :=
  let c8_i32_157 : BitVec 32 := 8#32
  let c0_i32_101 : BitVec 32 := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_94 : BitVec 32 := 0#32
  let v88 : BitVec 1 := Scalar.cmpi .sgt v86 c0_i32_94
  let v89 : BitVec 32 := Scalar.extui v88
  let c0_i32_95 : BitVec 32 := 0#32
  let v90 : BitVec 1 := Scalar.cmpi .slt v86 c0_i32_95
  let v91 : BitVec 32 := Scalar.extui v90
  let v92 : BitVec 32 := Scalar.subi v89 v91
  let c8_i32 : BitVec 32 := 8#32
  let c0_i32_96 : BitVec 32 := 0#32
  let v93 : BitVec 1 := Scalar.cmpi .sgt c8_i32 c0_i32_96
  let v94 : BitVec 32 := Scalar.extui v93
  let c0_i32_97 : BitVec 32 := 0#32
  let v95 : BitVec 1 := Scalar.cmpi .slt c8_i32 c0_i32_97
  let v96 : BitVec 32 := Scalar.extui v95
  let v97 : BitVec 32 := Scalar.subi v94 v96
  let v98 : BitVec 1 := Scalar.cmpi .ne v92 v97
  let v99 : BitVec 32 := Scalar.remsi v86 c8_i32
  let c0_i32_98 : BitVec 32 := 0#32
  let v100 : BitVec 1 := Scalar.cmpi .ne v99 c0_i32_98
  let v101 : BitVec 1 := Scalar.andi v98 v100
  let v87 : BitVec 32 := Scalar.divsi v86 c8_i32
  let c1_i32_99 : BitVec 32 := 1#32
  let v102 : BitVec 32 := Scalar.subi v87 c1_i32_99
  let v103 : BitVec 32 := Scalar.select v101 v102 v87
  let v104 : BitVec 32 := Scalar.subi v103 c0_i32_101
  let c1_i32_102 : BitVec 32 := 1#32
  let v106 : BitVec 32 := Scalar.divsi v104 c1_i32_102
  let v107 : BitVec 32 := Scalar.muli v106 c1_i32_102
  let v108 : BitVec 32 := Scalar.addi c0_i32_101 v107
  let c1_i32_104 : BitVec 32 := 1#32
  let arg12 : BitVec 32 := Scf.iv v108 c1_i32_104 k0_t2
  let v213 : BitVec 32 := Scalar.muli c8_i32_157 arg12
  let c7_i32 : BitVec 32 := 7#32
  let v1677 : BitVec 32 := Scalar.addi v213 c7_i32
  let c512_i32_1331 : BitVec 32 := 512#32
  let v1678 : BitVec 32 := Scalar.muli v1677 c512_i32_1331
  v1678
def k0_cond1 (i : grid0.Coords) : BitVec 1 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let v129 : BitVec 32 := Scalar.extui v128
  let c0_i32_113 : BitVec 32 := 0#32
  let v130 : BitVec 1 := Scalar.cmpi .ne v129 c0_i32_113
  v130

def k0_mult17 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let c0_i32_157 : BitVec 32 := 0#32
  let v213 : BitVec 32 := Scalar.addi v126 c0_i32_157
  let c512_i32_158 : BitVec 32 := 512#32
  let v214 : BitVec 32 := Scalar.muli v213 c512_i32_158
  v214
def k0_off21 (i : grid0.Coords) (c0_i32_157 : BitVec 32) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v213 : BitVec 32 := Scalar.addi v126 c0_i32_157
  let c512_i32_158 : BitVec 32 := 512#32
  let v214 : BitVec 32 := Scalar.muli v213 c512_i32_158
  let v215 : BitVec 32 := v214
  let v229 : Index := Scalar.indexCast v215
  let c0_167 : Index := 0#32
  ![v229.toNat, 0]
def k0_off22 (i : grid0.Coords) (c0_i32_157 : BitVec 32) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v213 : BitVec 32 := Scalar.addi v126 c0_i32_157
  let c512_i32_158 : BitVec 32 := 512#32
  let v214 : BitVec 32 := Scalar.muli v213 c512_i32_158
  let v215 : BitVec 32 := v214
  let v259 : Index := Scalar.indexCast v215
  let c128_186 : Index := 128#32
  ![v259.toNat, 128]
def k0_off23 (i : grid0.Coords) (c0_i32_157 : BitVec 32) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v213 : BitVec 32 := Scalar.addi v126 c0_i32_157
  let c512_i32_158 : BitVec 32 := 512#32
  let v214 : BitVec 32 := Scalar.muli v213 c512_i32_158
  let v215 : BitVec 32 := v214
  let v289 : Index := Scalar.indexCast v215
  let c256_205 : Index := 256#32
  ![v289.toNat, 256]
def k0_off24 (i : grid0.Coords) (c0_i32_157 : BitVec 32) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v213 : BitVec 32 := Scalar.addi v126 c0_i32_157
  let c512_i32_158 : BitVec 32 := 512#32
  let v214 : BitVec 32 := Scalar.muli v213 c512_i32_158
  let v215 : BitVec 32 := v214
  let v319 : Index := Scalar.indexCast v215
  let c384_224 : Index := 384#32
  ![v319.toNat, 384]
def k0_off25 (i : grid0.Coords) (c0_i32_235 : BitVec 32) (c0_i32_238 : BitVec 32) : Fin 5 → Nat :=
  let c0_239 : Index := 0#32
  let c0_240 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v336 : BitVec 32 := Scalar.addi v126 c0_i32_235
  let c1_i32_236 : BitVec 32 := 1#32
  let v337 : BitVec 32 := Scalar.addi v336 c1_i32_236
  let c4_i32_237 : BitVec 32 := 4#32
  let v338 : BitVec 32 := Scalar.muli v337 c4_i32_237
  let v339 : BitVec 32 := Scalar.addi v338 c0_i32_238
  let v340 : Index := Scalar.indexCast v339
  let c0_241 : Index := 0#32
  let c0_242 : Index := 0#32
  ![0, 0, v340.toNat, 0, 0]
def k0_off26 (i : grid0.Coords) (c0_i32_235 : BitVec 32) (c0_i32_261 : BitVec 32) : Fin 5 → Nat :=
  let c0_262 : Index := 0#32
  let c1_263 : Index := 1#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v336 : BitVec 32 := Scalar.addi v126 c0_i32_235
  let c1_i32_236 : BitVec 32 := 1#32
  let v337 : BitVec 32 := Scalar.addi v336 c1_i32_236
  let c4_i32_260 : BitVec 32 := 4#32
  let v359 : BitVec 32 := Scalar.muli v337 c4_i32_260
  let v360 : BitVec 32 := Scalar.addi v359 c0_i32_261
  let v361 : Index := Scalar.indexCast v360
  let c0_264 : Index := 0#32
  let c0_265 : Index := 0#32
  ![0, 1, v361.toNat, 0, 0]
def k0_off27 (i : grid0.Coords) (c0_i32_235 : BitVec 32) : Fin 4 → Nat :=
  let c0_286 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v336 : BitVec 32 := Scalar.addi v126 c0_i32_235
  let c1_i32_236 : BitVec 32 := 1#32
  let v337 : BitVec 32 := Scalar.addi v336 c1_i32_236
  let v384 : Index := Scalar.indexCast v337
  let c0_287 : Index := 0#32
  let c0_288 : Index := 0#32
  ![0, v384.toNat, 0, 0]
def k0_off28 (i : grid0.Coords) (c0_i32_235 : BitVec 32) : Fin 4 → Nat :=
  let c0_296 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v336 : BitVec 32 := Scalar.addi v126 c0_i32_235
  let c1_i32_236 : BitVec 32 := 1#32
  let v337 : BitVec 32 := Scalar.addi v336 c1_i32_236
  let v394 : Index := Scalar.indexCast v337
  let c128_297 : Index := 128#32
  let c0_298 : Index := 0#32
  ![0, v394.toNat, 128, 0]
def k0_off29 (i : grid0.Coords) (c0_i32_235 : BitVec 32) : Fin 4 → Nat :=
  let c0_306 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v336 : BitVec 32 := Scalar.addi v126 c0_i32_235
  let c1_i32_236 : BitVec 32 := 1#32
  let v337 : BitVec 32 := Scalar.addi v336 c1_i32_236
  let v404 : Index := Scalar.indexCast v337
  let c256_307 : Index := 256#32
  let c0_308 : Index := 0#32
  ![0, v404.toNat, 256, 0]
def k0_off30 (i : grid0.Coords) (c0_i32_235 : BitVec 32) : Fin 4 → Nat :=
  let c0_316 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v336 : BitVec 32 := Scalar.addi v126 c0_i32_235
  let c1_i32_236 : BitVec 32 := 1#32
  let v337 : BitVec 32 := Scalar.addi v336 c1_i32_236
  let v414 : Index := Scalar.indexCast v337
  let c384_317 : Index := 384#32
  let c0_318 : Index := 0#32
  ![0, v414.toNat, 384, 0]
def k0_mult18 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let c1_i32_324 : BitVec 32 := 1#32
  let v422 : BitVec 32 := Scalar.addi v126 c1_i32_324
  let c512_i32_325 : BitVec 32 := 512#32
  let v423 : BitVec 32 := Scalar.muli v422 c512_i32_325
  v423
def k0_mult19 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let c2_i32_492 : BitVec 32 := 2#32
  let v631 : BitVec 32 := Scalar.addi v126 c2_i32_492
  let c512_i32_493 : BitVec 32 := 512#32
  let v632 : BitVec 32 := Scalar.muli v631 c512_i32_493
  v632
def k0_mult20 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let c3_i32_660 : BitVec 32 := 3#32
  let v840 : BitVec 32 := Scalar.addi v126 c3_i32_660
  let c512_i32_661 : BitVec 32 := 512#32
  let v841 : BitVec 32 := Scalar.muli v840 c512_i32_661
  v841
def k0_cond2 (i : grid0.Coords) : BitVec 1 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let v135 : BitVec 32 := Scalar.extui v134
  let c0_i32_116 : BitVec 32 := 0#32
  let v136 : BitVec 1 := Scalar.cmpi .ne v135 c0_i32_116
  v136

def k0_mult21 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let c0_i32_157 : BitVec 32 := 0#32
  let v213 : BitVec 32 := Scalar.addi v132 c0_i32_157
  let c512_i32_158 : BitVec 32 := 512#32
  let v214 : BitVec 32 := Scalar.muli v213 c512_i32_158
  v214
def k0_off31 (i : grid0.Coords) (c0_i32_157 : BitVec 32) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v213 : BitVec 32 := Scalar.addi v132 c0_i32_157
  let c512_i32_158 : BitVec 32 := 512#32
  let v214 : BitVec 32 := Scalar.muli v213 c512_i32_158
  let v215 : BitVec 32 := v214
  let v229 : Index := Scalar.indexCast v215
  let c0_167 : Index := 0#32
  ![v229.toNat, 0]
def k0_off32 (i : grid0.Coords) (c0_i32_157 : BitVec 32) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v213 : BitVec 32 := Scalar.addi v132 c0_i32_157
  let c512_i32_158 : BitVec 32 := 512#32
  let v214 : BitVec 32 := Scalar.muli v213 c512_i32_158
  let v215 : BitVec 32 := v214
  let v259 : Index := Scalar.indexCast v215
  let c128_186 : Index := 128#32
  ![v259.toNat, 128]
def k0_off33 (i : grid0.Coords) (c0_i32_157 : BitVec 32) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v213 : BitVec 32 := Scalar.addi v132 c0_i32_157
  let c512_i32_158 : BitVec 32 := 512#32
  let v214 : BitVec 32 := Scalar.muli v213 c512_i32_158
  let v215 : BitVec 32 := v214
  let v289 : Index := Scalar.indexCast v215
  let c256_205 : Index := 256#32
  ![v289.toNat, 256]
def k0_off34 (i : grid0.Coords) (c0_i32_157 : BitVec 32) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v213 : BitVec 32 := Scalar.addi v132 c0_i32_157
  let c512_i32_158 : BitVec 32 := 512#32
  let v214 : BitVec 32 := Scalar.muli v213 c512_i32_158
  let v215 : BitVec 32 := v214
  let v319 : Index := Scalar.indexCast v215
  let c384_224 : Index := 384#32
  ![v319.toNat, 384]
def k0_off35 (i : grid0.Coords) (c0_i32_235 : BitVec 32) (c0_i32_238 : BitVec 32) : Fin 5 → Nat :=
  let c0_239 : Index := 0#32
  let c0_240 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v336 : BitVec 32 := Scalar.addi v132 c0_i32_235
  let c1_i32_236 : BitVec 32 := 1#32
  let v337 : BitVec 32 := Scalar.addi v336 c1_i32_236
  let c4_i32_237 : BitVec 32 := 4#32
  let v338 : BitVec 32 := Scalar.muli v337 c4_i32_237
  let v339 : BitVec 32 := Scalar.addi v338 c0_i32_238
  let v340 : Index := Scalar.indexCast v339
  let c0_241 : Index := 0#32
  let c0_242 : Index := 0#32
  ![0, 0, v340.toNat, 0, 0]
def k0_off36 (i : grid0.Coords) (c0_i32_235 : BitVec 32) (c0_i32_261 : BitVec 32) : Fin 5 → Nat :=
  let c0_262 : Index := 0#32
  let c1_263 : Index := 1#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v336 : BitVec 32 := Scalar.addi v132 c0_i32_235
  let c1_i32_236 : BitVec 32 := 1#32
  let v337 : BitVec 32 := Scalar.addi v336 c1_i32_236
  let c4_i32_260 : BitVec 32 := 4#32
  let v359 : BitVec 32 := Scalar.muli v337 c4_i32_260
  let v360 : BitVec 32 := Scalar.addi v359 c0_i32_261
  let v361 : Index := Scalar.indexCast v360
  let c0_264 : Index := 0#32
  let c0_265 : Index := 0#32
  ![0, 1, v361.toNat, 0, 0]
def k0_off37 (i : grid0.Coords) (c0_i32_235 : BitVec 32) : Fin 4 → Nat :=
  let c0_286 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v336 : BitVec 32 := Scalar.addi v132 c0_i32_235
  let c1_i32_236 : BitVec 32 := 1#32
  let v337 : BitVec 32 := Scalar.addi v336 c1_i32_236
  let v384 : Index := Scalar.indexCast v337
  let c0_287 : Index := 0#32
  let c0_288 : Index := 0#32
  ![0, v384.toNat, 0, 0]
def k0_off38 (i : grid0.Coords) (c0_i32_235 : BitVec 32) : Fin 4 → Nat :=
  let c0_296 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v336 : BitVec 32 := Scalar.addi v132 c0_i32_235
  let c1_i32_236 : BitVec 32 := 1#32
  let v337 : BitVec 32 := Scalar.addi v336 c1_i32_236
  let v394 : Index := Scalar.indexCast v337
  let c128_297 : Index := 128#32
  let c0_298 : Index := 0#32
  ![0, v394.toNat, 128, 0]
def k0_off39 (i : grid0.Coords) (c0_i32_235 : BitVec 32) : Fin 4 → Nat :=
  let c0_306 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v336 : BitVec 32 := Scalar.addi v132 c0_i32_235
  let c1_i32_236 : BitVec 32 := 1#32
  let v337 : BitVec 32 := Scalar.addi v336 c1_i32_236
  let v404 : Index := Scalar.indexCast v337
  let c256_307 : Index := 256#32
  let c0_308 : Index := 0#32
  ![0, v404.toNat, 256, 0]
def k0_off40 (i : grid0.Coords) (c0_i32_235 : BitVec 32) : Fin 4 → Nat :=
  let c0_316 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v336 : BitVec 32 := Scalar.addi v132 c0_i32_235
  let c1_i32_236 : BitVec 32 := 1#32
  let v337 : BitVec 32 := Scalar.addi v336 c1_i32_236
  let v414 : Index := Scalar.indexCast v337
  let c384_317 : Index := 384#32
  let c0_318 : Index := 0#32
  ![0, v414.toNat, 384, 0]
def k0_mult22 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let c1_i32_324 : BitVec 32 := 1#32
  let v422 : BitVec 32 := Scalar.addi v132 c1_i32_324
  let c512_i32_325 : BitVec 32 := 512#32
  let v423 : BitVec 32 := Scalar.muli v422 c512_i32_325
  v423
def k0_cond3 (i : grid0.Coords) : BitVec 1 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let v139 : BitVec 1 := Scalar.cmpi .eq v138 v86
  let v140 : BitVec 32 := Scalar.extui v139
  let c0_i32_119 : BitVec 32 := 0#32
  let v141 : BitVec 1 := Scalar.cmpi .ne v140 c0_i32_119
  v141

def k0_mult23 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  v213
def k0_off41 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  let v214 : BitVec 32 := v213
  let v228 : Index := Scalar.indexCast v214
  let c0_166 : Index := 0#32
  ![v228.toNat, 0]
def k0_off42 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  let v214 : BitVec 32 := v213
  let v258 : Index := Scalar.indexCast v214
  let c128_185 : Index := 128#32
  ![v258.toNat, 128]
def k0_off43 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  let v214 : BitVec 32 := v213
  let v288 : Index := Scalar.indexCast v214
  let c256_204 : Index := 256#32
  ![v288.toNat, 256]
def k0_off44 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  let v214 : BitVec 32 := v213
  let v318 : Index := Scalar.indexCast v214
  let c384_223 : Index := 384#32
  ![v318.toNat, 384]
def k0_cond4 (i : grid0.Coords) : BitVec 1 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let v142 : BitVec 1 := Scalar.cmpi .slt v138 v86
  let v143 : BitVec 32 := Scalar.extui v142
  let c0_i32_120 : BitVec 32 := 0#32
  let v144 : BitVec 1 := Scalar.cmpi .ne v143 c0_i32_120
  v144

def k0_mult24 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  v213
def k0_off45 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  let v214 : BitVec 32 := v213
  let v228 : Index := Scalar.indexCast v214
  let c0_166 : Index := 0#32
  ![v228.toNat, 0]
def k0_off46 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  let v214 : BitVec 32 := v213
  let v258 : Index := Scalar.indexCast v214
  let c128_185 : Index := 128#32
  ![v258.toNat, 128]
def k0_off47 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  let v214 : BitVec 32 := v213
  let v288 : Index := Scalar.indexCast v214
  let c256_204 : Index := 256#32
  ![v288.toNat, 256]
def k0_off48 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c512_i32_157 : BitVec 32 := 512#32
  let v213 : BitVec 32 := Scalar.muli v138 c512_i32_157
  let v214 : BitVec 32 := v213
  let v318 : Index := Scalar.indexCast v214
  let c384_223 : Index := 384#32
  ![v318.toNat, 384]
def k0_off49 (i : grid0.Coords) (c0_i32_236 : BitVec 32) : Fin 5 → Nat :=
  let c0_237 : Index := 0#32
  let c0_238 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_234 : BitVec 32 := 1#32
  let v335 : BitVec 32 := Scalar.addi v138 c1_i32_234
  let c4_i32_235 : BitVec 32 := 4#32
  let v336 : BitVec 32 := Scalar.muli v335 c4_i32_235
  let v337 : BitVec 32 := Scalar.addi v336 c0_i32_236
  let v338 : Index := Scalar.indexCast v337
  let c0_239 : Index := 0#32
  let c0_240 : Index := 0#32
  ![0, 0, v338.toNat, 0, 0]
def k0_off50 (i : grid0.Coords) (c0_i32_259 : BitVec 32) : Fin 5 → Nat :=
  let c0_260 : Index := 0#32
  let c1_261 : Index := 1#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_234 : BitVec 32 := 1#32
  let v335 : BitVec 32 := Scalar.addi v138 c1_i32_234
  let c4_i32_258 : BitVec 32 := 4#32
  let v357 : BitVec 32 := Scalar.muli v335 c4_i32_258
  let v358 : BitVec 32 := Scalar.addi v357 c0_i32_259
  let v359 : Index := Scalar.indexCast v358
  let c0_262 : Index := 0#32
  let c0_263 : Index := 0#32
  ![0, 1, v359.toNat, 0, 0]
def k0_off51 (i : grid0.Coords) : Fin 4 → Nat :=
  let c0_284 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_234 : BitVec 32 := 1#32
  let v335 : BitVec 32 := Scalar.addi v138 c1_i32_234
  let v382 : Index := Scalar.indexCast v335
  let c0_285 : Index := 0#32
  let c0_286 : Index := 0#32
  ![0, v382.toNat, 0, 0]
def k0_off52 (i : grid0.Coords) : Fin 4 → Nat :=
  let c0_294 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_234 : BitVec 32 := 1#32
  let v335 : BitVec 32 := Scalar.addi v138 c1_i32_234
  let v392 : Index := Scalar.indexCast v335
  let c128_295 : Index := 128#32
  let c0_296 : Index := 0#32
  ![0, v392.toNat, 128, 0]
def k0_off53 (i : grid0.Coords) : Fin 4 → Nat :=
  let c0_304 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_234 : BitVec 32 := 1#32
  let v335 : BitVec 32 := Scalar.addi v138 c1_i32_234
  let v402 : Index := Scalar.indexCast v335
  let c256_305 : Index := 256#32
  let c0_306 : Index := 0#32
  ![0, v402.toNat, 256, 0]
def k0_off54 (i : grid0.Coords) : Fin 4 → Nat :=
  let c0_314 : Index := 0#32
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_234 : BitVec 32 := 1#32
  let v335 : BitVec 32 := Scalar.addi v138 c1_i32_234
  let v412 : Index := Scalar.indexCast v335
  let c384_315 : Index := 384#32
  let c0_316 : Index := 0#32
  ![0, v412.toNat, 384, 0]
def k0_mult25 (i : grid0.Coords) : BitVec 32 :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_322 : BitVec 32 := 1#32
  let v420 : BitVec 32 := Scalar.addi v138 c1_i32_322
  let c512_i32_323 : BitVec 32 := 512#32
  let v421 : BitVec 32 := Scalar.muli v420 c512_i32_323
  v421
def k0_off55 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_322 : BitVec 32 := 1#32
  let v420 : BitVec 32 := Scalar.addi v138 c1_i32_322
  let c512_i32_323 : BitVec 32 := 512#32
  let v421 : BitVec 32 := Scalar.muli v420 c512_i32_323
  let v422 : BitVec 32 := v421
  let v436 : Index := Scalar.indexCast v422
  let c0_332 : Index := 0#32
  ![v436.toNat, 0]
def k0_off56 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_322 : BitVec 32 := 1#32
  let v420 : BitVec 32 := Scalar.addi v138 c1_i32_322
  let c512_i32_323 : BitVec 32 := 512#32
  let v421 : BitVec 32 := Scalar.muli v420 c512_i32_323
  let v422 : BitVec 32 := v421
  let v466 : Index := Scalar.indexCast v422
  let c128_351 : Index := 128#32
  ![v466.toNat, 128]
def k0_off57 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_322 : BitVec 32 := 1#32
  let v420 : BitVec 32 := Scalar.addi v138 c1_i32_322
  let c512_i32_323 : BitVec 32 := 512#32
  let v421 : BitVec 32 := Scalar.muli v420 c512_i32_323
  let v422 : BitVec 32 := v421
  let v496 : Index := Scalar.indexCast v422
  let c256_370 : Index := 256#32
  ![v496.toNat, 256]
def k0_off58 (i : grid0.Coords) : Fin 2 → Nat :=
  let arg2 : BitVec 32 := BitVec.ofNat 32 (i 2).val
  let c512_i32 : BitVec 32 := 512#32
  let v0 : BitVec 32 := Scalar.muli arg2 c512_i32
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_93 : BitVec 32 := 1#32
  let v86 : BitVec 32 := Scalar.subi v20 c1_i32_93
  let c0_i32_106 : BitVec 32 := 0#32
  let v110 : BitVec 1 := Scalar.cmpi .sgt v86 c0_i32_106
  let v111 : BitVec 32 := Scalar.extui v110
  let c0_i32_107 : BitVec 32 := 0#32
  let v112 : BitVec 1 := Scalar.cmpi .slt v86 c0_i32_107
  let v113 : BitVec 32 := Scalar.extui v112
  let v114 : BitVec 32 := Scalar.subi v111 v113
  let c8_i32_105 : BitVec 32 := 8#32
  let c0_i32_108 : BitVec 32 := 0#32
  let v115 : BitVec 1 := Scalar.cmpi .sgt c8_i32_105 c0_i32_108
  let v116 : BitVec 32 := Scalar.extui v115
  let c0_i32_109 : BitVec 32 := 0#32
  let v117 : BitVec 1 := Scalar.cmpi .slt c8_i32_105 c0_i32_109
  let v118 : BitVec 32 := Scalar.extui v117
  let v119 : BitVec 32 := Scalar.subi v116 v118
  let v120 : BitVec 1 := Scalar.cmpi .ne v114 v119
  let v121 : BitVec 32 := Scalar.remsi v86 c8_i32_105
  let c0_i32_110 : BitVec 32 := 0#32
  let v122 : BitVec 1 := Scalar.cmpi .ne v121 c0_i32_110
  let v123 : BitVec 1 := Scalar.andi v120 v122
  let v109 : BitVec 32 := Scalar.divsi v86 c8_i32_105
  let c1_i32_111 : BitVec 32 := 1#32
  let v124 : BitVec 32 := Scalar.subi v109 c1_i32_111
  let v125 : BitVec 32 := Scalar.select v123 v124 v109
  let c8_i32_112 : BitVec 32 := 8#32
  let v126 : BitVec 32 := Scalar.muli v125 c8_i32_112
  let v127 : BitVec 32 := Scalar.subi v86 v126
  let c4_i32 : BitVec 32 := 4#32
  let v128 : BitVec 1 := Scalar.cmpi .sge v127 c4_i32
  let c4_i32_114 : BitVec 32 := 4#32
  let c0_i32_115 : BitVec 32 := 0#32
  let v131 : BitVec 32 := Scalar.select v128 c4_i32_114 c0_i32_115
  let v132 : BitVec 32 := Scalar.addi v126 v131
  let v133 : BitVec 32 := Scalar.subi v86 v132
  let c2_i32 : BitVec 32 := 2#32
  let v134 : BitVec 1 := Scalar.cmpi .sge v133 c2_i32
  let c2_i32_117 : BitVec 32 := 2#32
  let c0_i32_118 : BitVec 32 := 0#32
  let v137 : BitVec 32 := Scalar.select v134 c2_i32_117 c0_i32_118
  let v138 : BitVec 32 := Scalar.addi v132 v137
  let c1_i32_322 : BitVec 32 := 1#32
  let v420 : BitVec 32 := Scalar.addi v138 c1_i32_322
  let c512_i32_323 : BitVec 32 := 512#32
  let v421 : BitVec 32 := Scalar.muli v420 c512_i32_323
  let v422 : BitVec 32 := v421
  let v526 : Index := Scalar.indexCast v422
  let c384_389 : Index := 384#32
  ![v526.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg2.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x2x64x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x16x128 : Shape := ⟨4, ![2, 8192, 16, 128]⟩
abbrev S2x8192x2048 : Shape := ⟨3, ![2, 8192, 2048]⟩
abbrev S2x8192x8192 : Shape := ⟨3, ![2, 8192, 8192]⟩
abbrev S2x16x8192x8192 : Shape := ⟨4, ![2, 16, 8192, 8192]⟩
abbrev S2x8192x16x8192 : Shape := ⟨4, ![2, 8192, 16, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S2x8192x1x8192 : Shape := ⟨4, ![2, 8192, 1, 8192]⟩
abbrev S2x8192x16 : Shape := ⟨3, ![2, 8192, 16]⟩
abbrev S2x8192x16x1 : Shape := ⟨4, ![2, 8192, 16, 1]⟩
abbrev S2x16x128x8192 : Shape := ⟨4, ![2, 16, 128, 8192]⟩
abbrev S16384x2048 : Shape := ⟨2, ![16384, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x16x128, .f32⟩
  | .hbm, ⟨2, _⟩ => ⟨S2x8192x16x128, .f32⟩
  | .hbm, ⟨3, _⟩ => ⟨S2x8192x2048, .f32⟩
  | .hbm, ⟨4, _⟩ => ⟨S2x8192x8192, .i32⟩
  | .hbm, ⟨5, _⟩ => ⟨S2x16x8192x8192, .f32⟩
  | .hbm, ⟨6, _⟩ => ⟨S2x8192x16x8192, .f32⟩
  | .hbm, ⟨7, _⟩ => ⟨S_, .f32⟩
  | .hbm, ⟨8, _⟩ => ⟨S_, .f32⟩
  | .hbm, ⟨9, _⟩ => ⟨S2x8192x16x8192, .f32⟩
  | .hbm, ⟨10, _⟩ => ⟨S2x8192x16x8192, .f32⟩
  | .hbm, ⟨11, _⟩ => ⟨S8192, .i32⟩
  | .hbm, ⟨12, _⟩ => ⟨S_, .i32⟩
  | .hbm, ⟨13, _⟩ => ⟨S2x8192x8192, .i32⟩
  | .hbm, ⟨14, _⟩ => ⟨S2x8192x8192, .i1⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8192x8192, .i1⟩
  | .hbm, ⟨21, _⟩ => ⟨S2x8192x8192, .i1⟩
  | .hbm, ⟨22, _⟩ => ⟨S2x8192x8192, .i1⟩
  | .hbm, ⟨23, _⟩ => ⟨S2x8192x1x8192, .i1⟩
  | .hbm, ⟨24, _⟩ => ⟨S_, .f32⟩
  | .hbm, ⟨25, _⟩ => ⟨S_, .f32⟩
  | .hbm, ⟨26, _⟩ => ⟨S2x8192x16x8192, .i1⟩
  | .hbm, ⟨27, _⟩ => ⟨S2x8192x16x8192, .f32⟩
  | .hbm, ⟨28, _⟩ => ⟨S2x8192x16x8192, .f32⟩
  | .hbm, ⟨29, _⟩ => ⟨S_, .f32⟩
  | .hbm, ⟨30, _⟩ => ⟨S2x8192x16, .f32⟩
  | .hbm, ⟨31, _⟩ => ⟨S2x8192x16x1, .f32⟩
  | .hbm, ⟨32, _⟩ => ⟨S2x8192x16x8192, .f32⟩
  | .hbm, ⟨33, _⟩ => ⟨S2x8192x16x8192, .f32⟩
  | .hbm, ⟨34, _⟩ => ⟨S2x8192x16x8192, .f32⟩
  | .hbm, ⟨35, _⟩ => ⟨S2x16x128x8192, .f32⟩
  | .hbm, ⟨36, _⟩ => ⟨S2x8192x16x128, .f32⟩
  | .hbm, ⟨37, _⟩ => ⟨S_, .f32⟩
  | .hbm, ⟨38, _⟩ => ⟨S2x8192x16, .f32⟩
  | .hbm, ⟨39, _⟩ => ⟨S2x8192x16x1, .f32⟩
  | .hbm, ⟨40, _⟩ => ⟨S2x8192x16x128, .f32⟩
  | .hbm, ⟨41, _⟩ => ⟨S2x8192x16x128, .f32⟩
  | .hbm, ⟨42, _⟩ => ⟨S2x8192x2048, .f32⟩
  | .hbm, ⟨43, _⟩ => ⟨S2x8192x2048, .f32⟩
  | .hbm, ⟨44, _⟩ => ⟨S2x8192x2048, .f32⟩
  | .hbm, ⟨45, _⟩ => ⟨S_, .f32⟩
  | .hbm, ⟨46, _⟩ => ⟨S2x8192x2048, .f32⟩
  | .hbm, ⟨47, _⟩ => ⟨S2x8192x2048, .f32⟩
  | .hbm, ⟨48, _⟩ => ⟨S_, .f32⟩
  | .hbm, ⟨49, _⟩ => ⟨S2x8192x2048, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S16384x2048, .f32⟩
  | .hbm, ⟨54, _⟩ => ⟨S16384x2048, .bf16⟩
  | _, _ => ⟨S2x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel2.lean ====
abbrev S16384x4096 : Shape := ⟨2, ![16384, 4096]⟩
abbrev S2x4096x15008 : Shape := ⟨3, ![2, 4096, 15008]⟩
abbrev S_ : Shape := ⟨0, ![]⟩
abbrev S1x4096 : Shape := ⟨2, ![1, 4096]⟩
abbrev S1x2048 : Shape := ⟨2, ![1, 2048]⟩
abbrev S1x8192 : Shape := ⟨2, ![1, 8192]⟩
abbrev S1x14336 : Shape := ⟨2, ![1, 14336]⟩
abbrev S2x15008x4096 : Shape := ⟨3, ![2, 15008, 4096]⟩
abbrev S2x4096x4096 : Shape := ⟨3, ![2, 4096, 4096]⟩
abbrev S2x2048x4096 : Shape := ⟨3, ![2, 2048, 4096]⟩
abbrev S2x6144x4096 : Shape := ⟨3, ![2, 6144, 4096]⟩
abbrev S2x14336x4096 : Shape := ⟨3, ![2, 14336, 4096]⟩
abbrev S16384x14336 : Shape := ⟨2, ![16384, 14336]⟩
abbrev S1024x4096 : Shape := ⟨2, ![1024, 4096]⟩
abbrev S1x1024x4096 : Shape := ⟨3, ![1, 1024, 4096]⟩
abbrev S1x1024 : Shape := ⟨2, ![1, 1024]⟩
abbrev S1024x1024 : Shape := ⟨2, ![1024, 1024]⟩

abbrev nBuf : Space → Nat
  | .hbm => 21
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x15008, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4096, .f32⟩
  | .hbm, ⟨9, _⟩ => ⟨S1x2048, .f32⟩
  | .hbm, ⟨10, _⟩ => ⟨S_, .f32⟩
  | .hbm, ⟨11, _⟩ => ⟨S1x8192, .f32⟩
  | .hbm, ⟨12, _⟩ => ⟨S1x14336, .f32⟩
  | .hbm, ⟨13, _⟩ => ⟨S2x15008x4096, .f32⟩
  | .hbm, ⟨14, _⟩ => ⟨S2x4096x4096, .f32⟩
  | .hbm, ⟨15, _⟩ => ⟨S2x2048x4096, .f32⟩
  | .hbm, ⟨16, _⟩ => ⟨S2x2048x4096, .f32⟩
  | .hbm, ⟨17, _⟩ => ⟨S2x6144x4096, .f32⟩
  | .hbm, ⟨18, _⟩ => ⟨S2x14336x4096, .f32⟩
  | .hbm, ⟨19, _⟩ => ⟨S2x14336x4096, .bf16⟩
  | .hbm, ⟨20, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S2x4096x15008 : Shape := ⟨3, ![2, 4096, 15008]⟩
abbrev S1x4096x15008 : Shape := ⟨3, ![1, 4096, 15008]⟩
abbrev S4096x15008 : Shape := ⟨2, ![4096, 15008]⟩
abbrev S16384x15008 : Shape := ⟨2, ![16384, 15008]⟩
abbrev S16384x2048 : Shape := ⟨2, ![16384, 2048]⟩
abbrev S16384x512 : Shape := ⟨2, ![16384, 512]⟩
abbrev S16384x160 : Shape := ⟨2, ![16384, 160]⟩
abbrev S16384x6144 : Shape := ⟨2, ![16384, 6144]⟩
abbrev S_ : Shape := ⟨0, ![]⟩
abbrev S16384x14336 : Shape := ⟨2, ![16384, 14336]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x15008, .f32⟩
  | .hbm, ⟨2, _⟩ => ⟨S16384x4096, .f32⟩
  | .hbm, ⟨3, _⟩ => ⟨S1x4096x15008, .f32⟩
  | .hbm, ⟨4, _⟩ => ⟨S4096x15008, .f32⟩
  | .hbm, ⟨5, _⟩ => ⟨S16384x15008, .f32⟩
  | .hbm, ⟨6, _⟩ => ⟨S16384x2048, .f32⟩
  | .hbm, ⟨7, _⟩ => ⟨S16384x512, .f32⟩
  | .hbm, ⟨8, _⟩ => ⟨S16384x2048, .f32⟩
  | .hbm, ⟨9, _⟩ => ⟨S16384x4096, .f32⟩
  | .hbm, ⟨10, _⟩ => ⟨S16384x160, .f32⟩
  | .hbm, ⟨11, _⟩ => ⟨S16384x6144, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x14336, .f32⟩
  | .hbm, ⟨20, _⟩ => ⟨S16384x14336, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel3.lean ====
abbrev S16384x2048 : Shape := ⟨2, ![16384, 2048]⟩
abbrev S2x4096x4096 : Shape := ⟨3, ![2, 4096, 4096]⟩
abbrev S16384x4096 : Shape := ⟨2, ![16384, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .f32⟩
  | .hbm, ⟨3, _⟩ => ⟨S16384x4096, .f32⟩
  | .hbm, ⟨4, _⟩ => ⟨S2x4096x4096, .bf16⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x2048 : Shape := ⟨2, ![16384, 2048]⟩
abbrev S2x4096x4096 : Shape := ⟨3, ![2, 4096, 4096]⟩
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .f32⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S1x4096x4096, .f32⟩
  | .hbm, ⟨7, _⟩ => ⟨S4096x4096, .f32⟩
  | .hbm, ⟨8, _⟩ => ⟨S16384x4096, .f32⟩
  | .hbm, ⟨9, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S16384x4096 : Shape := ⟨2, ![16384, 4096]⟩
abbrev S2x4096x15008 : Shape := ⟨3, ![2, 4096, 15008]⟩
abbrev S512 : Shape := ⟨1, ![512]⟩
abbrev S128 : Shape := ⟨1, ![128]⟩
abbrev S2x512x16x128 : Shape := ⟨4, ![2, 512, 16, 128]⟩
abbrev S2x15008x4096 : Shape := ⟨3, ![2, 15008, 4096]⟩
abbrev S2x4096x4096 : Shape := ⟨3, ![2, 4096, 4096]⟩
abbrev S2x2048x4096 : Shape := ⟨3, ![2, 2048, 4096]⟩
abbrev S2x6144x4096 : Shape := ⟨3, ![2, 6144, 4096]⟩
abbrev S2x512x4096 : Shape := ⟨3, ![2, 512, 4096]⟩
abbrev S2x160x4096 : Shape := ⟨3, ![2, 160, 4096]⟩
abbrev S_ : Shape := ⟨0, ![]⟩
abbrev S2x96x4096 : Shape := ⟨3, ![2, 96, 4096]⟩
abbrev S2x15104x4096 : Shape := ⟨3, ![2, 15104, 4096]⟩
abbrev S2x512x2048 : Shape := ⟨3, ![2, 512, 2048]⟩
abbrev S2x2048x512 : Shape := ⟨3, ![2, 2048, 512]⟩
abbrev S1x512 : Shape := ⟨2, ![1, 512]⟩
abbrev S1x128 : Shape := ⟨2, ![1, 128]⟩
abbrev S2x16x2048x512 : Shape := ⟨4, ![2, 16, 2048, 512]⟩
abbrev S16384x2048 : Shape := ⟨2, ![16384, 2048]⟩
abbrev S2x32x128x256 : Shape := ⟨4, ![2, 32, 128, 256]⟩
abbrev S16384x128 : Shape := ⟨2, ![16384, 128]⟩
abbrev S512x4096 : Shape := ⟨2, ![512, 4096]⟩
abbrev S1x768x4096 : Shape := ⟨3, ![1, 768, 4096]⟩
abbrev S1x2048x512 : Shape := ⟨3, ![1, 2048, 512]⟩
abbrev S1x512x2048 : Shape := ⟨3, ![1, 512, 2048]⟩
abbrev S1x1x2048x512 : Shape := ⟨4, ![1, 1, 2048, 512]⟩
abbrev S512x2048 : Shape := ⟨2, ![512, 2048]⟩
abbrev S1x2x128x256 : Shape := ⟨4, ![1, 2, 128, 256]⟩
abbrev S512x128 : Shape := ⟨2, ![512, 128]⟩
abbrev S768x4096 : Shape := ⟨2, ![768, 4096]⟩
abbrev S512x768 : Shape := ⟨2, ![512, 768]⟩
abbrev S512x512 : Shape := ⟨2, ![512, 512]⟩
abbrev S512x1 : Shape := ⟨2, ![512, 1]⟩
abbrev S2048x512 : Shape := ⟨2, ![2048, 512]⟩
abbrev S128x512 : Shape := ⟨2, ![128, 512]⟩
abbrev S128x256 : Shape := ⟨2, ![128, 256]⟩
abbrev S1x1x128x256 : Shape := ⟨4, ![1, 1, 128, 256]⟩

abbrev nBuf : Space → Nat
  | .hbm => 30
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S2x4096x15008, .f32⟩
  | .hbm, ⟨2, _⟩ => ⟨S512, .f32⟩
  | .hbm, ⟨3, _⟩ => ⟨S128, .f32⟩
  | .hbm, ⟨4, _⟩ => ⟨S128, .f32⟩
  | .hbm, ⟨5, _⟩ => ⟨S2x512x16x128, .f32⟩
  | .hbm, ⟨6, _⟩ => ⟨S2x512x16x128, .f32⟩
  | .hbm, ⟨7, _⟩ => ⟨S2x15008x4096, .f32⟩
  | .hbm, ⟨8, _⟩ => ⟨S2x4096x4096, .f32⟩
  | .hbm, ⟨9, _⟩ => ⟨S2x2048x4096, .f32⟩
  | .hbm, ⟨10, _⟩ => ⟨S2x2048x4096, .f32⟩
  | .hbm, ⟨11, _⟩ => ⟨S2x6144x4096, .f32⟩
  | .hbm, ⟨12, _⟩ => ⟨S2x512x4096, .f32⟩
  | .hbm, ⟨13, _⟩ => ⟨S2x160x4096, .f32⟩
  | .hbm, ⟨14, _⟩ => ⟨S_, .f32⟩
  | .hbm, ⟨15, _⟩ => ⟨S2x96x4096, .f32⟩
  | .hbm, ⟨16, _⟩ => ⟨S2x15104x4096, .f32⟩
  | .hbm, ⟨17, _⟩ => ⟨S2x15104x4096, .bf16⟩
  | .hbm, ⟨18, _⟩ => ⟨S2x512x2048, .f32⟩
  | .hbm, ⟨19, _⟩ => ⟨S2x2048x512, .f32⟩
  | .hbm, ⟨20, _⟩ => ⟨S2x2048x512, .bf16⟩
  | .hbm, ⟨21, _⟩ => ⟨S2x512x2048, .f32⟩
  | .hbm, ⟨22, _⟩ => ⟨S2x512x2048, .bf16⟩
  | .hbm, ⟨23, _⟩ => ⟨S1x512, .f32⟩
  | .hbm, ⟨24, _⟩ => ⟨S1x128, .f32⟩
  | .hbm, ⟨25, _⟩ => ⟨S1x128, .f32⟩
  | .hbm, ⟨26, _⟩ => ⟨S2x16x2048x512, .bf16⟩
  | .hbm, ⟨27, _⟩ => ⟨S16384x2048, .bf16⟩
  | .hbm, ⟨28, _⟩ => ⟨S2x32x128x256, .bf16⟩
  | .hbm, ⟨29, _⟩ => ⟨S16384x128, .f32⟩
  | .local _ .vmem, ⟨0, _⟩ => ⟨S512x4096, .bf16⟩
  | .local _ .vmem, ⟨1, _⟩ => ⟨S512x4096, .bf16⟩
  | .local _ .vmem, ⟨2, _⟩ => ⟨S1x768x4096, .bf16⟩
  | .local _ .vmem, ⟨3, _⟩ => ⟨S1x512, .f32⟩
  | .local _ .vmem, ⟨4, _⟩ => ⟨S1x128, .f32⟩
  | .local _ .vmem, ⟨5, _⟩ => ⟨S1x128, .f32⟩
  | .local _ .vmem, ⟨6, _⟩ => ⟨S1x2048x512, .bf16⟩
  | .local _ .vmem, ⟨7, _⟩ => ⟨S1x512x2048, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S512x2048, .bf16⟩
  | .local _ .vmem, ⟨11, _⟩ => ⟨S512x2048, .bf16⟩
  | .local _ .vmem, ⟨12, _⟩ => ⟨S1x2x128x256, .bf16⟩
  | .local _ .vmem, ⟨13, _⟩ => ⟨S1x2x128x256, .bf16⟩
  | .local _ .vmem, ⟨14, _⟩ => ⟨S512x128, .f32⟩
  | .local _ .vmem, ⟨15, _⟩ => ⟨S512x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c14336_i32 : BitVec 32 := 14336#32
  let c0_i32_0 : BitVec 32 := 0#32
  let c0_i32_1 : BitVec 32 := 0#32
  ![c0_i32.toNat, c14336_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S16384x4096 : Shape := ⟨2, ![16384, 4096]⟩
abbrev S2x4096x15008 : Shape := ⟨3, ![2, 4096, 15008]⟩
abbrev S512 : Shape := ⟨1, ![512]⟩
abbrev S128 : Shape := ⟨1, ![128]⟩
abbrev S2x512x16x128 : Shape := ⟨4, ![2, 512, 16, 128]⟩
abbrev S1x4096x15008 : Shape := ⟨3, ![1, 4096, 15008]⟩
abbrev S4096x15008 : Shape := ⟨2, ![4096, 15008]⟩
abbrev S16384x15008 : Shape := ⟨2, ![16384, 15008]⟩
abbrev S16384x2048 : Shape := ⟨2, ![16384, 2048]⟩
abbrev S16384x512 : Shape := ⟨2, ![16384, 512]⟩
abbrev S16384x128 : Shape := ⟨2, ![16384, 128]⟩
abbrev S16384x32 : Shape := ⟨2, ![16384, 32]⟩
abbrev S16384x6144 : Shape := ⟨2, ![16384, 6144]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x128 : Shape := ⟨2, ![1, 128]⟩
abbrev S1x512x16x128 : Shape := ⟨4, ![1, 512, 16, 128]⟩
abbrev S512x16x128 : Shape := ⟨3, ![512, 16, 128]⟩
abbrev S512x2048 : Shape := ⟨2, ![512, 2048]⟩
abbrev S2x16x512x2048 : Shape := ⟨4, ![2, 16, 512, 2048]⟩
abbrev S2x16x2048x512 : Shape := ⟨4, ![2, 16, 2048, 512]⟩
abbrev S2x32x256x128 : Shape := ⟨4, ![2, 32, 256, 128]⟩
abbrev S2x32x128x256 : Shape := ⟨4, ![2, 32, 128, 256]⟩
abbrev S16384x96 : Shape := ⟨2, ![16384, 96]⟩

abbrev nBuf : Space → Nat
  | .hbm => 82
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x15008, .f32⟩
  | .hbm, ⟨2, _⟩ => ⟨S512, .f32⟩
  | .hbm, ⟨3, _⟩ => ⟨S128, .f32⟩
  | .hbm, ⟨4, _⟩ => ⟨S128, .f32⟩
  | .hbm, ⟨5, _⟩ => ⟨S2x512x16x128, .f32⟩
  | .hbm, ⟨6, _⟩ => ⟨S2x512x16x128, .f32⟩
  | .hbm, ⟨7, _⟩ => ⟨S16384x4096, .f32⟩
  | .hbm, ⟨8, _⟩ => ⟨S1x4096x15008, .f32⟩
  | .hbm, ⟨9, _⟩ => ⟨S4096x15008, .f32⟩
  | .hbm, ⟨10, _⟩ => ⟨S16384x15008, .f32⟩
  | .hbm, ⟨11, _⟩ => ⟨S16384x2048, .f32⟩
  | .hbm, ⟨12, _⟩ => ⟨S16384x512, .f32⟩
  | .hbm, ⟨13, _⟩ => ⟨S16384x2048, .f32⟩
  | .hbm, ⟨14, _⟩ => ⟨S16384x4096, .f32⟩
  | .hbm, ⟨15, _⟩ => ⟨S16384x128, .f32⟩
  | .hbm, ⟨16, _⟩ => ⟨S16384x32, .f32⟩
  | .hbm, ⟨17, _⟩ => ⟨S16384x6144, .f32⟩
  | .hbm, ⟨18, _⟩ => ⟨S16384x512, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x512, .f32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x128, .f32⟩
  | .hbm, ⟨54, _⟩ => ⟨S16384x128, .f32⟩
  | .hbm, ⟨55, _⟩ => ⟨S1x128, .f32⟩
  | .hbm, ⟨56, _⟩ => ⟨S16384x128, .f32⟩
  | .hbm, ⟨57, _⟩ => ⟨S16384x128, .f32⟩
  | .hbm, ⟨58, _⟩ => ⟨S1x128, .f32⟩
  | .hbm, ⟨59, _⟩ => ⟨S16384x128, .f32⟩
  | .hbm, ⟨60, _⟩ => ⟨S16384x128, .f32⟩
  | .hbm, ⟨61, _⟩ => ⟨S_, .f32⟩
  | .hbm, ⟨62, _⟩ => ⟨S16384x32, .f32⟩
  | .hbm, ⟨63, _⟩ => ⟨S16384x32, .f32⟩
  | .hbm, ⟨64, _⟩ => ⟨S1x512x16x128, .f32⟩
  | .hbm, ⟨65, _⟩ => ⟨S512x16x128, .f32⟩
  | .hbm, ⟨66, _⟩ => ⟨S512x2048, .f32⟩
  | .hbm, ⟨67, _⟩ => ⟨S16384x2048, .f32⟩
  | .hbm, ⟨68, _⟩ => ⟨S1x512x16x128, .f32⟩
  | .hbm, ⟨69, _⟩ => ⟨S512x16x128, .f32⟩
  | .hbm, ⟨70, _⟩ => ⟨S512x2048, .f32⟩
  | .hbm, ⟨71, _⟩ => ⟨S16384x2048, .f32⟩
  | .hbm, ⟨72, _⟩ => ⟨S2x16x512x2048, .f32⟩
  | .hbm, ⟨73, _⟩ => ⟨S2x16x2048x512, .f32⟩
  | .hbm, ⟨74, _⟩ => ⟨S2x16x2048x512, .bf16⟩
  | .hbm, ⟨75, _⟩ => ⟨S16384x2048, .bf16⟩
  | .hbm, ⟨76, _⟩ => ⟨S2x32x256x128, .f32⟩
  | .hbm, ⟨77, _⟩ => ⟨S2x32x128x256, .f32⟩
  | .hbm, ⟨78, _⟩ => ⟨S2x32x128x256, .bf16⟩
  | .hbm, ⟨79, _⟩ => ⟨S_, .f32⟩
  | .hbm, ⟨80, _⟩ => ⟨S16384x96, .f32⟩
  | .hbm, ⟨81, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Kernel6.lean ====
abbrev S16384x14336 : Shape := ⟨2, ![16384, 14336]⟩
abbrev S2048 : Shape := ⟨1, ![2048]⟩
abbrev S16x128x128 : Shape := ⟨3, ![16, 128, 128]⟩
abbrev S16x128 : Shape := ⟨2, ![16, 128]⟩
abbrev S1x2048 : Shape := ⟨2, ![1, 2048]⟩
abbrev S128x16 : Shape := ⟨2, ![128, 16]⟩
abbrev S16384x2048 : Shape := ⟨2, ![16384, 2048]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x14336, .bf16⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S1x2048, .f32⟩
  | .hbm, ⟨6, _⟩ => ⟨S1x2048, .f32⟩
  | .hbm, ⟨7, _⟩ => ⟨S128x16, .f32⟩
  | .hbm, ⟨8, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S16x128x128, .f32⟩
  | .local _ .vmem, ⟨9, _⟩ => ⟨S128x16, .f32⟩
  | .local _ .vmem, ⟨10, _⟩ => ⟨S256x2048, .bf16⟩
  | .local _ .vmem, ⟨11, _⟩ => ⟨S256x2048, .bf16⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x14336 : Shape := ⟨2, ![16384, 14336]⟩
abbrev S2048 : Shape := ⟨1, ![2048]⟩
abbrev S16x128x128 : Shape := ⟨3, ![16, 128, 128]⟩
abbrev S16x128 : Shape := ⟨2, ![16, 128]⟩
abbrev S16384x6144 : Shape := ⟨2, ![16384, 6144]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S128x128 : Shape := ⟨2, ![128, 128]⟩
abbrev S1x128x128 : Shape := ⟨3, ![1, 128, 128]⟩
abbrev S128x128x16x128 : Shape := ⟨4, ![128, 128, 16, 128]⟩
abbrev S16x128x128x128 : Shape := ⟨4, ![16, 128, 128, 128]⟩
abbrev S128x16 : Shape := ⟨2, ![128, 16]⟩
abbrev S1x128x16x1 : Shape := ⟨4, ![1, 128, 16, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x14336, .bf16⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S16384x6144, .bf16⟩
  | .hbm, ⟨6, _⟩ => ⟨S16384x6144, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | .hbm, ⟨59, _⟩ => ⟨S_, .i1⟩
  | .hbm, ⟨60, _⟩ => ⟨S128x128, .i1⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .i1⟩
  | .hbm, ⟨68, _⟩ => ⟨S128x128, .i1⟩
  | .hbm, ⟨69, _⟩ => ⟨S128x128, .i1⟩
  | .hbm, ⟨70, _⟩ => ⟨S1x128x128, .i1⟩
  | .hbm, ⟨71, _⟩ => ⟨S_, .f32⟩
  | .hbm, ⟨72, _⟩ => ⟨S16x128x128, .f32⟩
  | .hbm, ⟨73, _⟩ => ⟨S16x128x128, .i1⟩
  | .hbm, ⟨74, _⟩ => ⟨S16x128x128, .f32⟩
  | .hbm, ⟨75, _⟩ => ⟨S128x128x16x128, .f32⟩
  | .hbm, ⟨76, _⟩ => ⟨S16x128x128x128, .f32⟩
  | .hbm, ⟨77, _⟩ => ⟨S128x128x16x128, .f32⟩
  | .hbm, ⟨78, _⟩ => ⟨S128x16, .f32⟩
  | .hbm, ⟨79, _⟩ => ⟨S1x128x16x1, .f32⟩
  | .hbm, ⟨80, _⟩ => ⟨S128x128x16x128, .f32⟩
  | .hbm, ⟨81, _⟩ => ⟨S128x128x16x128, .f32⟩
  | .hbm, ⟨82, _⟩ => ⟨S16384x2048, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S_, .f32⟩
  | .hbm, ⟨87, _⟩ => ⟨S16384x2048, .f32⟩
  | .hbm, ⟨88, _⟩ => ⟨S16384x2048, .f32⟩
  | .hbm, ⟨89, _⟩ => ⟨S_, .f32⟩
  | .hbm, ⟨90, _⟩ => ⟨S16384x2048, .f32⟩
  | .hbm, ⟨91, _⟩ => ⟨S16384x2048, .f32⟩
  | .hbm, ⟨92, _⟩ => ⟨S16384x2048, .f32⟩
  | .hbm, ⟨93, _⟩ => ⟨S16384x2048, .f32⟩
  | .hbm, ⟨94, _⟩ => ⟨S16384x2048, .bf16⟩
  | _, _ => ⟨S16384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c : Ref sig .tc := ⟨.hbm, 59, rfl⟩
abbrev main_v43 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Struct.lean ====
/-
  The attention kernel's body, told by heads and chunks.

  The printed body is one long list of loads, stores and arithmetic, cut at positions that mean nothing.
  Here the same program is put together from what the kernel does: `scoresHead` computes one head's block of
  scores, `updHead` folds one head's block of scores into the running maximum and the running sums, and
  `emitHead` writes one head's output. `Body.lean` shows the printed body equal to `body`.
-/
module

public import proofs.«01_k».proof.KernelIdeal

@[expose] public section

namespace Cert.KernelIdeal.Attn

open Idealize.ShloMosaic Idealize.SL.Sem Facts₀ Facts

variable {F : FTy → Type} [FloatOps F] [Named F] [Facts]

/-- A program of the kernel. -/
abbrev KProg (F : FTy → Type) [FloatOps F] (α : Type) : Type 1 := Prog (TpuEff nD τ sig (Elt F) Λ₀ .tc) α

/-! ## The parts of the buffers a head uses -/

theorem inbS (slot h : Nat) (hs : slot < 2) (hh : h < 4) :
    ∀ a, (![slot, h, 0, 0] : Fin 4 → Nat) a + S1x1x512x512.size a ≤ S2x4x512x512.size a := by
  intro a; fin_cases a <;> simp [S1x1x512x512, S2x4x512x512, Shape.size] <;> omega

theorem inbM (h : Nat) (hh : h < 4) :
    ∀ a, (![h, 0, 0] : Fin 3 → Nat) a + S1x512x128.size a ≤ S4x512x128.size a := by
  intro a; fin_cases a <;> simp [S1x512x128, S4x512x128, Shape.size] <;> omega

theorem inbA (h : Nat) (hh : h < 4) :
    ∀ a, (![h, 0, 0] : Fin 3 → Nat) a + S1x512x256.size a ≤ S4x512x256.size a := by
  intro a; fin_cases a <;> simp [S1x512x256, S4x512x256, Shape.size] <;> omega

theorem inbC (c : Nat) (hc : c + 128 ≤ 512) :
    ∀ a, (![0, c] : Fin 2 → Nat) a + S512x128.size a ≤ S512x512.size a := by
  intro a; fin_cases a <;> simp [S512x128, S512x512, Shape.size] <;> omega

/-- Where one head's keys of one chunk lie among the keys. -/
abbrev InbK (o : Fin 4 → Nat) : Prop := ∀ a, o a + S1x1x128x512.size a ≤ S1x16x512x512.size a
/-- Where one head's values of one chunk lie among the values. -/
abbrev InbV (o : Fin 2 → Nat) : Prop := ∀ a, o a + S512x128.size a ≤ S8192x512.size a
/-- Where one tile of the mask table lies. -/
abbrev InbB (o : Fin 5 → Nat) : Prop := ∀ a, o a + S1x1x1x256x128.size a ≤ S1x2x64x256x128.size a

/-! ## The arithmetic -/

/-- The rows of ones that stand beside the values, so that one product gives the weighted sum and the sum of the
    weights. -/
noncomputable def ones : FVec F S512x128 .bf16 :=
  have cst_14 : F .bf16 := Scalar.ofBits .bf16 0x3F80#16
  broadcast S512x128 cst_14

/-- The running maximum after one more chunk of scores. -/
noncomputable def mNew (s : FVec F S512x512 .f32) (m : FVec F S512x128 .f32) : FVec F S512x128 .f32 :=
  have v427 : FVec F S512 .f32 := multiReduction .maximumf [1] S512 s 0xFF800000#32 reduces_S512x512_S512 (.inl rfl) rfl
  have v428 : FVec F S512x1 .f32 := shapeCast S512x1 v427 shapeCasts_S512_S512x1
  have v429 : FVec F S512x128 .f32 := broadcastTo S512x128 v428 broadcasts_S512x1_S512x128
  maximumf m v429

/-- The running sums after one more chunk of scores and values. -/
noncomputable def aNew (s : FVec F S512x512 .f32) (m : FVec F S512x128 .f32) (v : FVec F S512x128 .bf16)
    (a : FVec F S512x256 .f32) : FVec F S512x256 .f32 :=
  have v430 : FVec F S512x128 .f32 := mNew s m
  have v431 : FVec F S512x128 .f32 := subf m v430
  have v432 : FVec F S512x128 .f32 := exp2 v431
  have v433 : FVec F S512x512 .f32 := concatenate S512x512 1 [⟨S512x128, v430⟩, ⟨S512x128, v430⟩, ⟨S512x128, v430⟩, ⟨S512x128, v430⟩] concatenates_S512x128_S512x128_S512x128_S512x128_S512x512_d1
  have v434 : FVec F S512x512 .f32 := subf s v433
  have v435 : FVec F S512x512 .f32 := exp2 v434
  have v439 : FVec F S512x256 .bf16 := concatenate S512x256 1 [⟨S512x128, v⟩, ⟨S512x128, ones⟩] concatenates_S512x128_S512x128_S512x256_d1
  have v440 : FVec F S512x512 .bf16 := truncf .bf16 v435 bitsLt_bf16_f32
  have cst_333 : FVec F S512x256 .f32 := constant S512x256 .f32 0x00000000#32
  have v441 : FVec F S512x256 .f32 := matmul dot_S512x512_S512x256_S512x256_1_0_0_1_n_n none v440 v439 cst_333
  have v442 : FVec F S512x256 .f32 := concatenate S512x256 1 [⟨S512x128, v432⟩, ⟨S512x128, v432⟩] concatenates_S512x128_S512x128_S512x256_d1
  have v445 : FVec F S512x256 .f32 := mulf v442 a
  addf v445 v441

/-- One head's block of scores. -/
noncomputable def score (q : FVec F S512x128 .bf16) (k : FVec F S128x512 .bf16) (b : FVec F S512x512 .f32) :
    FVec F S512x512 .f32 :=
  have cst_287 : FVec F S512x512 .f32 := constant S512x512 .f32 0x00000000#32
  have v385 : FVec F S512x512 .f32 := matmul dot_S512x128_S128x512_S512x512_1_0_0_1_n_n none q k cst_287
  addf v385 b

/-- The mask table's values for one block of scores, from its eight tiles. -/
noncomputable def biasBlock (v343 v348 v353 v358 v364 v369 v374 v379 : FVec F S256x128 .bf16) : FVec F S512x512 .f32 :=
  have v359 : FVec F S256x512 .bf16 := concatenate S256x512 1 [⟨S256x128, v343⟩, ⟨S256x128, v348⟩, ⟨S256x128, v353⟩, ⟨S256x128, v358⟩] concatenates_S256x128_S256x128_S256x128_S256x128_S256x512_d1
  have v380 : FVec F S256x512 .bf16 := concatenate S256x512 1 [⟨S256x128, v364⟩, ⟨S256x128, v369⟩, ⟨S256x128, v374⟩, ⟨S256x128, v379⟩] concatenates_S256x128_S256x128_S256x128_S256x128_S256x512_d1
  have v381 : FVec F S512x512 .bf16 := concatenate S512x512 0 [⟨S256x512, v359⟩, ⟨S256x512, v380⟩] concatenates_S256x512_S256x512_S512x512_d0
  extf .f32 v381 bitsLt_bf16_f32

/-- One head's output: the weighted sum over the sum of the weights, gated. -/
noncomputable def emit (a : FVec F S512x256 .f32) (g : FVec F S512x128 .bf16) : FVec F S512x128 .bf16 :=
  have v200 : FVec F S512x128 .f32 := extf .f32 g bitsLt_bf16_f32
  have v201 : FVec F S512x128 .f32 := extractStridedSlice S512x128 ![0, 0] a slices_S512x256_o0_0_S512x128
  have v202 : FVec F S512x128 .f32 := extractStridedSlice S512x128 ![0, 128] a slices_S512x256_o0_128_S512x128
  have v203 : FVec F S512x128 .f32 := divf v201 v202
  have cst_153 : F .f32 := Scalar.ofBits .f32 0x00000000#32
  have v204 : FVec F S512x128 .f32 := broadcast S512x128 cst_153
  have v205 : FVec F S512x128 .f32 := subf v204 v200
  have v206 : FVec F S512x128 .f32 := exp v205
  have cst_154 : F .f32 := Scalar.ofBits .f32 0x3F800000#32
  have v207 : FVec F S512x128 .f32 := broadcast S512x128 cst_154
  have v208 : FVec F S512x128 .f32 := addf v207 v206
  have v209 : FVec F S512x128 .f32 := divf v200 v208
  have v210 : FVec F S512x128 .f32 := mulf v203 v209
  truncf .bf16 v210 bitsLt_bf16_f32

/-! ## The program by heads -/

section prog

variable (arg3 : Memref sig .tc .vmem S512x512 .bf16) (arg4 : Memref sig .tc .vmem S1x16x512x512 .bf16)
  (arg5 : Memref sig .tc .vmem S8192x512 .bf16) (arg6 : Memref sig .tc .vmem S1x2x64x256x128 .bf16)
  (arg7 arg8 : Memref sig .tc .vmem S512x512 .bf16) (harg8 : arg8.IsWhole)
  (arg9 : Memref sig .tc .vmem S4x512x128 .f32) (arg10 : Memref sig .tc .vmem S4x512x256 .f32)
  (arg11 : Memref sig .tc .vmem S2x4x512x512 .f32)

/-- Fold one head's block of scores into that head's running maximum and sums. -/
noncomputable def updHead (slot h : Nat) (hs : slot < 2) (hh : h < 4) (o : Fin 2 → Nat) (ho : InbV o) : KProg F PUnit := do
  let s : Vec F S1x1x512x512 .f32 ← Prog.lift (.load arg11 (Rect.unit (s := S2x4x512x512) ![slot, h, 0, 0] S1x1x512x512.size (inbS slot h hs hh)).toLoadRect (View.loadsAt_vmem h_S1x1x512x512))
  let m : Vec F S1x512x128 .f32 ← Prog.lift (.load arg9 (Rect.unit (s := S4x512x128) ![h, 0, 0] S1x512x128.size (inbM h hh)).toLoadRect (View.loadsAt_vmem h_S1x512x128))
  let v : Vec F S512x128 .bf16 ← Prog.lift (.load arg5 (Rect.unit (s := S8192x512) o S512x128.size ho).toLoadRect (View.loadsAt_vmem h_S512x128))
  let a : Vec F S1x512x256 .f32 ← Prog.lift (.load arg10 (Rect.unit (s := S4x512x256) ![h, 0, 0] S1x512x256.size (inbA h hh)).toLoadRect (View.loadsAt_vmem h_S1x512x256))
  let _a : Vec F S1x512x256 .f32 ← Prog.lift (.load arg10 (Rect.unit (s := S4x512x256) ![h, 0, 0] S1x512x256.size (inbA h hh)).toLoadRect (View.loadsAt_vmem h_S1x512x256))
  Prog.lift (.store arg10 (Rect.unit (s := S4x512x256) ![h, 0, 0] S1x512x256.size (inbA h hh))
    (shapeCast S1x512x256 (aNew (shapeCast S512x512 s shapeCasts_S1x1x512x512_S512x512) (shapeCast S512x128 m shapeCasts_S1x512x128_S512x128)
      (shapeCast S512x128 v shapeCasts_S512x128_S512x128) (shapeCast S512x256 a shapeCasts_S1x512x256_S512x256)) shapeCasts_S512x256_S1x512x256)
    Finset.univ (View.stores_vmem_bits_univ h_S1x512x256 rfl) (.inl rfl))
  let _m : Vec F S1x512x128 .f32 ← Prog.lift (.load arg9 (Rect.unit (s := S4x512x128) ![h, 0, 0] S1x512x128.size (inbM h hh)).toLoadRect (View.loadsAt_vmem h_S1x512x128))
  Prog.lift (.store arg9 (Rect.unit (s := S4x512x128) ![h, 0, 0] S1x512x128.size (inbM h hh))
    (shapeCast S1x512x128 (mNew (shapeCast S512x512 s shapeCasts_S1x1x512x512_S512x512) (shapeCast S512x128 m shapeCasts_S1x512x128_S512x128)) shapeCasts_S512x128_S1x512x128)
    Finset.univ (View.stores_vmem_bits_univ h_S1x512x128 rfl) (.inl rfl))

/-- Fold a chunk's scores, head by head. -/
noncomputable def upd (slot : Nat) (hs : slot < 2) (o : Fin 4 → Fin 2 → Nat) (ho : ∀ h, InbV (o h)) : KProg F PUnit := do
  updHead arg5 arg9 arg10 arg11 slot 0 hs (by decide) (o 0) (ho 0)
  updHead arg5 arg9 arg10 arg11 slot 1 hs (by decide) (o 1) (ho 1)
  updHead arg5 arg9 arg10 arg11 slot 2 hs (by decide) (o 2) (ho 2)
  updHead arg5 arg9 arg10 arg11 slot 3 hs (by decide) (o 3) (ho 3)

/-- Load one tile of the mask table. -/
noncomputable def biasTile (o : Fin 5 → Nat) (ho : InbB o) : KProg F (FVec F S256x128 .bf16) := do
  let v : Vec F S1x1x1x256x128 .bf16 ← Prog.lift (.load arg6 (Rect.unit (s := S1x2x64x256x128) o S1x1x1x256x128.size ho).toLoadRect (View.loadsAt_vmem h_S1x1x1x256x128))
  pure (shapeCast S256x128 v shapeCasts_S1x1x1x256x128_S256x128)

/-- Load the mask table's values for one block of scores. -/
noncomputable def bias (o : Fin 2 → Fin 4 → Fin 5 → Nat) (ho : ∀ r t, InbB (o r t)) : KProg F (FVec F S512x512 .f32) := do
  let v343 ← biasTile arg6 (o 0 0) (ho 0 0)
  let v348 ← biasTile arg6 (o 0 1) (ho 0 1)
  let v353 ← biasTile arg6 (o 0 2) (ho 0 2)
  let v358 ← biasTile arg6 (o 0 3) (ho 0 3)
  let v364 ← biasTile arg6 (o 1 0) (ho 1 0)
  let v369 ← biasTile arg6 (o 1 1) (ho 1 1)
  let v374 ← biasTile arg6 (o 1 2) (ho 1 2)
  let v379 ← biasTile arg6 (o 1 3) (ho 1 3)
  pure (biasBlock v343 v348 v353 v358 v364 v369 v374 v379)

/-- One head's block of scores of one chunk, stored. -/
noncomputable def scoresHead (slot h : Nat) (hs : slot < 2) (hh : h < 4) (c : Nat) (hc : c + 128 ≤ 512) (o : Fin 4 → Nat) (ho : InbK o) (b : FVec F S512x512 .f32) :
    KProg F PUnit := do
  let q : Vec F S512x128 .bf16 ← Prog.lift (.load arg3 (Rect.unit (s := S512x512) ![0, c] S512x128.size (inbC c hc)).toLoadRect (View.loadsAt_vmem h_S512x128))
  let k : Vec F S1x1x128x512 .bf16 ← Prog.lift (.load arg4 (Rect.unit (s := S1x16x512x512) o S1x1x128x512.size ho).toLoadRect (View.loadsAt_vmem h_S1x1x128x512))
  let _s : Vec F S1x1x512x512 .f32 ← Prog.lift (.load arg11 (Rect.unit (s := S2x4x512x512) ![slot, h, 0, 0] S1x1x512x512.size (inbS slot h hs hh)).toLoadRect (View.loadsAt_vmem h_S1x1x512x512))
  Prog.lift (.store arg11 (Rect.unit (s := S2x4x512x512) ![slot, h, 0, 0] S1x1x512x512.size (inbS slot h hs hh))
    (shapeCast S1x1x512x512 (score (shapeCast S512x128 q shapeCasts_S512x128_S512x128) (shapeCast S128x512 k shapeCasts_S1x1x128x512_S128x512) b) shapeCasts_S512x512_S1x1x512x512)
    Finset.univ (View.stores_vmem_bits_univ h_S1x1x512x512 rfl) (.inl rfl))

/-- The scores of one chunk, all four heads. -/
noncomputable def scores (slot : Nat) (hs : slot < 2) (ob : Fin 2 → Fin 4 → Fin 5 → Nat) (hob : ∀ r t, InbB (ob r t))
    (ok : Fin 4 → Fin 4 → Nat) (hok : ∀ h, InbK (ok h)) : KProg F PUnit := do
  let b ← bias arg6 ob hob
  scoresHead arg3 arg4 arg11 slot 0 hs (by decide) 0 (by decide) (ok 0) (hok 0) b
  scoresHead arg3 arg4 arg11 slot 1 hs (by decide) 128 (by decide) (ok 1) (hok 1) b
  scoresHead arg3 arg4 arg11 slot 2 hs (by decide) 256 (by decide) (ok 2) (hok 2) b
  scoresHead arg3 arg4 arg11 slot 3 hs (by decide) 384 (by decide) (ok 3) (hok 3) b

/-- One step: fold the chunk whose scores lie in one slot, and put the next chunk's scores in the other. -/
noncomputable def step (slot slot' : Nat) (hs : slot < 2) (hs' : slot' < 2) (ov : Fin 4 → Fin 2 → Nat) (hov : ∀ h, InbV (ov h))
    (ob : Fin 2 → Fin 4 → Fin 5 → Nat) (hob : ∀ r t, InbB (ob r t)) (ok : Fin 4 → Fin 4 → Nat) (hok : ∀ h, InbK (ok h)) : KProg F PUnit := do
  upd arg5 arg9 arg10 arg11 slot hs ov hov
  scores arg3 arg4 arg6 arg11 slot' hs' ob hob ok hok

/-- Start the running maxima and the running sums. -/
noncomputable def start : KProg F PUnit := do
  have cst : F .f32 := Named.named κ "mask" 0xF149F2CA#32
  let _m : Vec F S4x512x128 .f32 ← Prog.lift (.load arg9 (Rect.unit (s := S4x512x128) ![0, 0, 0] S4x512x128.size inb_S4x512x128_S4x512x128_0_0_0).toLoadRect (View.loadsAt_vmem h_S4x512x128))
  Prog.lift (.store arg9 (Rect.unit (s := S4x512x128) ![0, 0, 0] S4x512x128.size inb_S4x512x128_S4x512x128_0_0_0) (shapeCast S4x512x128 (broadcast S4x512x128 cst) shapeCasts_S4x512x128_S4x512x128) Finset.univ (View.stores_vmem_bits_univ h_S4x512x128 rfl) (.inl rfl))
  have cst_10 : F .f32 := Scalar.ofBits .f32 0x00000000#32
  let _a : Vec F S4x512x256 .f32 ← Prog.lift (.load arg10 (Rect.unit (s := S4x512x256) ![0, 0, 0] S4x512x256.size inb_S4x512x256_S4x512x256_0_0_0).toLoadRect (View.loadsAt_vmem h_S4x512x256))
  Prog.lift (.store arg10 (Rect.unit (s := S4x512x256) ![0, 0, 0] S4x512x256.size inb_S4x512x256_S4x512x256_0_0_0) (shapeCast S4x512x256 (broadcast S4x512x256 cst_10) shapeCasts_S4x512x256_S4x512x256) Finset.univ (View.stores_vmem_bits_univ h_S4x512x256 rfl) (.inl rfl))

/-- Write one head's output. -/
noncomputable def emitHead (h : Nat) (hh : h < 4) (c : Nat) (hc : c + 128 ≤ 512)
    (hp : (Rect.unit (s := S512x512) ![0, c] S512x128.size (inbC c hc)).PackedRows (EltTy.packing .bf16)) : KProg F PUnit := do
  let a : Vec F S1x512x256 .f32 ← Prog.lift (.load arg10 (Rect.unit (s := S4x512x256) ![h, 0, 0] S1x512x256.size (inbA h hh)).toLoadRect (View.loadsAt_vmem h_S1x512x256))
  let g : Vec F S512x128 .bf16 ← Prog.lift (.load arg7 (Rect.unit (s := S512x512) ![0, c] S512x128.size (inbC c hc)).toLoadRect (View.loadsAt_vmem h_S512x128))
  let _o : Vec F S512x128 .bf16 ← Prog.lift (.load arg8 (Rect.unit (s := S512x512) ![0, c] S512x128.size (inbC c hc)).toLoadRect (View.loadsAt_vmem h_S512x128))
  Prog.lift (.store arg8 (Rect.unit (s := S512x512) ![0, c] S512x128.size (inbC c hc))
    (emit (shapeCast S512x256 a shapeCasts_S1x512x256_S512x256) (shapeCast S512x128 g shapeCasts_S512x128_S512x128))
    Finset.univ (View.stores_vmem h_S512x128 (harg8.storeExact_slice rfl _ hp) (fun _ => rfl)) (.inl rfl))

/-- Write all four heads' outputs. -/
noncomputable def emits : KProg F PUnit := do
  emitHead arg7 arg8 harg8 arg10 0 (by decide) 0 (by decide) packedbf16_S512x512_S512x128_0_0
  emitHead arg7 arg8 harg8 arg10 1 (by decide) 128 (by decide) packedbf16_S512x512_S512x128_0_128
  emitHead arg7 arg8 harg8 arg10 2 (by decide) 256 (by decide) packedbf16_S512x512_S512x128_0_256
  emitHead arg7 arg8 harg8 arg10 3 (by decide) 384 (by decide) packedbf16_S512x512_S512x128_0_384

/-! ## Where the steps read -/

/-- The mask tiles of the first chunk. -/
def ob0 (r : Fin 2) (t : Fin 4) : Fin 5 → Nat := ![0, r.val, t.val, 0, 0]

theorem hob0 (r : Fin 2) (t : Fin 4) : InbB (ob0 r t) := by
  intro a; fin_cases a <;> simp [ob0, S1x1x1x256x128, S1x2x64x256x128, Shape.size] <;> omega

/-- The keys of the first chunk. -/
def ok0 (h : Fin 4) : Fin 4 → Nat := ![0, 0, 128 * h.val, 0]

theorem hok0 (h : Fin 4) : InbK (ok0 h) := by
  intro a; fin_cases a <;> simp [ok0, S1x1x128x512, S1x16x512x512, Shape.size] <;> omega

section offs
variable (i : grid0.Coords)

def ov1 (k : Fin (k0_t1_loop i).trips) (t : Fin 8) : Fin 4 → Fin 2 → Nat :=
  ![k0_off1 i k (BitVec.ofNat 32 t.val), k0_off2 i k (BitVec.ofNat 32 t.val), k0_off3 i k (BitVec.ofNat 32 t.val), k0_off4 i k (BitVec.ofNat 32 t.val)]
def ob1 (k : Fin (k0_t1_loop i).trips) (t : Fin 8) (r : Fin 2) (u : Fin 4) : Fin 5 → Nat :=
  (![k0_off5 i k (BitVec.ofNat 32 t.val) (BitVec.ofNat 32 u.val), k0_off6 i k (BitVec.ofNat 32 t.val) (BitVec.ofNat 32 u.val)] : Fin 2 → Fin 5 → Nat) r
def ok1 (k : Fin (k0_t1_loop i).trips) (t : Fin 8) : Fin 4 → Fin 4 → Nat :=
  ![k0_off7 i k (BitVec.ofNat 32 t.val), k0_off8 i k (BitVec.ofNat 32 t.val), k0_off9 i k (BitVec.ofNat 32 t.val), k0_off10 i k (BitVec.ofNat 32 t.val)]

theorem hov1 (k : Fin (k0_t1_loop i).trips) (t : Fin 8) (h : Fin 4) : InbV (ov1 i k t h) := by
  fin_cases h; exacts [k0_off1_inb i k t, k0_off2_inb i k t, k0_off3_inb i k t, k0_off4_inb i k t]
theorem hob1 (k : Fin (k0_t1_loop i).trips) (t : Fin 8) (r : Fin 2) (u : Fin 4) : InbB (ob1 i k t r u) := by
  fin_cases r; exacts [k0_off5_inb i k t u, k0_off6_inb i k t u]
theorem hok1 (k : Fin (k0_t1_loop i).trips) (t : Fin 8) (h : Fin 4) : InbK (ok1 i k t h) := by
  fin_cases h; exacts [k0_off7_inb i k t, k0_off8_inb i k t, k0_off9_inb i k t, k0_off10_inb i k t]

def ov3 (t : Fin 4) : Fin 4 → Fin 2 → Nat :=
  ![k0_off21 i (BitVec.ofNat 32 t.val), k0_off22 i (BitVec.ofNat 32 t.val), k0_off23 i (BitVec.ofNat 32 t.val), k0_off24 i (BitVec.ofNat 32 t.val)]
def ob3 (t : Fin 4) (r : Fin 2) (u : Fin 4) : Fin 5 → Nat :=
  (![k0_off25 i (BitVec.ofNat 32 t.val) (BitVec.ofNat 32 u.val), k0_off26 i (BitVec.ofNat 32 t.val) (BitVec.ofNat 32 u.val)] : Fin 2 → Fin 5 → Nat) r
def ok3 (t : Fin 4) : Fin 4 → Fin 4 → Nat :=
  ![k0_off27 i (BitVec.ofNat 32 t.val), k0_off28 i (BitVec.ofNat 32 t.val), k0_off29 i (BitVec.ofNat 32 t.val), k0_off30 i (BitVec.ofNat 32 t.val)]

theorem hov3 (hc : k0_cond1 i = 1#1) (t : Fin 4) (h : Fin 4) : InbV (ov3 i t h) := by
  fin_cases h; exacts [k0_off21_inb i hc t, k0_off22_inb i hc t, k0_off23_inb i hc t, k0_off24_inb i hc t]
theorem hob3 (hc : k0_cond1 i = 1#1) (t : Fin 4) (r : Fin 2) (u : Fin 4) : InbB (ob3 i t r u) := by
  fin_cases r; exacts [k0_off25_inb i hc t u, k0_off26_inb i hc t u]
theorem hok3 (hc : k0_cond1 i = 1#1) (t : Fin 4) (h : Fin 4) : InbK (ok3 i t h) := by
  fin_cases h; exacts [k0_off27_inb i hc t, k0_off28_inb i hc t, k0_off29_inb i hc t, k0_off30_inb i hc t]

def ov4 (t : Fin 2) : Fin 4 → Fin 2 → Nat :=
  ![k0_off31 i (BitVec.ofNat 32 t.val), k0_off32 i (BitVec.ofNat 32 t.val), k0_off33 i (BitVec.ofNat 32 t.val), k0_off34 i (BitVec.ofNat 32 t.val)]
def ob4 (t : Fin 2) (r : Fin 2) (u : Fin 4) : Fin 5 → Nat :=
  (![k0_off35 i (BitVec.ofNat 32 t.val) (BitVec.ofNat 32 u.val), k0_off36 i (BitVec.ofNat 32 t.val) (BitVec.ofNat 32 u.val)] : Fin 2 → Fin 5 → Nat) r
def ok4 (t : Fin 2) : Fin 4 → Fin 4 → Nat :=
  ![k0_off37 i (BitVec.ofNat 32 t.val), k0_off38 i (BitVec.ofNat 32 t.val), k0_off39 i (BitVec.ofNat 32 t.val), k0_off40 i (BitVec.ofNat 32 t.val)]

theorem hov4 (hc : k0_cond2 i = 1#1) (t : Fin 2) (h : Fin 4) : InbV (ov4 i t h) := by
  fin_cases h; exacts [k0_off31_inb i hc t, k0_off32_inb i hc t, k0_off33_inb i hc t, k0_off34_inb i hc t]
theorem hob4 (hc : k0_cond2 i = 1#1) (t : Fin 2) (r : Fin 2) (u : Fin 4) : InbB (ob4 i t r u) := by
  fin_cases r; exacts [k0_off35_inb i hc t u, k0_off36_inb i hc t u]
theorem hok4 (hc : k0_cond2 i = 1#1) (t : Fin 2) (h : Fin 4) : InbK (ok4 i t h) := by
  fin_cases h; exacts [k0_off37_inb i hc t, k0_off38_inb i hc t, k0_off39_inb i hc t, k0_off40_inb i hc t]

def ov5 : Fin 4 → Fin 2 → Nat := ![k0_off41 i, k0_off42 i, k0_off43 i, k0_off44 i]
def ov6 : Fin 4 → Fin 2 → Nat := ![k0_off45 i, k0_off46 i, k0_off47 i, k0_off48 i]
def ob6 (r : Fin 2) (u : Fin 4) : Fin 5 → Nat :=
  (![k0_off49 i (BitVec.ofNat 32 u.val), k0_off50 i (BitVec.ofNat 32 u.val)] : Fin 2 → Fin 5 → Nat) r
def ok6 : Fin 4 → Fin 4 → Nat := ![k0_off51 i, k0_off52 i, k0_off53 i, k0_off54 i]
def ov7 : Fin 4 → Fin 2 → Nat := ![k0_off55 i, k0_off56 i, k0_off57 i, k0_off58 i]

theorem hov5 (hc : k0_cond3 i = 1#1) (h : Fin 4) : InbV (ov5 i h) := by
  fin_cases h; exacts [k0_off41_inb i hc, k0_off42_inb i hc, k0_off43_inb i hc, k0_off44_inb i hc]
theorem hov6 (hc : k0_cond4 i = 1#1) (h : Fin 4) : InbV (ov6 i h) := by
  fin_cases h; exacts [k0_off45_inb i hc, k0_off46_inb i hc, k0_off47_inb i hc, k0_off48_inb i hc]
theorem hob6 (hc : k0_cond4 i = 1#1) (r : Fin 2) (u : Fin 4) : InbB (ob6 i r u) := by
  fin_cases r; exacts [k0_off49_inb i hc u, k0_off50_inb i hc u]
theorem hok6 (hc : k0_cond4 i = 1#1) (h : Fin 4) : InbK (ok6 i h) := by
  fin_cases h; exacts [k0_off51_inb i hc, k0_off52_inb i hc, k0_off53_inb i hc, k0_off54_inb i hc]
theorem hov7 (hc : k0_cond4 i = 1#1) (h : Fin 4) : InbV (ov7 i h) := by
  fin_cases h; exacts [k0_off55_inb i hc, k0_off56_inb i hc, k0_off57_inb i hc, k0_off58_inb i hc]

/-! ## The body -/

/-- A step of the main loop. -/
noncomputable abbrev step1 (k : Fin (k0_t1_loop i).trips) (t : Fin 8) (slot slot' : Nat) (hs : slot < 2) (hs' : slot' < 2) : KProg F PUnit :=
  step arg3 arg4 arg5 arg6 arg9 arg10 arg11 slot slot' hs hs' (ov1 i k t) (hov1 i k t) (ob1 i k t) (hob1 i k t) (ok1 i k t) (hok1 i k t)

/-- Eight steps: the main loop's body. -/
noncomputable def eight (k : Fin (k0_t1_loop i).trips) : KProg F PUnit := do
  step1 arg3 arg4 arg5 arg6 arg9 arg10 arg11 i k 0 0 1 (by decide) (by decide)
  step1 arg3 arg4 arg5 arg6 arg9 arg10 arg11 i k 1 1 0 (by decide) (by decide)
  step1 arg3 arg4 arg5 arg6 arg9 arg10 arg11 i k 2 0 1 (by decide) (by decide)
  step1 arg3 arg4 arg5 arg6 arg9 arg10 arg11 i k 3 1 0 (by decide) (by decide)
  step1 arg3 arg4 arg5 arg6 arg9 arg10 arg11 i k 4 0 1 (by decide) (by decide)
  step1 arg3 arg4 arg5 arg6 arg9 arg10 arg11 i k 5 1 0 (by decide) (by decide)
  step1 arg3 arg4 arg5 arg6 arg9 arg10 arg11 i k 6 0 1 (by decide) (by decide)
  step1 arg3 arg4 arg5 arg6 arg9 arg10 arg11 i k 7 1 0 (by decide) (by decide)

/-- A step of the four. -/
noncomputable abbrev step3 (hc : k0_cond1 i = 1#1) (t : Fin 4) (slot slot' : Nat) (hs : slot < 2) (hs' : slot' < 2) : KProg F PUnit :=
  step arg3 arg4 arg5 arg6 arg9 arg10 arg11 slot slot' hs hs' (ov3 i t) (hov3 i hc t) (ob3 i t) (hob3 i hc t) (ok3 i t) (hok3 i hc t)

/-- Four steps, where at least four chunks are left before the diagonal. -/
noncomputable def four (hc : k0_cond1 i = 1#1) : KProg F PUnit := do
  step3 arg3 arg4 arg5 arg6 arg9 arg10 arg11 i hc 0 0 1 (by decide) (by decide)
  step3 arg3 arg4 arg5 arg6 arg9 arg10 arg11 i hc 1 1 0 (by decide) (by decide)
  step3 arg3 arg4 arg5 arg6 arg9 arg10 arg11 i hc 2 0 1 (by decide) (by decide)
  step3 arg3 arg4 arg5 arg6 arg9 arg10 arg11 i hc 3 1 0 (by decide) (by decide)

/-- A step of the two. -/
noncomputable abbrev step4 (hc : k0_cond2 i = 1#1) (t : Fin 2) (slot slot' : Nat) (hs : slot < 2) (hs' : slot' < 2) : KProg F PUnit :=
  step arg3 arg4 arg5 arg6 arg9 arg10 arg11 slot slot' hs hs' (ov4 i t) (hov4 i hc t) (ob4 i t) (hob4 i hc t) (ok4 i t) (hok4 i hc t)

/-- Two steps, where at least two chunks are left. -/
noncomputable def two (hc : k0_cond2 i = 1#1) : KProg F PUnit := do
  step4 arg3 arg4 arg5 arg6 arg9 arg10 arg11 i hc 0 0 1 (by decide) (by decide)
  step4 arg3 arg4 arg5 arg6 arg9 arg10 arg11 i hc 1 1 0 (by decide) (by decide)

/-- The last chunk, where no other is left. -/
noncomputable def last (hc : k0_cond3 i = 1#1) : KProg F PUnit :=
  upd arg5 arg9 arg10 arg11 0 (by decide) (ov5 i) (hov5 i hc)

/-- The last two chunks, where one is left before the diagonal. -/
noncomputable def lastTwo (hc : k0_cond4 i = 1#1) : KProg F PUnit := do
  step arg3 arg4 arg5 arg6 arg9 arg10 arg11 0 1 (by decide) (by decide) (ov6 i) (hov6 i hc) (ob6 i) (hob6 i hc) (ok6 i) (hok6 i hc)
  upd arg5 arg9 arg10 arg11 1 (by decide) (ov7 i) (hov7 i hc)

/-- The steps the printed body takes under its four conditions, after the loops. -/
noncomputable def conds : KProg F PUnit :=
  (if hc : k0_cond1 i = 1#1 then four arg3 arg4 arg5 arg6 arg9 arg10 arg11 i hc else pure ⟨⟩) >>= fun _ =>
  (if hc : k0_cond2 i = 1#1 then two arg3 arg4 arg5 arg6 arg9 arg10 arg11 i hc else pure ⟨⟩) >>= fun _ =>
  (if hc : k0_cond3 i = 1#1 then last arg5 arg9 arg10 arg11 i hc else pure ⟨⟩) >>= fun _ =>
  (if hc : k0_cond4 i = 1#1 then lastTwo arg3 arg4 arg5 arg6 arg9 arg10 arg11 i hc else pure ⟨⟩)

/-- The body. `t2` is the printed remainder loop, which makes no trip. -/
noncomputable def body (t2 : KProg F PUnit) : KProg F PUnit :=
  start arg9 arg10 >>= fun _ =>
  scores arg3 arg4 arg6 arg11 0 (by decide) ob0 hob0 ok0 hok0 >>= fun _ =>
  (Scf.Loop.for (k0_t1_loop i) (k0_t1_ok i) PUnit.unit fun k _ => eight arg3 arg4 arg5 arg6 arg9 arg10 arg11 i k) >>= fun _ =>
  t2 >>= fun _ =>
  conds arg3 arg4 arg5 arg6 arg9 arg10 arg11 i >>= fun _ =>
  emits arg7 arg8 harg8 arg10

end offs

end prog

end Cert.KernelIdeal.Attn
-- ==== Proof.Steps.lean ====
/-
  What each part of the attention body does to the buffers.

  The three scratch buffers and the output are described head by head (`St`), and a part of the program is
  described by the descriptions before and after it (`Runs`).
-/
module

public import proofs.«01_k».proof.Proof.Struct
public import Idealize.ShloMosaic.Lib.Pipeline.FrameBody
public import Idealize.ShloMosaic.Lib.Pipeline.Kit
public import Idealize.ShloMosaic.Lib.Pipeline.Value
public import Idealize.ShloMosaic.Lib.VecWindow
public import Idealize.ShloMosaic.Lib.Pointwise.Index
public import Idealize.ShloMosaic.Lib.Ring
public import Idealize.ShloMosaic.Lib.Tactic

@[expose] public section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Named F] [Facts]

local notation "𝕄" => MT nD τ sig Unit (Elt F) ℕ (UR sig nD τ) ℕ

/-- The weakest precondition of a part of the body on core `c`. -/
noncomputable abbrev wpb {α : Type} (c : Dev nD) (p : KProg F α) (Q : α → sProp 𝕄) : sProp 𝕄 :=
  wp frame (wpE (defs₀ (F := F)) Variants.none (c : Thread nD τ) none) Set.univ p Q

/-! ## One load and one store -/

theorem load_owns {α : Type} (c : Dev nD) {cs : CoreSpace} {s : Shape} {e : EltTy} (m : Memref sig .tc cs s e) (r : Rect s)
    (hl : m.view.LoadsAt r.toLoadRect) (X : s.Idx → Elt F e) (k : (r.shape.Idx → Elt F e) → KProg F α) (Q : α → sProp 𝕄) :
    owns (c : Thread nD τ) m fullShare X
      ⊢ iprop((owns (c : Thread nD τ) m fullShare X -∗ wpb c (k (View.ld X r)) Q) -∗ wpb c (.op (.load m r.toLoadRect hl) k) Q) := by
  unfold owns
  iintro ⟨%f, %hf, H⟩ K
  subst hf
  iapply (wp_load_rect Variants.none (c : Thread nD τ) none Set.univ (m := m) (r := r) (hl := hl) (k := k) (S := m.view.set) (f := f)
    (m.view.set_slice_subset r)) $$ H
  iintro H
  iapply K
  iexists f
  isplitr
  · ipureintro; rfl
  iexact H

theorem store_owns {α : Type} (c : Dev nD) {cs : CoreSpace} {s : Shape} {e : EltTy} (m : Memref sig .tc cs s e)
    {off size : Fin s.rank → ℕ} (inb : ∀ a, off a + size a ≤ s.size a) (X : s.Idx → Elt F e)
    (w : (Rect.unit (s := s) off size inb).shape.Idx → Elt F e)
    (hx : (m.access (Rect.unit off size inb)).Stores Finset.univ)
    (hm : Finset.univ = Finset.univ ∨ ∀ a, (Rect.unit (s := s) off size inb).stride a = 1)
    (k : PUnit → KProg F α) (Q : α → sProp 𝕄) :
    owns (c : Thread nD τ) m fullShare X
      ⊢ iprop((owns (c : Thread nD τ) m fullShare (VecWindow.put X off size w) -∗ wpb c (k ⟨⟩) Q)
          -∗ wpb c (.op (.store m (Rect.unit off size inb) w Finset.univ hx hm) k) Q) := by
  unfold owns
  iintro ⟨%f, %hf, H⟩ K
  subst hf
  iapply (wp_store Variants.none (c : Thread nD τ) none Set.univ (m := m) (r := Rect.unit off size inb) (w := w) (Mk := Finset.univ)
    (hx := hx) (hm := hm) (k := k) (S := m.view.set) (f := f) (m.setOn_access_subset _ _)) $$ H
  iintro H
  iapply K
  iexists _
  isplitr
  rotate_left
  · iexact H
  ipureintro
  exact View.read_writes_cons_put m.view f inb w [] rfl

/-! ## Buffers by heads -/

/-- The running maxima of the four heads in one buffer. -/
def joinM (x : Fin 4 → FVec F S512x128 .f32) : Vec F S4x512x128 .f32 := fun y => x (y 0) (ix2 (y 1) (y 2))
/-- The running sums of the four heads in one buffer. -/
def joinA (x : Fin 4 → FVec F S512x256 .f32) : Vec F S4x512x256 .f32 := fun y => x (y 0) (ix2 (y 1) (y 2))
/-- The scores of the four heads, in two slots, in one buffer. -/
def joinS (x : Fin 2 → Fin 4 → FVec F S512x512 .f32) : Vec F S2x4x512x512 .f32 := fun y => x (y 0) (y 1) (ix2 (y 2) (y 3))
/-- The outputs of the four heads side by side. -/
def joinO (x : Fin 4 → FVec F S512x128 .bf16) : Vec F S512x512 .bf16 := fun y =>
  x ⟨(y 1).val / 128, by have : (y 1).val < 512 := (y 1).isLt; omega⟩ (ix2 (y 0) ⟨(y 1).val % 128, Nat.mod_lt _ (by decide)⟩)

theorem joinM_surj (X : Vec F S4x512x128 .f32) : ∃ x, X = joinM x :=
  ⟨fun h y => X (ix3 h (y 0) (y 1)), funext fun y => congrArg X (ix3_eta y).symm⟩
theorem joinA_surj (X : Vec F S4x512x256 .f32) : ∃ x, X = joinA x :=
  ⟨fun h y => X (ix3 h (y 0) (y 1)), funext fun y => congrArg X (ix3_eta y).symm⟩
theorem joinS_surj (X : Vec F S2x4x512x512 .f32) : ∃ x, X = joinS x :=
  ⟨fun s h y => X (ix4 s h (y 0) (y 1)), funext fun y => congrArg X (ix4_eta y).symm⟩

theorem cast_ldM (x : Fin 4 → FVec F S512x128 .f32) (h : Nat) (hh : h < 4) :
    shapeCast S512x128 (View.ld (joinM x) (Rect.unit (s := S4x512x128) ![h, 0, 0] S1x512x128.size (inbM h hh)) : Vec F S1x512x128 .f32)
      shapeCasts_S1x512x128_S512x128 = x ⟨h, hh⟩ := by
  funext j
  refine (shapeCast_dropUnit_apply (n := 2) ![512, 128] _ _ j).trans ?_
  show x _ _ = x _ _
  congr 1
  funext a; apply Fin.ext; match a with
    | ⟨0, _⟩ => show 0 + 1 * (j 0).val = (j 0).val; omega
    | ⟨1, _⟩ => show 0 + 1 * (j 1).val = (j 1).val; omega

theorem cast_ldA (x : Fin 4 → FVec F S512x256 .f32) (h : Nat) (hh : h < 4) :
    shapeCast S512x256 (View.ld (joinA x) (Rect.unit (s := S4x512x256) ![h, 0, 0] S1x512x256.size (inbA h hh)) : Vec F S1x512x256 .f32)
      shapeCasts_S1x512x256_S512x256 = x ⟨h, hh⟩ := by
  funext j
  refine (shapeCast_dropUnit_apply (n := 2) ![512, 256] _ _ j).trans ?_
  show x _ _ = x _ _
  congr 1
  funext a; apply Fin.ext; match a with
    | ⟨0, _⟩ => show 0 + 1 * (j 0).val = (j 0).val; omega
    | ⟨1, _⟩ => show 0 + 1 * (j 1).val = (j 1).val; omega

theorem cast_ldS (x : Fin 2 → Fin 4 → FVec F S512x512 .f32) (s h : Nat) (hs : s < 2) (hh : h < 4) :
    shapeCast S512x512 (View.ld (joinS x) (Rect.unit (s := S2x4x512x512) ![s, h, 0, 0] S1x1x512x512.size (inbS s h hs hh)) : Vec F S1x1x512x512 .f32)
      shapeCasts_S1x1x512x512_S512x512 = x ⟨s, hs⟩ ⟨h, hh⟩ := by
  funext j
  refine (Idealize.ShloMosaic.shapeCast_apply _ _ j (ix4 0 0 (j 0) (j 1)) ?_).trans ?_
  · rw [Shape.rowMajor_val_four, Shape.rowMajor_val_two]; simp
  show x _ _ _ = x _ _ _
  congr 1
  funext a; apply Fin.ext; match a with
    | ⟨0, _⟩ => show 0 + 1 * (j 0).val = (j 0).val; omega
    | ⟨1, _⟩ => show 0 + 1 * (j 1).val = (j 1).val; omega

theorem put_joinM (x : Fin 4 → FVec F S512x128 .f32) (h : Nat) (hh : h < 4) (w : FVec F S512x128 .f32) :
    VecWindow.put (joinM x) ![h, 0, 0] S1x512x128.size (shapeCast S1x512x128 w shapeCasts_S512x128_S1x512x128)
      = joinM (Function.update x ⟨h, hh⟩ w) := by
  funext y
  obtain ⟨p, b, c, rfl⟩ : ∃ (p : Fin 4) (b : Fin 512) (c : Fin 128), y = ix3 p b c := ⟨y 0, y 1, y 2, eq_ix3 y⟩
  show _ = Function.update x ⟨h, hh⟩ w p (ix2 b c)
  unfold VecWindow.put
  by_cases e : p.val = h
  · obtain rfl : p = ⟨h, hh⟩ := Fin.ext e
    rw [dif_pos, Function.update_self]
    · refine (shapeCast_addUnit_apply (n := 2) ![512, 128] w _ _).trans ?_
      congr 1
      funext a; apply Fin.ext; match a with
        | ⟨0, _⟩ => show b.val - 0 = b.val; omega
        | ⟨1, _⟩ => show c.val - 0 = c.val; omega
    · intro a; match a with
        | ⟨0, _⟩ => show h ≤ h ∧ h < h + 1; omega
        | ⟨1, _⟩ => show 0 ≤ b.val ∧ b.val < 0 + 512; omega
        | ⟨2, _⟩ => show 0 ≤ c.val ∧ c.val < 0 + 128; omega
  · rw [dif_neg, Function.update_of_ne]
    · rfl
    · intro e'; exact e (congrArg Fin.val e')
    · intro H; have : h ≤ p.val ∧ p.val < h + 1 := H 0; omega

theorem put_joinA (x : Fin 4 → FVec F S512x256 .f32) (h : Nat) (hh : h < 4) (w : FVec F S512x256 .f32) :
    VecWindow.put (joinA x) ![h, 0, 0] S1x512x256.size (shapeCast S1x512x256 w shapeCasts_S512x256_S1x512x256)
      = joinA (Function.update x ⟨h, hh⟩ w) := by
  funext y
  obtain ⟨p, b, c, rfl⟩ : ∃ (p : Fin 4) (b : Fin 512) (c : Fin 256), y = ix3 p b c := ⟨y 0, y 1, y 2, eq_ix3 y⟩
  show _ = Function.update x ⟨h, hh⟩ w p (ix2 b c)
  unfold VecWindow.put
  by_cases e : p.val = h
  · obtain rfl : p = ⟨h, hh⟩ := Fin.ext e
    rw [dif_pos, Function.update_self]
    · refine (shapeCast_addUnit_apply (n := 2) ![512, 256] w _ _).trans ?_
      congr 1
      funext a; apply Fin.ext; match a with
        | ⟨0, _⟩ => show b.val - 0 = b.val; omega
        | ⟨1, _⟩ => show c.val - 0 = c.val; omega
    · intro a; match a with
        | ⟨0, _⟩ => show h ≤ h ∧ h < h + 1; omega
        | ⟨1, _⟩ => show 0 ≤ b.val ∧ b.val < 0 + 512; omega
        | ⟨2, _⟩ => show 0 ≤ c.val ∧ c.val < 0 + 256; omega
  · rw [dif_neg, Function.update_of_ne]
    · rfl
    · intro e'; exact e (congrArg Fin.val e')
    · intro H; have : h ≤ p.val ∧ p.val < h + 1 := H 0; omega

/-- One block of scores replaced. -/
def setS (x : Fin 2 → Fin 4 → FVec F S512x512 .f32) (s : Fin 2) (h : Fin 4) (w : FVec F S512x512 .f32) :
    Fin 2 → Fin 4 → FVec F S512x512 .f32 := Function.update x s (Function.update (x s) h w)

theorem put_joinS (x : Fin 2 → Fin 4 → FVec F S512x512 .f32) (s h : Nat) (hs : s < 2) (hh : h < 4) (w : FVec F S512x512 .f32) :
    VecWindow.put (joinS x) ![s, h, 0, 0] S1x1x512x512.size (shapeCast S1x1x512x512 w shapeCasts_S512x512_S1x1x512x512)
      = joinS (setS x ⟨s, hs⟩ ⟨h, hh⟩ w) := by
  funext y
  obtain ⟨t, p, b, c, rfl⟩ : ∃ (t : Fin 2) (p : Fin 4) (b : Fin 512) (c : Fin 512), y = ix4 t p b c := ⟨y 0, y 1, y 2, y 3, eq_ix4 y⟩
  show _ = setS x ⟨s, hs⟩ ⟨h, hh⟩ w t p (ix2 b c)
  unfold VecWindow.put setS
  by_cases e : t.val = s
  · obtain rfl : t = ⟨s, hs⟩ := Fin.ext e
    by_cases g : p.val = h
    · obtain rfl : p = ⟨h, hh⟩ := Fin.ext g
      rw [dif_pos, Function.update_self, Function.update_self]
      · refine (Idealize.ShloMosaic.shapeCast_apply _ _ _ (ix2 b c) ?_)
        rw [Shape.rowMajor_val_four, Shape.rowMajor_val_two]
        simp
        show b.val * 512 + c.val = (((s - s) + (h - h)) * 512 + (b.val - 0)) * 512 + (c.val - 0)
        omega
      · intro a; match a with
          | ⟨0, _⟩ => show s ≤ s ∧ s < s + 1; omega
          | ⟨1, _⟩ => show h ≤ h ∧ h < h + 1; omega
          | ⟨2, _⟩ => show 0 ≤ b.val ∧ b.val < 0 + 512; omega
          | ⟨3, _⟩ => show 0 ≤ c.val ∧ c.val < 0 + 512; omega
    · rw [dif_neg, Function.update_self, Function.update_of_ne]
      · rfl
      · intro g'; exact g (congrArg Fin.val g')
      · intro H; have : h ≤ p.val ∧ p.val < h + 1 := H 1; omega
  · rw [dif_neg, Function.update_of_ne]
    · rfl
    · intro e'; exact e (congrArg Fin.val e')
    · intro H; have : s ≤ t.val ∧ t.val < s + 1 := H 0; omega

theorem put_joinO (x : Fin 4 → FVec F S512x128 .bf16) (h : Nat) (hh : h < 4) (w : FVec F S512x128 .bf16) :
    VecWindow.put (joinO x) ![0, 128 * h] S512x128.size w = joinO (Function.update x ⟨h, hh⟩ w) := by
  funext y
  obtain ⟨b, c, rfl⟩ : ∃ (b : Fin 512) (c : Fin 512), y = ix2 b c := ⟨y 0, y 1, eq_ix2 y⟩
  show _ = Function.update x ⟨h, hh⟩ w ⟨c.val / 128, by omega⟩ (ix2 b ⟨c.val % 128, Nat.mod_lt _ (by decide)⟩)
  unfold VecWindow.put
  by_cases e : c.val / 128 = h
  · subst e
    rw [dif_pos, Function.update_self]
    · congr 1
      funext a; apply Fin.ext; match a with
        | ⟨0, _⟩ => show b.val - 0 = b.val; omega
        | ⟨1, _⟩ => show c.val - 128 * (c.val / 128) = c.val % 128; omega
    · intro a; match a with
        | ⟨0, _⟩ => show 0 ≤ b.val ∧ b.val < 0 + 512; omega
        | ⟨1, _⟩ => show 128 * (c.val / 128) ≤ c.val ∧ c.val < 128 * (c.val / 128) + 128; omega
  · rw [dif_neg, Function.update_of_ne]
    · rfl
    · intro e'; exact e (congrArg Fin.val e')
    · intro H; have : 128 * h ≤ c.val ∧ c.val < 128 * h + 128 := H 1; omega

theorem joinO_surj (X : Vec F S512x512 .bf16) : ∃ x, X = joinO x := by
  refine ⟨fun h y => X (ix2 (y 0) ⟨128 * h.val + (y 1).val, by have : (y 1).val < 128 := (y 1).isLt; omega⟩), ?_⟩
  funext y
  obtain ⟨b, c, rfl⟩ : ∃ (b : Fin 512) (c : Fin 512), y = ix2 b c := ⟨y 0, y 1, eq_ix2 y⟩
  show X (ix2 b c) = X (ix2 b _)
  congr 2
  apply Fin.ext
  show c.val = 128 * (c.val / 128) + c.val % 128
  omega

theorem put_wholeM (X : Vec F S4x512x128 .f32) (z : F .f32) :
    VecWindow.put X ![0, 0, 0] S4x512x128.size (shapeCast S4x512x128 (broadcast S4x512x128 z) shapeCasts_S4x512x128_S4x512x128)
      = joinM fun _ => broadcast S512x128 z := by
  rw [shapeCast_self]
  funext y
  unfold VecWindow.put
  rw [dif_pos]
  · rfl
  · intro a
    have := (y a).isLt
    match a with
    | ⟨0, _⟩ => exact ⟨Nat.zero_le _, by simpa using this⟩
    | ⟨1, _⟩ => exact ⟨Nat.zero_le _, by simpa using this⟩
    | ⟨2, _⟩ => exact ⟨Nat.zero_le _, by simpa using this⟩

theorem put_wholeA (X : Vec F S4x512x256 .f32) (z : F .f32) :
    VecWindow.put X ![0, 0, 0] S4x512x256.size (shapeCast S4x512x256 (broadcast S4x512x256 z) shapeCasts_S4x512x256_S4x512x256)
      = joinA fun _ => broadcast S512x256 z := by
  rw [shapeCast_self]
  funext y
  unfold VecWindow.put
  rw [dif_pos]
  · rfl
  · intro a
    have := (y a).isLt
    match a with
    | ⟨0, _⟩ => exact ⟨Nat.zero_le _, by simpa using this⟩
    | ⟨1, _⟩ => exact ⟨Nat.zero_le _, by simpa using this⟩
    | ⟨2, _⟩ => exact ⟨Nat.zero_le _, by simpa using this⟩

/-! ## The description and the steps -/

/-- What the body reads: queries, keys, values, mask table and gate. -/
structure In (F : FTy → Type) [FloatOps F] where
  q : Vec F S512x512 .bf16
  k : Vec F S1x16x512x512 .bf16
  v : Vec F S8192x512 .bf16
  b : Vec F S1x2x64x256x128 .bf16
  g : Vec F S512x512 .bf16

/-- What the body writes, by heads: running maxima, running sums, scores in two slots, outputs. -/
structure St (F : FTy → Type) [FloatOps F] where
  m : Fin 4 → FVec F S512x128 .f32
  a : Fin 4 → FVec F S512x256 .f32
  s : Fin 2 → Fin 4 → FVec F S512x512 .f32
  o : Fin 4 → FVec F S512x128 .bf16

/-- The values one head reads at an offset. -/
abbrev In.vAt (I : In F) (o : Fin 2 → Nat) (ho : InbV o) : FVec F S512x128 .bf16 :=
  View.ld I.v (Rect.unit (s := S8192x512) o S512x128.size ho)
/-- The queries of the head whose columns start at `c`. -/
abbrev In.qAt (I : In F) (c : Nat) (hc : c + 128 ≤ 512) : FVec F S512x128 .bf16 :=
  View.ld I.q (Rect.unit (s := S512x512) ![0, c] S512x128.size (inbC c hc))
/-- The gate of the head whose columns start at `c`. -/
abbrev In.gAt (I : In F) (c : Nat) (hc : c + 128 ≤ 512) : FVec F S512x128 .bf16 :=
  View.ld I.g (Rect.unit (s := S512x512) ![0, c] S512x128.size (inbC c hc))
/-- The keys one head reads at an offset. -/
abbrev In.kAt (I : In F) (o : Fin 4 → Nat) (ho : InbK o) : FVec F S128x512 .bf16 :=
  shapeCast S128x512 (View.ld I.k (Rect.unit (s := S1x16x512x512) o S1x1x128x512.size ho) : Vec F S1x1x128x512 .bf16) shapeCasts_S1x1x128x512_S128x512
/-- One tile of the mask table. -/
abbrev In.tile (I : In F) (o : Fin 5 → Nat) (ho : InbB o) : FVec F S256x128 .bf16 :=
  shapeCast S256x128 (View.ld I.b (Rect.unit (s := S1x2x64x256x128) o S1x1x1x256x128.size ho) : Vec F S1x1x1x256x128 .bf16) shapeCasts_S1x1x1x256x128_S256x128
/-- The mask table's values for one block of scores. -/
noncomputable def In.bAt (I : In F) (o : Fin 2 → Fin 4 → Fin 5 → Nat) (ho : ∀ r t, InbB (o r t)) : FVec F S512x512 .f32 :=
  biasBlock (I.tile (o 0 0) (ho 0 0)) (I.tile (o 0 1) (ho 0 1)) (I.tile (o 0 2) (ho 0 2)) (I.tile (o 0 3) (ho 0 3))
    (I.tile (o 1 0) (ho 1 0)) (I.tile (o 1 1) (ho 1 1)) (I.tile (o 1 2) (ho 1 2)) (I.tile (o 1 3) (ho 1 3))

/-- One head's fold. -/
noncomputable def St.upd1 (σ : St F) (s : Fin 2) (h : Fin 4) (v : FVec F S512x128 .bf16) : St F :=
  { σ with m := Function.update σ.m h (mNew (σ.s s h) (σ.m h)), a := Function.update σ.a h (aNew (σ.s s h) (σ.m h) v (σ.a h)) }

/-- All four heads' folds. -/
noncomputable def St.upd (σ : St F) (s : Fin 2) (v : Fin 4 → FVec F S512x128 .bf16) : St F :=
  { σ with m := fun h => mNew (σ.s s h) (σ.m h), a := fun h => aNew (σ.s s h) (σ.m h) (v h) (σ.a h) }

/-- All four heads' scores put in a slot. -/
def St.put (σ : St F) (s : Fin 2) (w : Fin 4 → FVec F S512x512 .f32) : St F := { σ with s := Function.update σ.s s w }

theorem St.upd_eq (σ : St F) (s : Fin 2) (v : Fin 4 → FVec F S512x128 .bf16) :
    ((((σ.upd1 s 0 (v 0)).upd1 s 1 (v 1)).upd1 s 2 (v 2)).upd1 s 3 (v 3)) = σ.upd s v := by
  unfold St.upd1 St.upd
  congr 1 <;> (funext h; fin_cases h <;> simp [Function.update])

theorem St.put_eq (σ : St F) (s : Fin 2) (w : Fin 4 → FVec F S512x512 .f32) :
    ({ σ with s := setS (setS (setS (setS σ.s s 0 (w 0)) s 1 (w 1)) s 2 (w 2)) s 3 (w 3) } : St F) = σ.put s w := by
  unfold St.put setS
  congr 1
  funext t h
  by_cases e : t = s
  · subst e; fin_cases h <;> simp [Function.update]
  · simp [Function.update, e]

section prog

variable (arg3 : Memref sig .tc .vmem S512x512 .bf16) (arg4 : Memref sig .tc .vmem S1x16x512x512 .bf16)
  (arg5 : Memref sig .tc .vmem S8192x512 .bf16) (arg6 : Memref sig .tc .vmem S1x2x64x256x128 .bf16)
  (arg7 arg8 : Memref sig .tc .vmem S512x512 .bf16) (harg8 : arg8.IsWhole)
  (arg9 : Memref sig .tc .vmem S4x512x128 .f32) (arg10 : Memref sig .tc .vmem S4x512x256 .f32)
  (arg11 : Memref sig .tc .vmem S2x4x512x512 .f32)

/-- The buffers hold what `I` and `σ` say. -/
noncomputable def own (c : Dev nD) (I : In F) (σ : St F) : sProp 𝕄 :=
  iprop(owns (c : Thread nD τ) arg3 fullShare I.q ∗ owns (c : Thread nD τ) arg4 fullShare I.k ∗ owns (c : Thread nD τ) arg5 fullShare I.v
    ∗ owns (c : Thread nD τ) arg6 fullShare I.b ∗ owns (c : Thread nD τ) arg7 fullShare I.g
    ∗ owns (c : Thread nD τ) arg8 fullShare (joinO σ.o) ∗ owns (c : Thread nD τ) arg9 fullShare (joinM σ.m)
    ∗ owns (c : Thread nD τ) arg10 fullShare (joinA σ.a) ∗ owns (c : Thread nD τ) arg11 fullShare (joinS σ.s))

/-- The program `p` takes the buffers from `σ` to `σ'`. -/
def Runs (c : Dev nD) (I : In F) (p : KProg F PUnit) (σ σ' : St F) : Prop :=
  own arg3 arg4 arg5 arg6 arg7 arg8 arg9 arg10 arg11 c I σ
    ⊢ wpb c p fun _ => own arg3 arg4 arg5 arg6 arg7 arg8 arg9 arg10 arg11 c I σ'

local notation "Rn" => Runs arg3 arg4 arg5 arg6 arg7 arg8 arg9 arg10 arg11

variable {arg3 arg4 arg5 arg6 arg7 arg8 arg9 arg10 arg11}

theorem Runs.bind {c : Dev nD} {I : In F} {p p' : KProg F PUnit} {σ σ' σ'' : St F} (h : Rn c I p σ σ') (h' : Rn c I p' σ' σ'') :
    Rn c I (p >>= fun _ => p') σ σ'' := by
  unfold Runs wpb at *
  rw [wp_bind]
  exact h.trans (wp_mono _ _ _ fun _ => h')

theorem Runs.pure {c : Dev nD} {I : In F} {σ : St F} : Rn c I (Pure.pure ⟨⟩) σ σ := by
  unfold Runs wpb
  rw [wp_pure]
  exact fupd_intro

variable (arg3 arg4 arg5 arg6 arg7 arg8 arg9 arg10 arg11)

theorem runs_updHead (c : Dev nD) (I : In F) (σ : St F) (slot h : Nat) (hs : slot < 2) (hh : h < 4) (o : Fin 2 → Nat) (ho : InbV o) :
    Rn c I (updHead arg5 arg9 arg10 arg11 slot h hs hh o ho) σ (σ.upd1 ⟨slot, hs⟩ ⟨h, hh⟩ (I.vAt o ho)) := by
  unfold Runs own updHead
  iintro ⟨H3, H4, H5, H6, H7, H8, H9, H10, H11⟩
  iapply (load_owns c arg11 _ _ (joinS σ.s)) $$ H11
  iintro H11
  iapply (load_owns c arg9 _ _ (joinM σ.m)) $$ H9
  iintro H9
  iapply (load_owns c arg5 _ _ I.v) $$ H5
  iintro H5
  iapply (load_owns c arg10 _ _ (joinA σ.a)) $$ H10
  iintro H10
  iapply (load_owns c arg10 _ _ (joinA σ.a)) $$ H10
  iintro H10
  iapply (store_owns c arg10 (inbA h hh) (joinA σ.a)) $$ H10
  iintro H10
  iapply (load_owns c arg9 _ _ (joinM σ.m)) $$ H9
  iintro H9
  iapply (store_owns c arg9 (inbM h hh) (joinM σ.m)) $$ H9
  iintro H9
  rw [put_joinA _ h hh, put_joinM _ h hh, cast_ldS _ slot h hs hh, cast_ldM _ h hh, cast_ldA _ h hh, shapeCast_self]
  unfold wpb
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem runs_scoresHead (c : Dev nD) (I : In F) (σ : St F) (slot h : Nat) (hs : slot < 2) (hh : h < 4) (d : Nat) (hd : d + 128 ≤ 512)
    (o : Fin 4 → Nat) (ho : InbK o) (b : FVec F S512x512 .f32) :
    Rn c I (scoresHead arg3 arg4 arg11 slot h hs hh d hd o ho b) σ
      { σ with s := setS σ.s ⟨slot, hs⟩ ⟨h, hh⟩ (score (I.qAt d hd) (I.kAt o ho) b) } := by
  unfold Runs own scoresHead
  iintro ⟨H3, H4, H5, H6, H7, H8, H9, H10, H11⟩
  iapply (load_owns c arg3 _ _ I.q) $$ H3
  iintro H3
  iapply (load_owns c arg4 _ _ I.k) $$ H4
  iintro H4
  iapply (load_owns c arg11 _ _ (joinS σ.s)) $$ H11
  iintro H11
  iapply (store_owns c arg11 (inbS slot h hs hh) (joinS σ.s)) $$ H11
  iintro H11
  rw [put_joinS _ slot h hs hh, shapeCast_self]
  unfold wpb
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem runs_start (c : Dev nD) (I : In F) (σ : St F) :
    Rn c I (start arg9 arg10) σ
      { σ with m := fun _ => broadcast S512x128 (Named.named κ "mask" 0xF149F2CA#32), a := fun _ => broadcast S512x256 (Scalar.ofBits .f32 0x00000000#32) } := by
  unfold Runs own start
  iintro ⟨H3, H4, H5, H6, H7, H8, H9, H10, H11⟩
  iapply (load_owns c arg9 _ _ (joinM σ.m)) $$ H9
  iintro H9
  iapply (store_owns c arg9 _ (joinM σ.m)) $$ H9
  iintro H9
  iapply (load_owns c arg10 _ _ (joinA σ.a)) $$ H10
  iintro H10
  iapply (store_owns c arg10 _ (joinA σ.a)) $$ H10
  iintro H10
  rw [put_wholeM, put_wholeA]
  unfold wpb
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem runs_emitHead (c : Dev nD) (I : In F) (σ : St F) (h : Nat) (hh : h < 4) (hd : 128 * h + 128 ≤ 512)
    (hp : (Rect.unit (s := S512x512) ![0, 128 * h] S512x128.size (inbC (128 * h) hd)).PackedRows (EltTy.packing .bf16)) :
    Rn c I (emitHead arg7 arg8 harg8 arg10 h hh (128 * h) hd hp) σ
      { σ with o := Function.update σ.o ⟨h, hh⟩ (emit (σ.a ⟨h, hh⟩) (I.gAt (128 * h) hd)) } := by
  unfold Runs own emitHead
  iintro ⟨H3, H4, H5, H6, H7, H8, H9, H10, H11⟩
  iapply (load_owns c arg10 _ _ (joinA σ.a)) $$ H10
  iintro H10
  iapply (load_owns c arg7 _ _ I.g) $$ H7
  iintro H7
  iapply (load_owns c arg8 _ _ (joinO σ.o)) $$ H8
  iintro H8
  iapply (store_owns c arg8 (inbC (128 * h) hd) (joinO σ.o)) $$ H8
  iintro H8
  rw [put_joinO _ h hh, cast_ldA _ h hh, shapeCast_self]
  unfold wpb
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem runs_upd (c : Dev nD) (I : In F) (σ : St F) (slot : Nat) (hs : slot < 2) (o : Fin 4 → Fin 2 → Nat) (ho : ∀ h, InbV (o h)) :
    Rn c I (upd arg5 arg9 arg10 arg11 slot hs o ho) σ (σ.upd ⟨slot, hs⟩ fun h => I.vAt (o h) (ho h)) := by
  rw [← St.upd_eq]
  exact Runs.bind (runs_updHead arg3 arg4 arg5 arg6 arg7 arg8 arg9 arg10 arg11 c I _ slot 0 hs (by decide) _ _) <|
    Runs.bind (runs_updHead arg3 arg4 arg5 arg6 arg7 arg8 arg9 arg10 arg11 c I _ slot 1 hs (by decide) _ _) <|
    Runs.bind (runs_updHead arg3 arg4 arg5 arg6 arg7 arg8 arg9 arg10 arg11 c I _ slot 2 hs (by decide) _ _) <|
    runs_updHead arg3 arg4 arg5 arg6 arg7 arg8 arg9 arg10 arg11 c I _ slot 3 hs (by decide) _ _

/-- A program that begins by loading the mask table's values goes on with them. -/
theorem runs_bias (c : Dev nD) (I : In F) (σ σ' : St F) (o : Fin 2 → Fin 4 → Fin 5 → Nat) (ho : ∀ r t, InbB (o r t))
    (k : FVec F S512x512 .f32 → KProg F PUnit) (hk : Rn c I (k (I.bAt o ho)) σ σ') :
    Rn c I (bias arg6 o ho >>= k) σ σ' := by
  unfold Runs own at hk ⊢
  iintro ⟨H3, H4, H5, H6, H7, H8, H9, H10, H11⟩
  iapply (load_owns c arg6 _ _ I.b) $$ H6
  iintro H6
  iapply (load_owns c arg6 _ _ I.b) $$ H6
  iintro H6
  iapply (load_owns c arg6 _ _ I.b) $$ H6
  iintro H6
  iapply (load_owns c arg6 _ _ I.b) $$ H6
  iintro H6
  iapply (load_owns c arg6 _ _ I.b) $$ H6
  iintro H6
  iapply (load_owns c arg6 _ _ I.b) $$ H6
  iintro H6
  iapply (load_owns c arg6 _ _ I.b) $$ H6
  iintro H6
  iapply (load_owns c arg6 _ _ I.b) $$ H6
  iintro H6
  iapply hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem runs_scores (c : Dev nD) (I : In F) (σ : St F) (slot : Nat) (hs : slot < 2) (ob : Fin 2 → Fin 4 → Fin 5 → Nat) (hob : ∀ r t, InbB (ob r t))
    (ok : Fin 4 → Fin 4 → Nat) (hok : ∀ h, InbK (ok h)) :
    Rn c I (scores arg3 arg4 arg6 arg11 slot hs ob hob ok hok) σ
      (σ.put ⟨slot, hs⟩ fun h => score (I.qAt (128 * h.val) (by omega)) (I.kAt (ok h) (hok h)) (I.bAt ob hob)) := by
  rw [← St.put_eq]
  exact runs_bias arg3 arg4 arg5 arg6 arg7 arg8 arg9 arg10 arg11 c I _ _ ob hob _ <|
    Runs.bind (runs_scoresHead arg3 arg4 arg5 arg6 arg7 arg8 arg9 arg10 arg11 c I _ slot 0 hs (by decide) 0 (by decide) _ _ _) <|
    Runs.bind (runs_scoresHead arg3 arg4 arg5 arg6 arg7 arg8 arg9 arg10 arg11 c I _ slot 1 hs (by decide) 128 (by decide) _ _ _) <|
    Runs.bind (runs_scoresHead arg3 arg4 arg5 arg6 arg7 arg8 arg9 arg10 arg11 c I _ slot 2 hs (by decide) 256 (by decide) _ _ _) <|
    runs_scoresHead arg3 arg4 arg5 arg6 arg7 arg8 arg9 arg10 arg11 c I _ slot 3 hs (by decide) 384 (by decide) _ _ _

theorem runs_step (c : Dev nD) (I : In F) (σ : St F) (slot slot' : Nat) (hs : slot < 2) (hs' : slot' < 2) (ov : Fin 4 → Fin 2 → Nat) (hov : ∀ h, InbV (ov h))
    (ob : Fin 2 → Fin 4 → Fin 5 → Nat) (hob : ∀ r t, InbB (ob r t)) (ok : Fin 4 → Fin 4 → Nat) (hok : ∀ h, InbK (ok h)) :
    Rn c I (step arg3 arg4 arg5 arg6 arg9 arg10 arg11 slot slot' hs hs' ov hov ob hob ok hok) σ
      ((σ.upd ⟨slot, hs⟩ fun h => I.vAt (ov h) (hov h)).put ⟨slot', hs'⟩
        fun h => score (I.qAt (128 * h.val) (by omega)) (I.kAt (ok h) (hok h)) (I.bAt ob hob)) :=
  Runs.bind (runs_upd arg3 arg4 arg5 arg6 arg7 arg8 arg9 arg10 arg11 c I σ slot hs ov hov)
    (runs_scores arg3 arg4 arg5 arg6 arg7 arg8 arg9 arg10 arg11 c I _ slot' hs' ob hob ok hok)

theorem runs_emits (c : Dev nD) (I : In F) (σ : St F) :
    Rn c I (emits arg7 arg8 harg8 arg10) σ { σ with o := fun h => emit (σ.a h) (I.gAt (128 * h.val) (by omega)) } := by
  have e : ({ σ with o := fun h => emit (σ.a h) (I.gAt (128 * h.val) (by omega)) } : St F)
      = { σ with o := Function.update (Function.update (Function.update (Function.update σ.o 0 (emit (σ.a 0) (I.gAt 0 (by omega)))) 1
          (emit (σ.a 1) (I.gAt 128 (by omega)))) 2 (emit (σ.a 2) (I.gAt 256 (by omega)))) 3 (emit (σ.a 3) (I.gAt 384 (by omega))) } := by
    congr 1
    funext h; fin_cases h <;> simp [Function.update]
  rw [e]
  exact Runs.bind (runs_emitHead arg3 arg4 arg5 arg6 arg7 arg8 harg8 arg9 arg10 arg11 c I _ 0 (by decide) (by decide) _) <|
    Runs.bind (runs_emitHead arg3 arg4 arg5 arg6 arg7 arg8 harg8 arg9 arg10 arg11 c I _ 1 (by decide) (by decide) _) <|
    Runs.bind (runs_emitHead arg3 arg4 arg5 arg6 arg7 arg8 harg8 arg9 arg10 arg11 c I _ 2 (by decide) (by decide) _) <|
    runs_emitHead arg3 arg4 arg5 arg6 arg7 arg8 harg8 arg9 arg10 arg11 c I _ 3 (by decide) (by decide) _

end prog

end Cert.KernelIdeal.Attn
-- ==== Proof.Offs.lean ====
/-
  Where the attention body reads, and which of its branches it takes, in plain numbers.

  The printed offsets and conditions are word arithmetic on the third grid coordinate, which is below 16; each of
  them is checked at its 16 values.
-/
module

public import proofs.«01_k».proof.Proof.Struct

@[expose] public section

namespace Cert.KernelIdeal.Attn

open Idealize.ShloMosaic Idealize.SL.Sem

/-- The grid point with the third coordinate `n`. -/
def pt (n : Fin 16) : grid0.Coords := fun a => match a with
  | ⟨0, _⟩ => (0 : Fin 2)
  | ⟨1, _⟩ => (0 : Fin 4)
  | ⟨2, _⟩ => (n : Fin 16)

/-- The third coordinate. -/
abbrev row (i : grid0.Coords) : Fin 16 := i 2

/-- Where chunk `n`'s values of head `h` lie. -/
def offV (n : Nat) (h : Fin 4) : Fin 2 → Nat := ![512 * n, 128 * h.val]
/-- Where chunk `n`'s keys of head `h` lie. -/
def offK (n : Nat) (h : Fin 4) : Fin 4 → Nat := ![0, n, 128 * h.val, 0]
/-- Where chunk `n`'s tiles of the mask table lie. -/
def offB (n : Nat) (r : Fin 2) (u : Fin 4) : Fin 5 → Nat := ![0, r.val, 4 * n + u.val, 0, 0]

theorem trips1 (i : grid0.Coords) : (k0_t1_loop i).trips = (row i).val / 8 :=
  (by decide +kernel : ∀ n : Fin 16, (k0_t1_loop (pt n)).trips = n.val / 8) (row i)
theorem trips2 (i : grid0.Coords) : (k0_t2_loop i).trips = 0 :=
  (by decide +kernel : ∀ n : Fin 16, (k0_t2_loop (pt n)).trips = 0) (row i)

theorem cond1_iff (i : grid0.Coords) : k0_cond1 i = 1#1 ↔ 4 ≤ (row i).val % 8 :=
  (by decide +kernel : ∀ n : Fin 16, k0_cond1 (pt n) = 1#1 ↔ 4 ≤ n.val % 8) (row i)
theorem cond2_iff (i : grid0.Coords) : k0_cond2 i = 1#1 ↔ 2 ≤ (row i).val % 4 :=
  (by decide +kernel : ∀ n : Fin 16, k0_cond2 (pt n) = 1#1 ↔ 2 ≤ n.val % 4) (row i)
theorem cond3_iff (i : grid0.Coords) : k0_cond3 i = 1#1 ↔ (row i).val % 2 = 0 :=
  (by decide +kernel : ∀ n : Fin 16, k0_cond3 (pt n) = 1#1 ↔ n.val % 2 = 0) (row i)
theorem cond4_iff (i : grid0.Coords) : k0_cond4 i = 1#1 ↔ (row i).val % 2 = 1 :=
  (by decide +kernel : ∀ n : Fin 16, k0_cond4 (pt n) = 1#1 ↔ n.val % 2 = 1) (row i)

theorem ov1_eq (i : grid0.Coords) (k : Fin (k0_t1_loop i).trips) (t : Fin 8) (h : Fin 4) :
    ov1 i k t h = offV (8 * k.val + t.val) h :=
  (by decide +kernel : ∀ n : Fin 16, ∀ (k : Fin (k0_t1_loop (pt n)).trips) (t : Fin 8) (h : Fin 4),
    ov1 (pt n) k t h = offV (8 * k.val + t.val) h) (row i) k t h
theorem ok1_eq (i : grid0.Coords) (k : Fin (k0_t1_loop i).trips) (t : Fin 8) (h : Fin 4) :
    ok1 i k t h = offK (8 * k.val + t.val + 1) h :=
  (by decide +kernel : ∀ n : Fin 16, ∀ (k : Fin (k0_t1_loop (pt n)).trips) (t : Fin 8) (h : Fin 4),
    ok1 (pt n) k t h = offK (8 * k.val + t.val + 1) h) (row i) k t h
theorem ob1_eq (i : grid0.Coords) (k : Fin (k0_t1_loop i).trips) (t : Fin 8) (r : Fin 2) (u : Fin 4) :
    ob1 i k t r u = offB (8 * k.val + t.val + 1) r u :=
  (by decide +kernel : ∀ n : Fin 16, ∀ (k : Fin (k0_t1_loop (pt n)).trips) (t : Fin 8) (r : Fin 2) (u : Fin 4),
    ob1 (pt n) k t r u = offB (8 * k.val + t.val + 1) r u) (row i) k t r u

theorem ov3_eq (i : grid0.Coords) (t : Fin 4) (h : Fin 4) : ov3 i t h = offV (8 * ((row i).val / 8) + t.val) h :=
  (by decide +kernel : ∀ n : Fin 16, ∀ (t : Fin 4) (h : Fin 4), ov3 (pt n) t h = offV (8 * (n.val / 8) + t.val) h) (row i) t h
theorem ok3_eq (i : grid0.Coords) (t : Fin 4) (h : Fin 4) : ok3 i t h = offK (8 * ((row i).val / 8) + t.val + 1) h :=
  (by decide +kernel : ∀ n : Fin 16, ∀ (t : Fin 4) (h : Fin 4), ok3 (pt n) t h = offK (8 * (n.val / 8) + t.val + 1) h) (row i) t h
theorem ob3_eq (i : grid0.Coords) (t : Fin 4) (r : Fin 2) (u : Fin 4) : ob3 i t r u = offB (8 * ((row i).val / 8) + t.val + 1) r u :=
  (by decide +kernel : ∀ n : Fin 16, ∀ (t : Fin 4) (r : Fin 2) (u : Fin 4),
    ob3 (pt n) t r u = offB (8 * (n.val / 8) + t.val + 1) r u) (row i) t r u

theorem ov4_eq (i : grid0.Coords) (t : Fin 2) (h : Fin 4) : ov4 i t h = offV (4 * ((row i).val / 4) + t.val) h :=
  (by decide +kernel : ∀ n : Fin 16, ∀ (t : Fin 2) (h : Fin 4), ov4 (pt n) t h = offV (4 * (n.val / 4) + t.val) h) (row i) t h
theorem ok4_eq (i : grid0.Coords) (t : Fin 2) (h : Fin 4) : ok4 i t h = offK (4 * ((row i).val / 4) + t.val + 1) h :=
  (by decide +kernel : ∀ n : Fin 16, ∀ (t : Fin 2) (h : Fin 4), ok4 (pt n) t h = offK (4 * (n.val / 4) + t.val + 1) h) (row i) t h
theorem ob4_eq (i : grid0.Coords) (t : Fin 2) (r : Fin 2) (u : Fin 4) : ob4 i t r u = offB (4 * ((row i).val / 4) + t.val + 1) r u :=
  (by decide +kernel : ∀ n : Fin 16, ∀ (t : Fin 2) (r : Fin 2) (u : Fin 4),
    ob4 (pt n) t r u = offB (4 * (n.val / 4) + t.val + 1) r u) (row i) t r u

theorem ov5_eq (i : grid0.Coords) (h0 : (row i).val % 2 = 0) (h : Fin 4) : ov5 i h = offV (row i).val h :=
  (by decide +kernel : ∀ n : Fin 16, n.val % 2 = 0 → ∀ h : Fin 4, ov5 (pt n) h = offV n.val h) (row i) h0 h
theorem ov6_eq (i : grid0.Coords) (h1 : (row i).val % 2 = 1) (h : Fin 4) : ov6 i h = offV ((row i).val - 1) h :=
  (by decide +kernel : ∀ n : Fin 16, n.val % 2 = 1 → ∀ h : Fin 4, ov6 (pt n) h = offV (n.val - 1) h) (row i) h1 h
theorem ok6_eq (i : grid0.Coords) (h1 : (row i).val % 2 = 1) (h : Fin 4) : ok6 i h = offK (row i).val h :=
  (by decide +kernel : ∀ n : Fin 16, n.val % 2 = 1 → ∀ h : Fin 4, ok6 (pt n) h = offK n.val h) (row i) h1 h
theorem ob6_eq (i : grid0.Coords) (h1 : (row i).val % 2 = 1) (r : Fin 2) (u : Fin 4) : ob6 i r u = offB (row i).val r u :=
  (by decide +kernel : ∀ n : Fin 16, n.val % 2 = 1 → ∀ (r : Fin 2) (u : Fin 4), ob6 (pt n) r u = offB n.val r u) (row i) h1 r u
theorem ov7_eq (i : grid0.Coords) (h1 : (row i).val % 2 = 1) (h : Fin 4) : ov7 i h = offV (row i).val h :=
  (by decide +kernel : ∀ n : Fin 16, n.val % 2 = 1 → ∀ h : Fin 4, ov7 (pt n) h = offV n.val h) (row i) h1 h

end Cert.KernelIdeal.Attn
-- ==== Proof.Body.lean ====
/- The printed body is `body`. -/
module

public import proofs.«01_k».proof.Proof.Struct

@[expose] public section

namespace Cert.KernelIdeal.Attn

open Idealize.ShloMosaic Idealize.SL.Sem Facts₀ Facts

variable {F : FTy → Type} [FloatOps F] [Named F] [Facts]

theorem op_congr {E : Type → Type} {α β : Type} {e : E β} {k k' : β → Prog E α} (h : ∀ v, k v = k' v) :
    Prog.op e k = Prog.op e k' := congrArg (Prog.op e) (funext h)

theorem for_bind_congr {E : Type → Type} {β : Type} {w : Nat} (L : Scf.Loop w) (ok : L.OK) {b b' : Fin L.trips → PUnit → Prog E PUnit} {K K' : PUnit → Prog E β}
    (hb : ∀ k, b k ⟨⟩ = b' k ⟨⟩) (hK : K ⟨⟩ = K' ⟨⟩) :
    (Scf.Loop.for L ok ⟨⟩ b >>= K) = (Scf.Loop.for L ok ⟨⟩ b' >>= K') := by
  obtain rfl : b = b' := funext fun k => funext fun _ => hb k
  obtain rfl : K = K' := funext fun _ => hK
  rfl

theorem for_bind_congr' {E : Type → Type} {β : Type} {w : Nat} (L : Scf.Loop w) (ok : L.OK) {b : Fin L.trips → PUnit → Prog E PUnit} {K K' : PUnit → Prog E β}
    (hK : K ⟨⟩ = K' ⟨⟩) :
    (Scf.Loop.for L ok ⟨⟩ b >>= K) = (Scf.Loop.for L ok ⟨⟩ b >>= K') := by
  obtain rfl : K = K' := funext fun _ => hK
  rfl

theorem dite_bind_congr {E : Type → Type} {β : Type} {p : Prop} {_ : Decidable p} {A : p → Prog E β} {J : Prog E β} {A' : p → Prog E PUnit} {K : PUnit → Prog E β}
    (hJ : J = K ⟨⟩) (hA : ∀ h, A h = A' h >>= fun _ => J) :
    dite p A (fun _ => J) = (dite p A' (fun _ => pure ⟨⟩) >>= K) := by
  obtain rfl : K = fun _ => J := funext fun _ => hJ.symm
  by_cases h : p
  · rw [dif_pos h, dif_pos h]; exact hA h
  · rw [dif_neg h, dif_neg h]; rfl

variable (arg3 : Memref sig .tc .vmem S512x512 .bf16) (harg3 : arg3.IsWhole) (arg4 : Memref sig .tc .vmem S1x16x512x512 .bf16) (harg4 : arg4.IsWhole)
  (arg5 : Memref sig .tc .vmem S8192x512 .bf16) (harg5 : arg5.IsWhole) (arg6 : Memref sig .tc .vmem S1x2x64x256x128 .bf16) (harg6 : arg6.IsWhole)
  (arg7 : Memref sig .tc .vmem S512x512 .bf16) (harg7 : arg7.IsWhole) (arg8 : Memref sig .tc .vmem S512x512 .bf16) (harg8 : arg8.IsWhole)
  (arg9 : Memref sig .tc .vmem S4x512x128 .f32) (harg9 : arg9.IsWhole) (arg10 : Memref sig .tc .vmem S4x512x256 .f32) (harg10 : arg10.IsWhole)
  (arg11 : Memref sig .tc .vmem S2x4x512x512 .f32) (harg11 : arg11.IsWhole)

set_option maxHeartbeats 4000000 in
set_option maxRecDepth 100000 in
set_option pp.maxSteps 14 in
theorem part160_eq (i : grid0.Coords) (v20 : BitVec 32) : ∃ t2 r, ∀ b : FVec F S512x512 .f32, k0_part160 (F := F) i arg3 harg3 arg4 harg4 arg5 harg5 arg6 harg6 arg7 harg7 arg8 harg8 arg9 harg9 arg10 harg10 arg11 harg11 v20 ones b
    = (scoresHead arg3 arg4 arg11 0 3 (by decide) (by decide) 384 (by decide) (ok0 3) (hok0 3) b >>= fun _ =>
      Scf.Loop.for (k0_t1_loop i) (k0_t1_ok i) PUnit.unit (fun k _ => eight arg3 arg4 arg5 arg6 arg9 arg10 arg11 i k) >>= fun _ =>
      Scf.Loop.for (k0_t2_loop i) (k0_t2_ok i) PUnit.unit t2 >>= fun _ => pure r) := by
  apply Exists.intro
  apply Exists.intro
  intro b
  unfold k0_part160
  iterate 4 (apply op_congr; intro _)
  refine for_bind_congr _ _ ?_ ?_
  · intro k
    iterate 448 (apply op_congr; intro _)
    rfl
  · refine for_bind_congr' _ _ ?_
    rfl

set_option maxHeartbeats 4000000 in
set_option maxRecDepth 100000 in
set_option pp.maxSteps 34 in
theorem part161_eq (i : grid0.Coords) (a b c d : BitVec 32) : k0_part161 (F := F) i arg3 harg3 arg4 harg4 arg5 harg5 arg6 harg6 arg7 harg7 arg8 harg8 arg9 harg9 arg10 harg10 arg11 harg11 ones a b c d
    = (conds arg3 arg4 arg5 arg6 arg9 arg10 arg11 i >>= fun _ =>
      Prog.lift (.load arg10 (Rect.unit (s := S4x512x256) ![0, 0, 0] S1x512x256.size inb_S4x512x256_S1x512x256_0_0_0).toLoadRect (View.loadsAt_vmem h_S1x512x256)) >>= fun a =>
      pure (shapeCast S512x256 a shapeCasts_S1x512x256_S512x256)) := by
  unfold k0_part161 conds k0_part144 k0_part145 k0_part146
  simp only [bind_assoc, pure_bind]
  refine dite_bind_congr ?_ fun h => ?_
  · refine dite_bind_congr ?_ fun h => ?_
    · refine dite_bind_congr ?_ fun h => ?_
      · refine dite_bind_congr ?_ fun h => ?_
        · rfl
        · iterate 88 (apply op_congr; intro _)
          rfl
      · iterate 32 (apply op_congr; intro _)
        rfl
    · iterate 112 (apply op_congr; intro _)
      rfl
  · iterate 224 (apply op_congr; intro _)
    rfl

theorem part157_eq (i : grid0.Coords) : ∃ w, k0_part157 (F := F) i arg3 harg3 arg4 harg4 arg5 harg5 arg6 harg6 arg7 harg7 arg8 harg8 arg9 harg9 arg10 harg10 arg11 harg11
    = (start arg9 arg10 >>= fun _ => pure ⟨w, ones⟩) := by
  apply Exists.intro
  unfold k0_part157
  iterate 4 (apply op_congr; intro _)
  rfl

theorem part158_eq (i : grid0.Coords) : k0_part158 (F := F) i arg3 harg3 arg4 harg4 arg5 harg5 arg6 harg6 arg7 harg7 arg8 harg8 arg9 harg9 arg10 harg10 arg11 harg11
    = (bias arg6 ob0 hob0 >>= fun b =>
      Prog.lift (.load arg3 (Rect.unit (s := S512x512) ![0, 0] S512x128.size (inbC 0 (by decide))).toLoadRect (View.loadsAt_vmem h_S512x128)) >>= fun q =>
      pure ⟨b, shapeCast S512x128 q shapeCasts_S512x128_S512x128⟩) := by
  unfold k0_part158
  iterate 9 (apply op_congr; intro _)
  rfl

theorem part159_eq (i : grid0.Coords) (b : FVec F S512x512 .f32) {α : Type} (K : PUnit → KProg F α) :
    ((Prog.lift (.load arg3 (Rect.unit (s := S512x512) ![0, 0] S512x128.size (inbC 0 (by decide))).toLoadRect (View.loadsAt_vmem h_S512x128)) : KProg F (Vec F S512x128 .bf16)) >>= fun q =>
      k0_part159 (F := F) i arg3 harg3 arg4 harg4 arg5 harg5 arg6 harg6 arg7 harg7 arg8 harg8 arg9 harg9 arg10 harg10 arg11 harg11 b (shapeCast S512x128 q shapeCasts_S512x128_S512x128) >>= K)
    = (scoresHead arg3 arg4 arg11 0 0 (by decide) (by decide) 0 (by decide) (ok0 0) (hok0 0) b >>= fun _ =>
      scoresHead arg3 arg4 arg11 0 1 (by decide) (by decide) 128 (by decide) (ok0 1) (hok0 1) b >>= fun _ =>
      scoresHead arg3 arg4 arg11 0 2 (by decide) (by decide) 256 (by decide) (ok0 2) (hok0 2) b >>= K) := by
  unfold k0_part159
  iterate 12 (apply op_congr; intro _)
  rfl

set_option pp.maxSteps 400 in
/-- The printed body, told by heads and chunks. -/
theorem body_eq (i : grid0.Coords) : ∃ t2, cc0_attention (F := F) i arg3 harg3 arg4 harg4 arg5 harg5 arg6 harg6 arg7 harg7 arg8 harg8 arg9 harg9 arg10 harg10 arg11 harg11
    = body arg3 arg4 arg5 arg6 arg7 arg8 harg8 arg9 arg10 arg11 i (Scf.Loop.for (k0_t2_loop i) (k0_t2_ok i) PUnit.unit t2) := by
  obtain ⟨w, hw⟩ := part157_eq (F := F) arg3 harg3 arg4 harg4 arg5 harg5 arg6 harg6 arg7 harg7 arg8 harg8 arg9 harg9 arg10 harg10 arg11 harg11 i
  obtain ⟨t2, r, hr⟩ := part160_eq (F := F) arg3 harg3 arg4 harg4 arg5 harg5 arg6 harg6 arg7 harg7 arg8 harg8 arg9 harg9 arg10 harg10 arg11 harg11 i w
  refine ⟨t2, ?_⟩
  unfold cc0_attention
  simp only [hw, part158_eq, bind_assoc, pure_bind, hr, part161_eq, part159_eq, body, scores]
  refine bind_congr fun _ => bind_congr fun _ => bind_congr fun _ => bind_congr fun _ => bind_congr fun _ => bind_congr fun _ => bind_congr fun _ => bind_congr fun _ => bind_congr fun _ => ?_
  iterate 15 (apply op_congr; intro _)
  rfl

end Cert.KernelIdeal.Attn
-- ==== Proof.Run.lean ====
/-
  What the attention body computes: the fold of the chunks up to the diagonal.

  `fold I h n` is head `h`'s running maximum and running sums after the first `n` chunks of 512 keys; the body at
  the grid point with third coordinate `r` leaves head `h`'s output at `emit` of the sums after `r + 1` chunks.
-/
module

public import proofs.«01_k».proof.Proof.Steps
public import proofs.«01_k».proof.Proof.Offs
public import proofs.«01_k».proof.Proof.Body

@[expose] public section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Named F] [Facts]

local notation "𝕄" => MT nD τ sig Unit (Elt F) ℕ (UR sig nD τ) ℕ

/-! ## The chunks -/

theorem inbV_off (n : Nat) (hn : n < 16) (h : Fin 4) : InbV (offV n h) := by
  intro a; fin_cases a <;> simp [offV, S512x128, S8192x512, Shape.size] <;> omega
theorem inbK_off (n : Nat) (hn : n < 16) (h : Fin 4) : InbK (offK n h) := by
  intro a; fin_cases a <;> simp [offK, S1x1x128x512, S1x16x512x512, Shape.size] <;> omega
theorem inbB_off (n : Nat) (hn : n < 16) (r : Fin 2) (u : Fin 4) : InbB (offB n r u) := by
  intro a; fin_cases a <;> simp [offB, S1x1x1x256x128, S1x2x64x256x128, Shape.size] <;> omega

/-- Chunk `n`'s values of head `h`. -/
noncomputable def vChunk (I : In F) (h : Fin 4) (n : Nat) : FVec F S512x128 .bf16 :=
  I.vAt (offV (n % 16) h) (inbV_off _ (Nat.mod_lt _ (by decide)) h)
/-- Chunk `n`'s scores of head `h`. -/
noncomputable def sChunk (I : In F) (h : Fin 4) (n : Nat) : FVec F S512x512 .f32 :=
  score (I.qAt (128 * h.val) (by omega)) (I.kAt (offK (n % 16) h) (inbK_off _ (Nat.mod_lt _ (by decide)) h))
    (I.bAt (offB (n % 16)) fun r u => inbB_off _ (Nat.mod_lt _ (by decide)) r u)

theorem vChunk_of (I : In F) (n : Nat) (hn : n < 16) (o : Fin 4 → Fin 2 → Nat) (ho : ∀ h, InbV (o h)) (e : ∀ h, o h = offV n h) :
    (fun h => I.vAt (o h) (ho h)) = fun h => vChunk I h n := by
  obtain rfl : o = offV n := funext e
  funext h
  unfold vChunk
  congr 2 <;> rw [Nat.mod_eq_of_lt hn]

theorem sChunk_of (I : In F) (n : Nat) (hn : n < 16) (ob : Fin 2 → Fin 4 → Fin 5 → Nat) (hob : ∀ r t, InbB (ob r t))
    (ok : Fin 4 → Fin 4 → Nat) (hok : ∀ h, InbK (ok h)) (eb : ∀ r u, ob r u = offB n r u) (ek : ∀ h, ok h = offK n h) :
    (fun h : Fin 4 => score (I.qAt (128 * h.val) (by omega)) (I.kAt (ok h) (hok h)) (I.bAt ob hob)) = fun h => sChunk I h n := by
  obtain rfl : ob = offB n := funext fun r => funext (eb r)
  obtain rfl : ok = offK n := funext ek
  funext h
  unfold sChunk
  have e : n % 16 = n := Nat.mod_eq_of_lt hn
  congr! 2 <;> rw [e]

/-- Head `h`'s running maximum and sums after `n` chunks. -/
noncomputable def fold (I : In F) (h : Fin 4) : Nat → FVec F S512x128 .f32 × FVec F S512x256 .f32
  | 0 => (broadcast S512x128 (Named.named κ "mask" 0xF149F2CA#32), broadcast S512x256 (Scalar.ofBits .f32 0x00000000#32))
  | n + 1 => (mNew (sChunk I h n) (fold I h n).1, aNew (sChunk I h n) (fold I h n).1 (vChunk I h n) (fold I h n).2)

/-- The first `n` chunks are folded, and the next one's scores lie in their slot. -/
structure At (I : In F) (n : Nat) (σ : St F) : Prop where
  m : σ.m = fun h => (fold I h n).1
  a : σ.a = fun h => (fold I h n).2
  s : σ.s ⟨n % 2, Nat.mod_lt _ (by decide)⟩ = fun h => sChunk I h n

/-- The first `n` chunks are folded. -/
structure Done (I : In F) (n : Nat) (σ : St F) : Prop where
  m : σ.m = fun h => (fold I h n).1
  a : σ.a = fun h => (fold I h n).2

theorem Done.upd {I : In F} {n : Nat} {σ : St F} (H : At I n σ) :
    Done I (n + 1) (σ.upd ⟨n % 2, Nat.mod_lt _ (by decide)⟩ fun h => vChunk I h n) := by
  constructor
  · show (fun h => mNew (σ.s _ h) (σ.m h)) = _
    rw [H.s, H.m]; rfl
  · show (fun h => aNew (σ.s _ h) (σ.m h) _ (σ.a h)) = _
    rw [H.s, H.m, H.a]; rfl

theorem At.put {I : In F} {n : Nat} {σ : St F} (H : Done I n σ) :
    At I n (σ.put ⟨n % 2, Nat.mod_lt _ (by decide)⟩ fun h => sChunk I h n) :=
  ⟨H.m, H.a, by unfold St.put; exact Function.update_self ..⟩

section prog

variable (arg3 : Memref sig .tc .vmem S512x512 .bf16) (arg4 : Memref sig .tc .vmem S1x16x512x512 .bf16)
  (arg5 : Memref sig .tc .vmem S8192x512 .bf16) (arg6 : Memref sig .tc .vmem S1x2x64x256x128 .bf16)
  (arg7 arg8 : Memref sig .tc .vmem S512x512 .bf16) (harg8 : arg8.IsWhole)
  (arg9 : Memref sig .tc .vmem S4x512x128 .f32) (arg10 : Memref sig .tc .vmem S4x512x256 .f32)
  (arg11 : Memref sig .tc .vmem S2x4x512x512 .f32)

local notation "Rn" => Runs arg3 arg4 arg5 arg6 arg7 arg8 arg9 arg10 arg11

/-- From any state with `P` the program reaches a state with `P'`. -/
def Tri (c : Dev nD) (I : In F) (p : KProg F PUnit) (P P' : St F → Prop) : Prop :=
  ∀ σ, P σ → ∃ σ', P' σ' ∧ Runs arg3 arg4 arg5 arg6 arg7 arg8 arg9 arg10 arg11 c I p σ σ'

local notation "Tr" => Tri arg3 arg4 arg5 arg6 arg7 arg8 arg9 arg10 arg11

variable {arg3 arg4 arg5 arg6 arg7 arg8 arg9 arg10 arg11}

theorem Tri.bind {c : Dev nD} {I : In F} {p p' : KProg F PUnit} {P P' P'' : St F → Prop} (h : Tr c I p P P') (h' : Tr c I p' P' P'') :
    Tr c I (p >>= fun _ => p') P P'' := fun σ hσ => by
  obtain ⟨σ', h1, r1⟩ := h σ hσ
  obtain ⟨σ'', h2, r2⟩ := h' σ' h1
  exact ⟨σ'', h2, r1.bind r2⟩

theorem Tri.skip {c : Dev nD} {I : In F} {P P' : St F → Prop} (h : ∀ σ, P σ → P' σ) : Tr c I (Pure.pure ⟨⟩) P P' :=
  fun σ hσ => ⟨σ, h σ hσ, .pure⟩

variable (arg3 arg4 arg5 arg6 arg7 arg8 arg9 arg10 arg11)

theorem tri_step (c : Dev nD) (I : In F) (n : Nat) (hn : n + 1 < 16) (slot slot' : Nat) (hs : slot < 2) (hs' : slot' < 2)
    (ov : Fin 4 → Fin 2 → Nat) (hov : ∀ h, InbV (ov h)) (ob : Fin 2 → Fin 4 → Fin 5 → Nat) (hob : ∀ r t, InbB (ob r t))
    (ok : Fin 4 → Fin 4 → Nat) (hok : ∀ h, InbK (ok h)) (ev : ∀ h, ov h = offV n h) (eb : ∀ r u, ob r u = offB (n + 1) r u)
    (ek : ∀ h, ok h = offK (n + 1) h) (es : slot = n % 2) (es' : slot' = (n + 1) % 2) :
    Tr c I (step arg3 arg4 arg5 arg6 arg9 arg10 arg11 slot slot' hs hs' ov hov ob hob ok hok) (At I n) (At I (n + 1)) := fun σ H => by
  subst es es'
  refine ⟨_, ?_, runs_step arg3 arg4 arg5 arg6 arg7 arg8 arg9 arg10 arg11 c I σ _ _ hs hs' ov hov ob hob ok hok⟩
  rw [sChunk_of I (n + 1) hn ob hob ok hok eb ek, vChunk_of I n (by omega) ov hov ev]
  exact At.put (Done.upd H)

theorem tri_upd (c : Dev nD) (I : In F) (n : Nat) (hn : n < 16) (slot : Nat) (hs : slot < 2)
    (ov : Fin 4 → Fin 2 → Nat) (hov : ∀ h, InbV (ov h)) (ev : ∀ h, ov h = offV n h) (es : slot = n % 2) :
    Tr c I (upd arg5 arg9 arg10 arg11 slot hs ov hov) (At I n) (Done I (n + 1)) := fun σ H => by
  subst es
  refine ⟨_, ?_, runs_upd arg3 arg4 arg5 arg6 arg7 arg8 arg9 arg10 arg11 c I σ _ hs ov hov⟩
  rw [vChunk_of I n hn ov hov ev]
  exact Done.upd H

theorem tri_begin (c : Dev nD) (I : In F) : Tr c I (start arg9 arg10) (fun _ => True) (Done I 0) := fun σ _ =>
  ⟨_, ⟨rfl, rfl⟩, runs_start arg3 arg4 arg5 arg6 arg7 arg8 arg9 arg10 arg11 c I σ⟩

theorem tri_first (c : Dev nD) (I : In F) :
    Tr c I (scores arg3 arg4 arg6 arg11 0 (by decide) ob0 hob0 ok0 hok0) (Done I 0) (At I 0) := fun σ H => by
  refine ⟨_, ?_, runs_scores arg3 arg4 arg5 arg6 arg7 arg8 arg9 arg10 arg11 c I σ 0 (by decide) ob0 hob0 ok0 hok0⟩
  rw [sChunk_of I 0 (by decide) ob0 hob0 ok0 hok0 (fun r u => by unfold ob0 offB; simp) (fun h => by unfold ok0 offK; rfl)]
  exact At.put H

section body
variable (i : grid0.Coords)

theorem tri_eight (c : Dev nD) (I : In F) (k : Fin (k0_t1_loop i).trips) :
    Tr c I (eight arg3 arg4 arg5 arg6 arg9 arg10 arg11 i k) (At I (8 * k.val)) (At I (8 * (k.val + 1))) := by
  have hk : 8 * k.val + 8 < 16 := by
    have h1 := k.isLt; have h2 := trips1 i; have h3 := (row i).isLt; omega
  have st (t : Fin 8) (slot slot' : Nat) (hs : slot < 2) (hs' : slot' < 2) (es : slot = t.val % 2) (es' : slot' = (t.val + 1) % 2) :
      Tr c I (step1 arg3 arg4 arg5 arg6 arg9 arg10 arg11 i k t slot slot' hs hs') (At I (8 * k.val + t.val)) (At I (8 * k.val + t.val + 1)) :=
    tri_step arg3 arg4 arg5 arg6 arg7 arg8 arg9 arg10 arg11 c I (8 * k.val + t.val) (by omega) slot slot' hs hs' _ _ _ _ _ _
      (ov1_eq i k t) (ob1_eq i k t) (ok1_eq i k t) (by omega) (by omega)
  exact Tri.bind (st 0 0 1 _ _ rfl rfl) <| Tri.bind (st 1 1 0 _ _ rfl rfl) <| Tri.bind (st 2 0 1 _ _ rfl rfl) <|
    Tri.bind (st 3 1 0 _ _ rfl rfl) <| Tri.bind (st 4 0 1 _ _ rfl rfl) <| Tri.bind (st 5 1 0 _ _ rfl rfl) <|
    Tri.bind (st 6 0 1 _ _ rfl rfl) (st 7 1 0 _ _ rfl rfl)

theorem tri_four (c : Dev nD) (I : In F) (hc : k0_cond1 i = 1#1) :
    Tr c I (four arg3 arg4 arg5 arg6 arg9 arg10 arg11 i hc) (At I (8 * ((row i).val / 8))) (At I (8 * ((row i).val / 8) + 4)) := by
  have h1 := (cond1_iff i).mp hc
  have h3 := (row i).isLt
  have st (t : Fin 4) (slot slot' : Nat) (hs : slot < 2) (hs' : slot' < 2) (es : slot = t.val % 2) (es' : slot' = (t.val + 1) % 2) :
      Tr c I (step3 arg3 arg4 arg5 arg6 arg9 arg10 arg11 i hc t slot slot' hs hs') (At I (8 * ((row i).val / 8) + t.val)) (At I (8 * ((row i).val / 8) + t.val + 1)) :=
    tri_step arg3 arg4 arg5 arg6 arg7 arg8 arg9 arg10 arg11 c I (8 * ((row i).val / 8) + t.val) (by omega) slot slot' hs hs' _ _ _ _ _ _
      (ov3_eq i t) (ob3_eq i t) (ok3_eq i t) (by omega) (by omega)
  exact Tri.bind (st 0 0 1 _ _ rfl rfl) <| Tri.bind (st 1 1 0 _ _ rfl rfl) <| Tri.bind (st 2 0 1 _ _ rfl rfl) (st 3 1 0 _ _ rfl rfl)

theorem tri_two (c : Dev nD) (I : In F) (hc : k0_cond2 i = 1#1) :
    Tr c I (two arg3 arg4 arg5 arg6 arg9 arg10 arg11 i hc) (At I (4 * ((row i).val / 4))) (At I (4 * ((row i).val / 4) + 2)) := by
  have h1 := (cond2_iff i).mp hc
  have h3 := (row i).isLt
  have st (t : Fin 2) (slot slot' : Nat) (hs : slot < 2) (hs' : slot' < 2) (es : slot = t.val % 2) (es' : slot' = (t.val + 1) % 2) :
      Tr c I (step4 arg3 arg4 arg5 arg6 arg9 arg10 arg11 i hc t slot slot' hs hs') (At I (4 * ((row i).val / 4) + t.val)) (At I (4 * ((row i).val / 4) + t.val + 1)) :=
    tri_step arg3 arg4 arg5 arg6 arg7 arg8 arg9 arg10 arg11 c I (4 * ((row i).val / 4) + t.val) (by omega) slot slot' hs hs' _ _ _ _ _ _
      (ov4_eq i t) (ob4_eq i t) (ok4_eq i t) (by omega) (by omega)
  exact Tri.bind (st 0 0 1 _ _ rfl rfl) (st 1 1 0 _ _ rfl rfl)

theorem tri_conds (c : Dev nD) (I : In F) :
    Tr c I (conds arg3 arg4 arg5 arg6 arg9 arg10 arg11 i) (At I (8 * ((row i).val / 8))) (Done I ((row i).val + 1)) := by
  have h3 := (row i).isLt
  have a1 : Tr c I (if hc : k0_cond1 i = 1#1 then four arg3 arg4 arg5 arg6 arg9 arg10 arg11 i hc else pure ⟨⟩)
      (At I (8 * ((row i).val / 8))) (At I (4 * ((row i).val / 4))) := by
    by_cases hc : k0_cond1 i = 1#1
    · rw [dif_pos hc]
      have := (cond1_iff i).mp hc
      rw [show 4 * ((row i).val / 4) = 8 * ((row i).val / 8) + 4 by omega]
      exact tri_four arg3 arg4 arg5 arg6 arg7 arg8 arg9 arg10 arg11 i c I hc
    · rw [dif_neg hc]
      have := mt (cond1_iff i).mpr hc
      rw [show 4 * ((row i).val / 4) = 8 * ((row i).val / 8) by omega]
      exact Tri.skip fun _ h => h
  have a2 : Tr c I (if hc : k0_cond2 i = 1#1 then two arg3 arg4 arg5 arg6 arg9 arg10 arg11 i hc else pure ⟨⟩)
      (At I (4 * ((row i).val / 4))) (At I (2 * ((row i).val / 2))) := by
    by_cases hc : k0_cond2 i = 1#1
    · rw [dif_pos hc]
      have := (cond2_iff i).mp hc
      rw [show 2 * ((row i).val / 2) = 4 * ((row i).val / 4) + 2 by omega]
      exact tri_two arg3 arg4 arg5 arg6 arg7 arg8 arg9 arg10 arg11 i c I hc
    · rw [dif_neg hc]
      have := mt (cond2_iff i).mpr hc
      rw [show 2 * ((row i).val / 2) = 4 * ((row i).val / 4) by omega]
      exact Tri.skip fun _ h => h
  by_cases e : (row i).val % 2 = 0
  · have hc3 := (cond3_iff i).mpr e
    have hc4 : ¬ k0_cond4 i = 1#1 := mt (cond4_iff i).mp (by omega)
    refine Tri.bind a1 (Tri.bind a2 ?_)
    rw [dif_pos hc3, dif_neg hc4, show 2 * ((row i).val / 2) = (row i).val by omega]
    exact Tri.bind (tri_upd arg3 arg4 arg5 arg6 arg7 arg8 arg9 arg10 arg11 c I (row i).val h3 0 (by decide) _ _ (ov5_eq i e) (by omega))
      (Tri.skip fun _ h => h)
  · have e1 : (row i).val % 2 = 1 := by omega
    have hc3 : ¬ k0_cond3 i = 1#1 := mt (cond3_iff i).mp e
    have hc4 := (cond4_iff i).mpr e1
    refine Tri.bind a1 (Tri.bind a2 ?_)
    rw [dif_neg hc3, dif_pos hc4]
    have ea : 2 * ((row i).val / 2) = (row i).val - 1 := by omega
    have eb : (row i).val - 1 + 1 = (row i).val := by omega
    refine Tri.bind (Tri.skip fun _ h => h) (Tri.bind (P' := At I (row i).val) ?_ ?_)
    · have := tri_step arg3 arg4 arg5 arg6 arg7 arg8 arg9 arg10 arg11 c I ((row i).val - 1) (by omega) 0 1 (by decide) (by decide) (ov6 i) (hov6 i hc4)
        (ob6 i) (hob6 i hc4) (ok6 i) (hok6 i hc4) (ov6_eq i e1) (by rw [eb]; exact ob6_eq i e1) (by rw [eb]; exact ok6_eq i e1) (by omega) (by omega)
      rw [eb] at this
      rw [ea]
      exact this
    · exact tri_upd arg3 arg4 arg5 arg6 arg7 arg8 arg9 arg10 arg11 c I (row i).val h3 1 (by decide) _ _ (ov7_eq i e1) (by omega)

/-- The output of head `h`: the sums after the chunks up to the diagonal, normalised and gated. -/
noncomputable def out (I : In F) (r : Fin 16) (h : Fin 4) : FVec F S512x128 .bf16 :=
  emit (fold I h (r.val + 1)).2 (I.gAt (128 * h.val) (by omega))

/-- Some state with `P`. -/
noncomputable abbrev Some' (c : Dev nD) (I : In F) (P : St F → Prop) : sProp 𝕄 :=
  iprop(∃ σ : St F, ⌜P σ⌝ ∗ own arg3 arg4 arg5 arg6 arg7 arg8 arg9 arg10 arg11 c I σ)

local notation "Sm" => Some' arg3 arg4 arg5 arg6 arg7 arg8 arg9 arg10 arg11

variable {arg3 arg4 arg5 arg6 arg7 arg8 arg9 arg10 arg11} in
theorem Tri.wp {c : Dev nD} {I : In F} {p : KProg F PUnit} {P P' : St F → Prop}
    (h : Tri arg3 arg4 arg5 arg6 arg7 arg8 arg9 arg10 arg11 c I p P P') : Sm c I P ⊢ wpb c p fun _ => Sm c I P' := by
  iintro HS
  icases HS with ⟨%σ, %hσ, HS⟩
  obtain ⟨σ', h1, r⟩ := h σ hσ
  iapply (r.trans (wp_mono _ _ _ fun _ => ?_)) $$ HS
  iintro H
  iexists σ'
  isplitr
  · ipureintro
    exact h1
  · iexact H

theorem wp_chain {c : Dev nD} {p p' : KProg F PUnit} {A B C : sProp 𝕄} (h : A ⊢ wpb c p fun _ => B) (h' : B ⊢ wpb c p' fun _ => C) :
    A ⊢ wpb c (p >>= fun _ => p') fun _ => C := by
  unfold wpb at h h' ⊢
  rw [wp_bind]
  exact h.trans (wp_mono _ _ _ fun _ => h')

theorem wp_for' {w : Nat} {L : Scf.Loop w} {I : Nat → sProp 𝕄} (c : Dev nD) (ok : L.OK) {b : Fin L.trips → PUnit → KProg F PUnit}
    (hb : ∀ k : Fin L.trips, I k.val ⊢ wpb c (b k ⟨⟩) fun _ => I (k.val + 1)) :
    I 0 ⊢ wpb c (Scf.Loop.for L ok PUnit.unit b) fun _ => I L.trips := by
  have w := Scf.wp_for frame (wpE (defs₀ (F := F)) Variants.none (c : Thread nD τ) none) Set.univ L.lb L.ub L.st ok PUnit.unit b
    (fun k _ => I k) (fun k _ => hb k) (Q := fun _ => I L.trips)
  unfold wpb
  refine .trans ?_ w
  iintro H
  isplitl [H]
  · iexact H
  · iintro %acc H
    iexact H

theorem wp_loop1 (c : Dev nD) (I : In F) :
    Sm c I (At I 0) ⊢ wpb c (Scf.Loop.for (k0_t1_loop i) (k0_t1_ok i) PUnit.unit fun k _ => eight arg3 arg4 arg5 arg6 arg9 arg10 arg11 i k)
      fun _ => Sm c I (At I (8 * ((row i).val / 8))) := by
  have hb (k : Fin (k0_t1_loop i).trips) := (tri_eight arg3 arg4 arg5 arg6 arg7 arg8 arg9 arg10 arg11 i c I k).wp
  have e : (k0_t1_loop i).trips = (row i).val / 8 := trips1 i
  have w := wp_for' (I := fun k => Sm c I (At I (8 * k))) c (k0_t1_ok i) (b := fun k _ => eight arg3 arg4 arg5 arg6 arg9 arg10 arg11 i k) hb
  rw [← e]
  exact w

theorem wp_loop2 (c : Dev nD) (I : In F) (P : St F → Prop) (t2 : Fin (k0_t2_loop i).trips → PUnit → KProg F PUnit) :
    Sm c I P ⊢ wpb c (Scf.Loop.for (k0_t2_loop i) (k0_t2_ok i) PUnit.unit t2) fun _ => Sm c I P := by
  have e := trips2 i
  exact wp_for' (I := fun _ => Sm c I P) c (k0_t2_ok i) fun k => absurd k.isLt (by omega)

theorem tri_emits (c : Dev nD) (I : In F) :
    Tr c I (emits arg7 arg8 harg8 arg10) (Done I ((row i).val + 1)) (fun σ => σ.o = out I (row i)) := fun σ H => by
  refine ⟨_, ?_, runs_emits arg3 arg4 arg5 arg6 arg7 arg8 harg8 arg9 arg10 arg11 c I σ⟩
  funext h
  show emit (σ.a h) _ = _
  rw [H.a]; rfl

/-- The body, from any state, ends with the output block at `out`. -/
theorem wp_body (c : Dev nD) (I : In F) (t2 : Fin (k0_t2_loop i).trips → PUnit → KProg F PUnit) :
    Sm c I (fun _ => True)
      ⊢ wpb c (body arg3 arg4 arg5 arg6 arg7 arg8 harg8 arg9 arg10 arg11 i (Scf.Loop.for (k0_t2_loop i) (k0_t2_ok i) PUnit.unit t2))
        fun _ => Sm c I fun σ => σ.o = out I (row i) := by
  unfold body
  exact wp_chain (tri_begin arg3 arg4 arg5 arg6 arg7 arg8 arg9 arg10 arg11 c I).wp <|
    wp_chain (tri_first arg3 arg4 arg5 arg6 arg7 arg8 arg9 arg10 arg11 c I).wp <|
    wp_chain (wp_loop1 arg3 arg4 arg5 arg6 arg7 arg8 arg9 arg10 arg11 i c I) <|
    wp_chain (wp_loop2 arg3 arg4 arg5 arg6 arg7 arg8 arg9 arg10 arg11 i c I _ t2) <|
    wp_chain (tri_conds arg3 arg4 arg5 arg6 arg7 arg8 arg9 arg10 arg11 i c I).wp
      (tri_emits arg3 arg4 arg5 arg6 arg7 arg8 harg8 arg9 arg10 arg11 i c I).wp

variable (harg3 : arg3.IsWhole) (harg4 : arg4.IsWhole) (harg5 : arg5.IsWhole) (harg6 : arg6.IsWhole) (harg7 : arg7.IsWhole)
  (harg9 : arg9.IsWhole) (harg10 : arg10.IsWhole) (harg11 : arg11.IsWhole)

/-- The printed body, with any contents in the buffers it writes, ends with the output block at `out`. -/
theorem wp_attention (c : Dev nD) (I : In F) (o : Vec F S512x512 .bf16) (m : Vec F S4x512x128 .f32) (a : Vec F S4x512x256 .f32)
    (s : Vec F S2x4x512x512 .f32) :
    iprop(owns (c : Thread nD τ) arg3 fullShare I.q ∗ owns (c : Thread nD τ) arg4 fullShare I.k ∗ owns (c : Thread nD τ) arg5 fullShare I.v
      ∗ owns (c : Thread nD τ) arg6 fullShare I.b ∗ owns (c : Thread nD τ) arg7 fullShare I.g ∗ owns (c : Thread nD τ) arg8 fullShare o
      ∗ owns (c : Thread nD τ) arg9 fullShare m ∗ owns (c : Thread nD τ) arg10 fullShare a ∗ owns (c : Thread nD τ) arg11 fullShare s)
    ⊢ wpb c (cc0_attention (F := F) i arg3 harg3 arg4 harg4 arg5 harg5 arg6 harg6 arg7 harg7 arg8 harg8 arg9 harg9 arg10 harg10 arg11 harg11) fun _ =>
      iprop(owns (c : Thread nD τ) arg3 fullShare I.q ∗ owns (c : Thread nD τ) arg4 fullShare I.k ∗ owns (c : Thread nD τ) arg5 fullShare I.v
        ∗ owns (c : Thread nD τ) arg6 fullShare I.b ∗ owns (c : Thread nD τ) arg7 fullShare I.g
        ∗ owns (c : Thread nD τ) arg8 fullShare (joinO (out I (row i)))
        ∗ (∃ m, owns (c : Thread nD τ) arg9 fullShare m) ∗ (∃ a, owns (c : Thread nD τ) arg10 fullShare a)
        ∗ (∃ s, owns (c : Thread nD τ) arg11 fullShare s)) := by
  obtain ⟨o, rfl⟩ := joinO_surj o
  obtain ⟨m, rfl⟩ := joinM_surj m
  obtain ⟨a, rfl⟩ := joinA_surj a
  obtain ⟨s, rfl⟩ := joinS_surj s
  obtain ⟨t2, e⟩ := body_eq (F := F) arg3 harg3 arg4 harg4 arg5 harg5 arg6 harg6 arg7 harg7 arg8 harg8 arg9 harg9 arg10 harg10 arg11 harg11 i
  rw [e]
  have w := wp_body arg3 arg4 arg5 arg6 arg7 arg8 harg8 arg9 arg10 arg11 i c I t2
  have h0 : own arg3 arg4 arg5 arg6 arg7 arg8 arg9 arg10 arg11 c I ⟨m, a, s, o⟩ ⊢ Sm c I (fun _ => True) := by
    iintro H
    iexists (⟨m, a, s, o⟩ : St F)
    isplitr
    · ipureintro; trivial
    · iexact H
  unfold wpb at w ⊢
  refine (show _ ⊢ own arg3 arg4 arg5 arg6 arg7 arg8 arg9 arg10 arg11 c I ⟨m, a, s, o⟩ from .rfl).trans (h0.trans (w.trans (wp_mono _ _ _ fun _ => ?_)))
  iintro H
  icases H with ⟨%σ, %hσ, H⟩
  unfold own
  icases H with ⟨H3, H4, H5, H6, H7, H8, H9, H10, H11⟩
  rw [hσ]
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end body
end prog

end Cert.KernelIdeal.Attn
-- ==== Proof.Launch.lean ====
/-
  The launch: the pipeline's proof data with the body's output block, the run, and the frame.
-/
module

public import proofs.«01_k».proof.Proof.Run
public import proofs.«01_k».proof.Proof.Gen.KernelIdeal.Frame
public import Idealize.ShloMosaic.Lib.Claim

@[expose] public section

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- The input blocks at point `t`. -/
def ins (c : Dev nD) (t : Fin cfg0.N) : In F := ⟨iblk m c 0 t, iblk m c 1 t, iblk m c 2 t, iblk m c 3 t, iblk m c 4 t⟩

/-- The output block at point `t`. -/
def outB (c : Dev nD) (t : Fin cfg0.N) : Vec F S512x512 .bf16 := joinO (out (ins m c t) (row (grid0.coords t)))

/-- The proof data: inputs at their blocks, the output at `outB`; arrays read by two windows at their shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The class's invariant spelt out: the three scratch buffers at any contents, and the generator register. -/
theorem inv_eq (c : Dev nD) : (Pipeline.ΦA spec0 c : sProp 𝕄) = iprop(((∃ x : Vec F S4x512x128 .f32, owns (c : Thread nD τ) (Memref.whole cc0_scratch0) fullShare x)
    ∗ (∃ x : Vec F S4x512x256 .f32, owns (c : Thread nD τ) (Memref.whole cc0_scratch1) fullShare x)
    ∗ (∃ x : Vec F S2x4x512x512 .f32, owns (c : Thread nD τ) (Memref.whole cc0_scratch2) fullShare x)) ∗ ∃ r, prngReg c r) := by
  unfold Pipeline.ΦA
  rw [scopedRest0_eq]
  simp only [owns_whole]
  rfl

/-- A triple used under a continuation. -/
theorem wp_use {c : Dev nD} {p : KProg F PUnit} {A B : sProp 𝕄} (h : A ⊢ wpb c p fun _ => B) (K : sProp 𝕄) :
    iprop(A ∗ (B -∗ K)) ⊢ wp frame (wpE (defs₀ (F := F)) Variants.none (c : Thread nD τ) none) Set.univ p fun _ => K := by
  refine .trans ?_ (wp_wand_r (Q := fun _ => B) frame _ _)
  iintro ⟨HA, HK⟩
  isplitl [HA]
  · iapply h
    iexact HA
  · iintro %a HB
    iapply HK
    iexact HB

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, inv_eq]
  iintro ⟨⟨⟨⟨%s0, S0⟩, ⟨%s1, S1⟩, ⟨%s2, S2⟩⟩, HP⟩, Ho, ⟨%d0, H0⟩, ⟨%d1, H1⟩, ⟨%d2, H2⟩, ⟨%d3, H3⟩, ⟨%d4, H4⟩, ⟨%d5, H5⟩⟩
  have w := wp_attention (st0_0 t) (st0_1 t) (st0_2 t) (st0_3 t) (st0_4 t) (st0_5 t) (hstage0_5 ((cfg0.slots t 5).cast nbuf0_5))
    (Memref.whole cc0_scratch0) (Memref.whole cc0_scratch1) (Memref.whole cc0_scratch2) (grid0.coords t) (hstage0_0 ((cfg0.slots t 0).cast nbuf0_0))
    (hstage0_1 ((cfg0.slots t 1).cast nbuf0_1)) (hstage0_2 ((cfg0.slots t 2).cast nbuf0_2)) (hstage0_3 ((cfg0.slots t 3).cast nbuf0_3))
    (hstage0_4 ((cfg0.slots t 4).cast nbuf0_4)) (Memref.isWhole_whole _) (Memref.isWhole_whole _) (Memref.isWhole_whole _) c (ins m c t)
    ((dats m 0 c).before 5 t d5) s0 s1 s2
  iapply (wp_use w _)
  isplitl [H0 H1 H2 H3 H4 H5 S0 S1 S2]
  · isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    iexact S2
  iintro ⟨H0, H1, H2, H3, H4, H5, S0, S1, S2⟩
  isplitl [S0 S1 S2 HP]
  · isplitl [S0 S1 S2]
    · isplitl [S0]; · iexact S0
      isplitl [S1]; · iexact S1
      iexact S2
    · iexact HP
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline at what the proof data says, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.KernelBits.lean ====
/-
  The frame of the program as printed: its text is the ideal program's except for the one named constant, so the ideal
  program's run, read at machine floats with the constant at its own bits, is its run.
-/
module

public import proofs.«01_k».proof.Proof.Launch
public import proofs.«01_k».proof.Proof.Gen.Kernel
public import proofs.«01_k».proof.Defs
public import Idealize.ShloMosaic.PureOps.BitExact

@[expose] public section

noncomputable section

namespace Cert.Proof

open Idealize.ShloMosaic Idealize.ShloMosaic.TcCoe Idealize.SL.Sem

/-- At machine floats the named constant is the constant the program as printed has. -/
local instance namedBits : Named Bits where
  named _ _ {φ} bits := Scalar.ofBits φ bits

local instance : Kernel.Facts := Cert.Kernel.Gen.facts

theorem bodies_eq : @Cert.Kernel.defs₀ Bits _ _ = @Cert.KernelIdeal.defs₀ Bits _ _ _ := by
  unfold Cert.Kernel.defs₀ Cert.KernelIdeal.defs₀
  refine congrArg Defs.onTc (funext fun l => funext fun a => ?_)
  match l, a with
  | ⟨0, _⟩, (t, s) => rfl

theorem defs_eq : @Cert.Kernel.defs Bits _ _ = @Cert.KernelIdeal.defs Bits _ _ _ := by
  unfold Cert.Kernel.defs Cert.KernelIdeal.defs
  rw [bodies_eq]; rfl

set_option maxHeartbeats 2000000 in
theorem quiescent_Kernel : @Cert.quiescent_Kernel Cert.Kernel.Gen.facts := fun m g _ => by
  rw [defs_eq]
  exact Cert.KernelIdeal.Attn.frame (F := Bits) m g

end Cert.Proof

end
-- ==== Proof.Softmax.lean ====
/-
  The mathematics of the running softmax, over the extended reals with no assumption on the scores or values.

  Scores `s` and values `v` are total functions of the key. `mx s n` is the largest score of the first `n` keys, and
  `acc s v n` the sum of `2 ^ (s k - mx s n) * v k` over them. Adding a chunk to a running maximum and a running sum
  gives the next ones (`mx_chunk`, `acc_chunk`); scores scaled by `1 / log 2` turn powers of 2 into powers of e
  (`acc_scaled`).
-/
module

public import Idealize.ShloMosaic.PureOps.Ideal

@[expose] public section

noncomputable section

namespace Cert.KernelIdeal.Attn

open Idealize.ShloMosaic
open Finset (range)

/-- A real factor that is not negative goes into a sum. -/
theorem mul_sum_of_nonneg {ι : Type} (S : Finset ι) (c : ℝ) (hc : 0 ≤ c) (f : ι → EReal) : (c : EReal) * ∑ k ∈ S, f k = ∑ k ∈ S, (c : EReal) * f k := by
  classical
  induction S using Finset.induction_on with
  | empty => simp
  | insert a S ha ih =>
    rw [Finset.sum_insert ha, Finset.sum_insert ha, EReal.left_distrib_of_nonneg_of_ne_top (by exact_mod_cast hc) (EReal.coe_ne_top c), ih]

theorem exp2_bot : Ideal.exp2 ⊥ = 0 := rfl
theorem exp2_coe (x : ℝ) : Ideal.exp2 (x : EReal) = ((2 : ℝ) ^ x : ℝ) := rfl

/-- From one reference score to a larger one: `2 ^ (m - m') * 2 ^ (s - m) = 2 ^ (s - m')`. -/
theorem rescale {s m m' : EReal} (h : s ≤ m) (h' : m ≤ m') : Ideal.exp2 (m - m') * Ideal.exp2 (s - m) = Ideal.exp2 (s - m') := by
  induction m' with
  | bot =>
    obtain rfl : m = ⊥ := le_bot_iff.mp h'
    obtain rfl : s = ⊥ := le_bot_iff.mp h
    simp [EReal.bot_sub, exp2_bot]
  | top => simp [EReal.sub_top, exp2_bot]
  | coe m' =>
    induction m with
    | top => simp at h'
    | bot =>
      obtain rfl : s = ⊥ := le_bot_iff.mp h
      simp [EReal.bot_sub, exp2_bot]
    | coe m =>
      induction s with
      | top => simp at h
      | bot => simp [EReal.bot_sub, exp2_bot]
      | coe s =>
        rw [← EReal.coe_sub, ← EReal.coe_sub, ← EReal.coe_sub, exp2_coe, exp2_coe, exp2_coe, ← EReal.coe_mul, ← Real.rpow_add (by norm_num)]
        congr 2; ring

/-- The factor between two reference scores is a real number, not negative. -/
theorem factor {m m' : EReal} (h : m ≤ m') : ∃ c : ℝ, 0 ≤ c ∧ Ideal.exp2 (m - m') = c := by
  induction m' with
  | bot => exact ⟨0, le_rfl, by obtain rfl : m = ⊥ := le_bot_iff.mp h; simp [EReal.bot_sub, exp2_bot]⟩
  | top => exact ⟨0, le_rfl, by simp [EReal.sub_top, exp2_bot]⟩
  | coe m' =>
    induction m with
    | top => simp at h
    | bot => exact ⟨0, le_rfl, by simp [EReal.bot_sub, exp2_bot]⟩
    | coe m => exact ⟨_, (Real.rpow_pos_of_pos (two_pos : (0 : ℝ) < 2) _).le, by rw [← EReal.coe_sub]; exact exp2_coe _⟩

/-- The largest score of the first `n` keys. -/
def mx (s : ℕ → EReal) (n : ℕ) : EReal := (range n).sup s

/-- The weighted sum over the first `n` keys. -/
def acc (s v : ℕ → EReal) (n : ℕ) : EReal := ∑ k ∈ range n, Ideal.exp2 (s k - mx s n) * v k

theorem mx_add (s : ℕ → EReal) (n c : ℕ) : mx s (n + c) = max (mx s n) ((range c).sup fun t => s (n + t)) := by
  unfold mx
  induction c with
  | zero => simp
  | succ c ih =>
    rw [← Nat.add_assoc, Finset.range_add_one, Finset.range_add_one, Finset.sup_insert, Finset.sup_insert, ih]
    exact sup_left_comm _ _ _

theorem acc_add (s v : ℕ → EReal) (n c : ℕ) :
    acc s v (n + c) = Ideal.exp2 (mx s n - mx s (n + c)) * acc s v n + ∑ t ∈ range c, Ideal.exp2 (s (n + t) - mx s (n + c)) * v (n + t) := by
  have hle : mx s n ≤ mx s (n + c) := by rw [mx_add]; exact le_max_left _ _
  obtain ⟨r, hr, e⟩ := factor hle
  unfold acc
  rw [Finset.sum_range_add, e, mul_sum_of_nonneg _ r hr]
  congr 1
  refine Finset.sum_congr rfl fun k hk => ?_
  rw [← mul_assoc, ← e, rescale (m := mx s n) (Finset.le_sup (f := s) hk) hle]

/-- Keys that are masked do not count. -/
theorem mx_masked (s : ℕ → EReal) (n c : ℕ) (h : ∀ t < c, s (n + t) = ⊥) : mx s (n + c) = mx s n := by
  rw [mx_add, Finset.sup_congr rfl (fun t ht => h t (Finset.mem_range.mp ht))]
  simp

theorem acc_masked (s v : ℕ → EReal) (n c : ℕ) (h : ∀ t < c, s (n + t) = ⊥) : acc s v (n + c) = acc s v n := by
  unfold acc
  rw [Finset.sum_range_add, mx_masked s n c h]
  rw [Finset.sum_eq_zero (s := range c) fun t ht => by
    rw [h t (Finset.mem_range.mp ht), EReal.bot_sub, exp2_bot, zero_mul], add_zero]

/-- A positive real factor goes into a difference. -/
theorem sub_mul_pos (x y : EReal) (c : ℝ) (hc : 0 < c) : x * c - y * c = (x - y) * c := by
  rw [sub_eq_add_neg, sub_eq_add_neg, ← EReal.neg_mul, ← EReal.right_distrib_of_nonneg_of_ne_top (by exact_mod_cast hc.le) (EReal.coe_ne_top c)]

theorem log_two_pos : 0 < Real.log 2 := Real.log_pos (by norm_num)

/-- `2 ^ (x / log 2) = e ^ x`. -/
theorem exp2_div_log (x : EReal) : Ideal.exp2 (x * ((Real.log 2)⁻¹ : ℝ)) = Ideal.exp x := by
  have hp : 0 < (Real.log 2)⁻¹ := inv_pos.mpr log_two_pos
  induction x with
  | bot => rw [EReal.bot_mul_coe_of_pos hp]; rfl
  | top => rw [EReal.top_mul_coe_of_pos hp]; rfl
  | coe x =>
    rw [← EReal.coe_mul, exp2_coe]
    show ((_ : ℝ) : EReal) = ((Real.exp x : ℝ) : EReal)
    congr 1
    rw [Real.rpow_def_of_pos (by norm_num), mul_comm x, ← mul_assoc, mul_inv_cancel₀ log_two_pos.ne', one_mul]

theorem mx_scaled (s : ℕ → EReal) (n : ℕ) : mx (fun k => s k * ((Real.log 2)⁻¹ : ℝ)) n = mx s n * ((Real.log 2)⁻¹ : ℝ) := by
  have hp : 0 < (Real.log 2)⁻¹ := inv_pos.mpr log_two_pos
  unfold mx
  refine (Finset.comp_sup_eq_sup_comp_of_is_total (fun x : EReal => x * ((Real.log 2)⁻¹ : ℝ)) ?_ ?_).symm
  · intro x y h
    exact mul_le_mul_of_nonneg_right h (by exact_mod_cast hp.le)
  · exact EReal.bot_mul_coe_of_pos hp

/-- Scores scaled by `1 / log 2`, weighted by powers of 2: the weights are powers of e of the scores. -/
theorem acc_scaled (s v : ℕ → EReal) (n : ℕ) :
    acc (fun k => s k * ((Real.log 2)⁻¹ : ℝ)) v n = ∑ k ∈ range n, Ideal.exp (s k - mx s n) * v k := by
  unfold acc
  rw [mx_scaled]
  refine Finset.sum_congr rfl fun k _ => ?_
  rw [sub_mul_pos _ _ _ (inv_pos.mpr log_two_pos), exp2_div_log]

end Cert.KernelIdeal.Attn

end
-- ==== Proof.Spec.lean ====
/-
  The attention at one entry, the value on which the kernel and the reference are compared.

  For sequence `b`, query `q` and head `h`, `scoreAt` is the score of every key: the scaled product of query and key
  where the key is selected and not after the query, and −∞ elsewhere. `attnAt` is the sum of the values weighted by
  `exp (score - largest score)`, over the sum of the weights, times the gate's `silu`.
-/
module

public import proofs.«01_k».proof.Proof.Softmax
public import Idealize.ShloMosaic.Lib.Pipeline.ValueKit
public import Idealize.ShloMosaic.Lib.Tactic.WordOmega

@[expose] public section

set_option maxRecDepth 16384

noncomputable section

namespace Cert.KernelIdeal.Attn

open Idealize.ShloMosaic
open Finset (range)

/-! ## The definitions -/

/-- `1 / sqrt 128`, as both programs compute it. -/
def rs : EReal := Ideal.rsqrt (Ideal.ofBits FTy.f32 1124073472#32)
/-- The factor on the kernel's queries, `1 / (sqrt 128 * log 2)`. -/
def qs : EReal := Ideal.div rs (Ideal.log (Ideal.ofBits FTy.f32 1073741824#32))

/-- The word that says whether query `q` may see key `k`: the key is selected and is not after the query. -/
def allow (W : IVec ⟨3, ![2, 8192, 8192]⟩ 32) (b : Fin 2) (q k : Fin 8192) : BitVec 1 :=
  IntOp.andi (IntOp.cmpi CmpIPredicate.ne (W (ix3 b q k)) 0#32) (IntOp.cmpi CmpIPredicate.sle (BitVec.ofNat 32 k.val) (BitVec.ofNat 32 q.val))

/-- The score of key `k`. -/
def scoreAt (Q K : FVec Ideal ⟨4, ![2, 8192, 16, 128]⟩ .f32) (W : IVec ⟨3, ![2, 8192, 8192]⟩ 32) (b : Fin 2) (q : Fin 8192) (h : Fin 16) (k : ℕ) : EReal :=
  if hk : k < 8192 then Scalar.select (allow W b q ⟨k, hk⟩) ((∑ d : Fin 128, K (ix4 b ⟨k, hk⟩ h d) * Q (ix4 b q h d)) * rs) ⊥ else ⊥

/-- Key `k`'s value in lane `d`. -/
def valueAt (V : FVec Ideal ⟨4, ![2, 8192, 16, 128]⟩ .f32) (b : Fin 2) (h : Fin 16) (d : Fin 128) (k : ℕ) : EReal :=
  if hk : k < 8192 then V (ix4 b ⟨k, hk⟩ h d) else 0

/-- `x * logistic x`. -/
def siluAt (x : EReal) : EReal := x * Ideal.div 1 (1 + Ideal.exp (-x))

/-- The attention's output. -/
def attnAt (Q K V : FVec Ideal ⟨4, ![2, 8192, 16, 128]⟩ .f32) (G : FVec Ideal ⟨3, ![2, 8192, 2048]⟩ .f32) (W : IVec ⟨3, ![2, 8192, 8192]⟩ 32)
    (b : Fin 2) (q : Fin 8192) (h : Fin 16) (d : Fin 128) : EReal :=
  Ideal.div (∑ k ∈ range 8192, Ideal.exp (scoreAt Q K W b q h k - mx (scoreAt Q K W b q h) 8192) * valueAt V b h d k)
      (∑ k ∈ range 8192, Ideal.exp (scoreAt Q K W b q h k - mx (scoreAt Q K W b q h) 8192))
    * siluAt (G (ix3 b q ⟨128 * h.val + d.val, by omega⟩))

/-! ## Constants -/

theorem neg_inf : Ideal.ofBits FTy.f32 4286578688#32 = ⊥ := by
  simp [Ideal.ofBits, Ideal.ieee]

theorem bits_128 : Ideal.ofBits FTy.f32 1124073472#32 = ((128 : ℝ) : EReal) := by
  simp [Ideal.ofBits, Ideal.ieee]
  rw [← EReal.coe_mul]
  norm_num

theorem bits_two : Ideal.ofBits FTy.f32 1073741824#32 = ((2 : ℝ) : EReal) := by
  simp [Ideal.ofBits, Ideal.ieee]
  rw [← EReal.coe_mul]
  norm_num

theorem rs_eq : rs = (((Real.sqrt 128)⁻¹ : ℝ) : EReal) := by
  unfold rs
  rw [bits_128]
  show (if (128 : ℝ) < 0 then (⊥ : EReal) else if (128 : ℝ) = 0 then ⊤ else ((Real.sqrt 128)⁻¹ : ℝ)) = _
  rw [if_neg (by norm_num), if_neg (by norm_num)]

theorem qs_eq : qs = (((Real.sqrt 128)⁻¹ * (Real.log 2)⁻¹ : ℝ) : EReal) := by
  unfold qs
  rw [rs_eq, bits_two]
  have e : Ideal.log ((2 : ℝ) : EReal) = ((Real.log 2 : ℝ) : EReal) := by
    show (if (2 : ℝ) ≤ 0 then (⊥ : EReal) else (Real.log 2 : ℝ)) = _
    rw [if_neg (by norm_num)]
  rw [e]
  unfold Ideal.div
  rw [if_neg (by exact_mod_cast log_two_pos.ne'), ← EReal.coe_inv, ← EReal.coe_mul]

/-! ## The kernel's arithmetic at an entry -/

/-- The kernel's score, computed from scaled queries and an added mask, is the score over `log 2`. -/
theorem scaled_score (Q K : Fin 128 → EReal) (a : BitVec 1) :
    ∑ d, (Q d * qs) * K d + Scalar.select a (0 : EReal) ⊥ = Scalar.select a ((∑ d, K d * Q d) * rs) ⊥ * ((Real.log 2)⁻¹ : ℝ) := by
  have hp : 0 < (Real.log 2)⁻¹ := inv_pos.mpr log_two_pos
  unfold Scalar.select
  split_ifs
  · rw [add_zero, qs_eq, rs_eq, mul_assoc, ← EReal.coe_mul, mul_comm (∑ d, K d * Q d), mul_sum_of_nonneg _ _ (by positivity)]
    refine Finset.sum_congr rfl fun d _ => ?_
    rw [mul_comm (Q d), mul_assoc, mul_comm (Q d)]
  · rw [EReal.add_bot, EReal.bot_mul_coe_of_pos hp]

theorem exp_nonneg (x : EReal) : 0 ≤ Ideal.exp x := by
  induction x with
  | bot => exact le_rfl
  | top => exact le_top
  | coe x => exact EReal.coe_nonneg.mpr (Real.exp_pos x).le

/-- The kernel's gate. -/
theorem silu_kernel (x : EReal) : Ideal.div x (1 + Ideal.exp (0 - x)) = siluAt x := by
  unfold siluAt
  rw [zero_sub]
  have h : 1 + Ideal.exp (-x) ≠ 0 := by
    have := add_le_add (le_refl (1 : EReal)) (exp_nonneg (-x))
    rw [add_zero] at this
    exact (lt_of_lt_of_le zero_lt_one this).ne'
  unfold Ideal.div
  rw [if_neg h, if_neg h, one_mul]

/-- A key after the query is never seen. -/
theorem allow_after (W : IVec ⟨3, ![2, 8192, 8192]⟩ 32) (b : Fin 2) (q k : Fin 8192) (h : q.val < k.val) : allow W b q k = 0#1 := by
  unfold allow
  have e : IntOp.cmpi CmpIPredicate.sle (BitVec.ofNat 32 k.val) (BitVec.ofNat 32 q.val) = 0#1 := by
    word_omega
  rw [e]
  exact BitVec.and_zero

theorem scoreAt_after (Q K : FVec Ideal ⟨4, ![2, 8192, 16, 128]⟩ .f32) (W : IVec ⟨3, ![2, 8192, 8192]⟩ 32) (b : Fin 2) (q : Fin 8192) (h : Fin 16) (k : ℕ) (hk : q.val < k) :
    scoreAt Q K W b q h k = ⊥ := by
  unfold scoreAt
  split_ifs with hk'
  · rw [allow_after W b q ⟨k, hk'⟩ hk]
    rfl
  · rfl

/-- The running sums after the chunks up to the query's own are the sums over every key. -/
theorem acc_final (Q K : FVec Ideal ⟨4, ![2, 8192, 16, 128]⟩ .f32) (W : IVec ⟨3, ![2, 8192, 8192]⟩ 32) (b : Fin 2) (q : Fin 8192) (h : Fin 16) (v : ℕ → EReal)
    (n : ℕ) (hn : n ≤ 8192) (hq : q.val < n) :
    acc (fun k => scoreAt Q K W b q h k * ((Real.log 2)⁻¹ : ℝ)) v n
      = ∑ k ∈ range 8192, Ideal.exp (scoreAt Q K W b q h k - mx (scoreAt Q K W b q h) 8192) * v k := by
  have hp : 0 < (Real.log 2)⁻¹ := inv_pos.mpr log_two_pos
  rw [← acc_scaled]
  have e : 8192 = n + (8192 - n) := by omega
  rw [e]
  symm
  refine acc_masked _ _ _ _ fun t _ => ?_
  rw [scoreAt_after Q K W b q h (n + t) (by omega), EReal.bot_mul_coe_of_pos hp]

end Cert.KernelIdeal.Attn

end
-- ==== Proof.Entry.lean ====
/-
  The body's arithmetic read at an entry, over the extended reals, and the fold of the chunks as one softmax.

  A head's scores of one query are `S k` and its values in one lane are `W k t`, over the keys `k`. The lanes `t` below
  128 are the values' own, those above hold the constant 1, so the same sum gives the sum of the weights. After `n`
  chunks the running maximum is the largest of the first `512 n` scores and the running sum is `acc` over them.
-/
module

public import proofs.«01_k».proof.Proof.Run
public import proofs.«01_k».proof.Proof.Spec
public import Idealize.ShloMosaic.Lib.Pipeline.ValueKit

@[expose] public section

set_option maxRecDepth 16384

noncomputable section

namespace Cert.KernelIdeal.Attn

open Idealize.ShloMosaic
open Facts₀ Facts
open Finset (range)

variable [Facts]

theorem score_apply (q : FVec Ideal S512x128 .bf16) (k : FVec Ideal S128x512 .bf16) (b : FVec Ideal S512x512 .f32) (x t : Fin 512) :
    score (F := Ideal) q k b (ix2 x t) = ∑ d : Fin 128, q (ix2 x d) * k (ix2 d t) + b (ix2 x t) := by
  unfold score
  pointwise

theorem fold_max {n : ℕ} (f : Fin n → EReal) (g : ℕ → EReal) (h : ∀ k : Fin n, f k = g k) : Finset.fold max ⊥ f Finset.univ = (range n).sup g := by
  show Finset.univ.sup f = _
  refine le_antisymm (Finset.sup_le fun k _ => ?_) (Finset.sup_le fun k hk => ?_)
  · rw [h k]
    exact Finset.le_sup (f := g) (Finset.mem_range.mpr k.isLt)
  · have := Finset.le_sup (f := f) (Finset.mem_univ ⟨k, Finset.mem_range.mp hk⟩)
    rwa [h] at this

theorem mNew_apply (s : FVec Ideal S512x512 .f32) (m : FVec Ideal S512x128 .f32) (x : Fin 512) (t : Fin 128) (g : ℕ → EReal)
    (h : ∀ k : Fin 512, s (ix2 x k) = g k) : mNew (F := Ideal) s m (ix2 x t) = max (m (ix2 x t)) ((range 512).sup g) := by
  unfold mNew
  pointwise
  rw [neg_inf, fold_max _ g h]

theorem ones_apply (x : Fin 512) (t : Fin 128) : ones (F := Ideal) (ix2 x t) = 1 := by
  unfold ones
  pointwise

theorem aNew_apply (s : FVec Ideal S512x512 .f32) (m : FVec Ideal S512x128 .f32) (v : FVec Ideal S512x128 .bf16) (a : FVec Ideal S512x256 .f32) (x : Fin 512) (t : Fin 256)
    (M M' : EReal) (hm : ∀ d, m (ix2 x d) = M) (hm' : ∀ d, mNew (F := Ideal) s m (ix2 x d) = M') :
    aNew (F := Ideal) s m v a (ix2 x t) = Ideal.exp2 (M - M') * a (ix2 x t)
      + ∑ k : Fin 512, Ideal.exp2 (s (ix2 x k) - M') * (if h : t.val < 128 then v (ix2 k ⟨t.val, h⟩) else 1) := by
  unfold aNew
  pointwise
  simp only [hm, hm', ones_apply, dite_eq_ite, ite_self]
  rfl

theorem emit_apply (a : FVec Ideal S512x256 .f32) (g : FVec Ideal S512x128 .bf16) (x : Fin 512) (t : Fin 128) :
    emit (F := Ideal) a g (ix2 x t) = Ideal.div (a (ix2 x ⟨t.val, by omega⟩)) (a (ix2 x ⟨128 + t.val, by omega⟩))
      * Ideal.div (g (ix2 x t)) (1 + Ideal.exp (0 - g (ix2 x t))) := by
  unfold emit
  pointwise

/-- The fold's running maximum and sums at a row, over the keys' scores `S` and the lanes' values `W`. -/
theorem fold_apply (I : In Ideal) (h : Fin 4) (x : Fin 512) (S : ℕ → EReal) (W : ℕ → Fin 256 → EReal)
    (hS : ∀ n < 16, ∀ t : Fin 512, sChunk I h n (ix2 x t) = S (512 * n + t.val))
    (hW : ∀ n < 16, ∀ k : Fin 512, ∀ t : Fin 256, W (512 * n + k.val) t = if h' : t.val < 128 then vChunk I h n (ix2 k ⟨t.val, h'⟩) else 1)
    (n : ℕ) (hn : n ≤ 16) :
    (∀ d, (fold I h n).1 (ix2 x d) = mx S (512 * n)) ∧ ∀ t, (fold I h n).2 (ix2 x t) = acc S (fun k => W k t) (512 * n) := by
  induction n with
  | zero =>
    constructor
    · intro d
      rfl
    · intro t
      show Ideal.ofBits .f32 0x00000000#32 = _
      rw [Ideal.ofBits_zero_f32]
      simp [acc]
  | succ n ih =>
    obtain ⟨hM, hA⟩ := ih (by omega)
    have hM' : ∀ d, mNew (sChunk I h n) (fold I h n).1 (ix2 x d) = mx S (512 * (n + 1)) := by
      intro d
      rw [mNew_apply _ _ _ _ (fun t => S (512 * n + t)) (fun k => hS n (by omega) k), hM, Nat.mul_succ, mx_add]
    refine ⟨hM', fun t => ?_⟩
    show aNew (sChunk I h n) (fold I h n).1 (vChunk I h n) (fold I h n).2 (ix2 x t) = _
    rw [aNew_apply _ _ _ _ _ _ _ _ hM hM', hA, Nat.mul_succ, acc_add]
    congr 1
    rw [Finset.sum_range]
    refine Finset.sum_congr rfl fun k _ => ?_
    rw [hS n (by omega) k, hW n (by omega) k t]

end Cert.KernelIdeal.Attn

end
-- ==== Proof.Blocks.lean ====
/-
  What the blocks hold, entry by entry, in terms of the arguments.

  The arrays that the launch reads are the arguments reshaped, scaled, transposed or masked by the host; a block's
  entry is the array's entry at the block's place. A grid point has coordinates (sequence, group of four heads, block
  of 512 queries).
-/
module

public import proofs.«01_k».proof.Proof.Launch
public import proofs.«01_k».proof.Proof.Entry
public import Idealize.ShloMosaic.Lib.StableHlo.ReadAt

@[expose] public section

set_option maxRecDepth 16384

noncomputable section

namespace Cert.KernelIdeal.Attn

open Cert.KernelIdeal.Gen
open Idealize.ShloMosaic Idealize.ShloMosaic.TcCoe
open Finset (range)

variable (m : (ℓ : Loc nD τ sig) → Buf (Elt Ideal) ℓ) (c : Dev nD)

/-! ## The arguments -/

/-- The queries, keys and values, the gate and the selection. -/
abbrev aQ : FVec Ideal ⟨4, ![2, 8192, 16, 128]⟩ .f32 := m ((c : Thread nD τ).loc main_arg0)
abbrev aK : FVec Ideal ⟨4, ![2, 8192, 16, 128]⟩ .f32 := m ((c : Thread nD τ).loc main_arg1)
abbrev aV : FVec Ideal ⟨4, ![2, 8192, 16, 128]⟩ .f32 := m ((c : Thread nD τ).loc main_arg2)
abbrev aG : FVec Ideal ⟨3, ![2, 8192, 2048]⟩ .f32 := m ((c : Thread nD τ).loc main_arg3)
abbrev aW : IVec ⟨3, ![2, 8192, 8192]⟩ 32 := m ((c : Thread nD τ).loc main_arg4)

/-! ## The arrays that the launch reads -/

theorem arr_q (R : Fin 16384) (C : Fin 14336) (b : Fin 2) (q : Fin 8192) (h : Fin 16) (d : Fin 128)
    (hR : R.val = 8192 * b.val + q.val) (hC : C.val = 4096 + (128 * h.val + d.val)) :
    V m c main_v10 (ix2 R C) = aQ m c (ix4 b q h d) * qs := by
  have e : C = (⟨4096 + (⟨128 * h.val + d.val, by omega⟩ : Fin 2048).val, by simp; omega⟩ : Fin 14336) := Fin.ext hC
  rw [e]
  unfold V
  after_reads_at
  after_reads_at
  rw [dif_pos (by omega)]
  show aQ m c _ * qs = _
  congr 2
  congr 1 <;> apply Fin.ext <;> simp <;> omega

theorem arr_g (R : Fin 16384) (C : Fin 14336) (b : Fin 2) (q : Fin 8192) (C' : Fin 2048)
    (hR : R.val = 8192 * b.val + q.val) (hC : C.val = 6144 + C'.val) :
    V m c main_v10 (ix2 R C) = aG m c (ix3 b q C') := by
  unfold V
  after_reads_at
  rw [dif_neg (by omega), dif_neg (by omega), dif_pos (by omega)]
  have e : (⟨C.val - 4096 - 2048, by omega⟩ : Fin 2048) = C' := Fin.ext (by show C.val - 4096 - 2048 = C'.val; omega)
  rw [e]
  clear e hC
  after_reads_at
  show aG m c _ = _
  congr 1
  congr 1 <;> apply Fin.ext <;> simp <;> omega

theorem arr_k (b : Fin 2) (n : Fin 16) (C : Fin 2048) (t : Fin 512) (k : Fin 8192) (h : Fin 16) (d : Fin 128)
    (hk : k.val = 512 * n.val + t.val) (hC : C.val = 128 * h.val + d.val) :
    V m c main_v13 (ix4 b n C t) = aK m c (ix4 b k h d) := by
  unfold V
  after_reads_at
  show aK m c _ = _
  congr 1
  congr 1 <;> apply Fin.ext <;> simp <;> omega

theorem arr_v (R : Fin 16384) (C : Fin 2048) (b : Fin 2) (k : Fin 8192) (h : Fin 16) (d : Fin 128)
    (hR : R.val = 8192 * b.val + k.val) (hC : C.val = 128 * h.val + d.val) :
    V m c main_v15 (ix2 R C) = aV m c (ix4 b k h d) := by
  unfold V
  after_reads_at
  show aV m c _ = _
  congr 1
  congr 1 <;> apply Fin.ext <;> simp <;> omega

theorem arr_b (b : Fin 2) (n : Fin 32) (u : Fin 64) (x : Fin 256) (t : Fin 128) (q k : Fin 8192)
    (hq : q.val = 256 * n.val + x.val) (hk : k.val = 128 * u.val + t.val) :
    V m c main_v30 (ix5 b n u x t) = (Scalar.select (allow (aW m c) b q k) 0 ⊥ : EReal) := by
  unfold V
  after_reads_at
  rw [neg_inf]
  have e1 : (⟨n.val * 256 + x.val, by omega⟩ : Fin 8192) = q := Fin.ext (by simp; omega)
  have e2 : (⟨u.val * 128 + t.val, by omega⟩ : Fin 8192) = k := Fin.ext (by simp; omega)
  have e3 : u.val * 128 + t.val = k.val := by omega
  have e4 : n.val * 256 + x.val = q.val := by omega
  rw [e1, e2, e3, e4]
  rfl

/-! ## The blocks -/

theorem idx : ∀ t : Fin grid0.N,
    win0_0.index t = ![16 * ((grid0.coords t) 0).val + ((grid0.coords t) 2).val, 8 + ((grid0.coords t) 1).val]
    ∧ win0_1.index t = ![((grid0.coords t) 0).val, 0, ((grid0.coords t) 1).val, 0]
    ∧ win0_2.index t = ![((grid0.coords t) 0).val, ((grid0.coords t) 1).val]
    ∧ win0_3.index t = ![((grid0.coords t) 0).val, ((grid0.coords t) 2).val, 0, 0, 0]
    ∧ win0_4.index t = ![16 * ((grid0.coords t) 0).val + ((grid0.coords t) 2).val, 12 + ((grid0.coords t) 1).val]
    ∧ win0_5.index t = ![16 * ((grid0.coords t) 0).val + ((grid0.coords t) 2).val, ((grid0.coords t) 1).val] := by
  decide +kernel

variable (t : Fin grid0.N)

theorem blk_q (x y : Fin 512) (R : Fin 16384) (C : Fin 14336) (hR : R.val = 512 * (16 * ((grid0.coords t) 0).val + ((grid0.coords t) 2).val) + x.val)
    (hC : C.val = 512 * (8 + ((grid0.coords t) 1).val) + y.val) : iblk m c 0 t (ix2 x y) = V m c main_v10 (ix2 R C) := by
  blk_ext [iblk, idx t]

theorem blk_g (x y : Fin 512) (R : Fin 16384) (C : Fin 14336) (hR : R.val = 512 * (16 * ((grid0.coords t) 0).val + ((grid0.coords t) 2).val) + x.val)
    (hC : C.val = 512 * (12 + ((grid0.coords t) 1).val) + y.val) : iblk m c 4 t (ix2 x y) = V m c main_v10 (ix2 R C) := by
  blk_ext [iblk, idx t]

theorem blk_k (n : Fin 16) (y z : Fin 512) (b : Fin 2) (C : Fin 2048) (hb : b.val = ((grid0.coords t) 0).val)
    (hC : C.val = 512 * ((grid0.coords t) 1).val + y.val) : iblk m c 1 t (ix4 0 n y z) = V m c main_v13 (ix4 b n C z) := by
  blk_ext [iblk, idx t]

theorem blk_v (x : Fin 8192) (y : Fin 512) (R : Fin 16384) (C : Fin 2048) (hR : R.val = 8192 * ((grid0.coords t) 0).val + x.val)
    (hC : C.val = 512 * ((grid0.coords t) 1).val + y.val) : iblk m c 2 t (ix2 x y) = V m c main_v15 (ix2 R C) := by
  blk_ext [iblk, idx t]

theorem blk_b (r : Fin 2) (u : Fin 64) (x : Fin 256) (y : Fin 128) (b : Fin 2) (n : Fin 32) (hb : b.val = ((grid0.coords t) 0).val)
    (hn : n.val = 2 * ((grid0.coords t) 2).val + r.val) : iblk m c 3 t (ix5 0 r u x y) = V m c main_v30 (ix5 b n u x y) := by
  blk_ext [iblk, idx t]

end Cert.KernelIdeal.Attn

end
-- ==== Proof.Reads.lean ====
/-
  What the body reads at a chunk, entry by entry of the blocks.
-/
module

public import proofs.«01_k».proof.Proof.Entry

@[expose] public section

set_option maxRecDepth 16384

noncomputable section

namespace Cert.KernelIdeal.Attn

open Idealize.ShloMosaic
open Facts₀ Facts

variable [Facts] (I : In Ideal)

theorem qAt_apply (o : Nat) (ho : o + 128 ≤ 512) (x : Fin 512) (d : Fin 128) :
    I.qAt o ho (ix2 x d) = I.q (ix2 x ⟨o + d.val, by omega⟩) :=
  View.ld_unit_apply_of _ _ _ _ _ _ fun a => by fin_cases a <;> simp

theorem gAt_apply (o : Nat) (ho : o + 128 ≤ 512) (x : Fin 512) (d : Fin 128) :
    I.gAt o ho (ix2 x d) = I.g (ix2 x ⟨o + d.val, by omega⟩) :=
  View.ld_unit_apply_of _ _ _ _ _ _ fun a => by fin_cases a <;> simp

theorem vAt_apply (n : Nat) (hn : n < 16) (h : Fin 4) (ho : InbV (offV n h)) (k : Fin 512) (d : Fin 128) :
    I.vAt (offV n h) ho (ix2 k d) = I.v (ix2 ⟨512 * n + k.val, by omega⟩ ⟨128 * h.val + d.val, by omega⟩) :=
  View.ld_unit_apply_of _ _ _ _ _ _ fun a => by fin_cases a <;> simp [offV]

theorem cast_k (X : FVec Ideal S1x1x128x512 .bf16) (d : Fin 128) (t : Fin 512) :
    shapeCast S128x512 X shapeCasts_S1x1x128x512_S128x512 (ix2 d t) = X (ix4 0 0 d t) := by
  pointwise

theorem cast_tile (X : FVec Ideal S1x1x1x256x128 .bf16) (x : Fin 256) (t : Fin 128) :
    shapeCast S256x128 X shapeCasts_S1x1x1x256x128_S256x128 (ix2 x t) = X (ix5 0 0 0 x t) := by
  pointwise

theorem kAt_apply (n : Nat) (hn : n < 16) (h : Fin 4) (ho : InbK (offK n h)) (d : Fin 128) (t : Fin 512) :
    I.kAt (offK n h) ho (ix2 d t) = I.k (ix4 0 ⟨n, hn⟩ ⟨128 * h.val + d.val, by omega⟩ t) := by
  refine (cast_k _ d t).trans ?_
  exact View.ld_unit_apply_of _ _ _ _ _ _ fun a => by fin_cases a <;> simp [offK]

theorem tile_apply (n : Nat) (hn : n < 16) (r : Fin 2) (u : Fin 4) (ho : InbB (offB n r u)) (x : Fin 256) (t : Fin 128) :
    I.tile (offB n r u) ho (ix2 x t) = I.b (ix5 0 r ⟨4 * n + u.val, by omega⟩ x t) := by
  refine (cast_tile _ x t).trans ?_
  exact View.ld_unit_apply_of _ _ _ _ _ _ fun a => by fin_cases a <;> simp [offB]

theorem biasBlock_apply (T : Fin 2 → Fin 4 → FVec Ideal S256x128 .bf16) (x t : Fin 512) :
    biasBlock (F := Ideal) (T 0 0) (T 0 1) (T 0 2) (T 0 3) (T 1 0) (T 1 1) (T 1 2) (T 1 3) (ix2 x t)
      = T ⟨x.val / 256, by omega⟩ ⟨t.val / 128, by omega⟩ (ix2 ⟨x.val % 256, by omega⟩ ⟨t.val % 128, by omega⟩) := by
  unfold biasBlock
  have key : ∀ (r : Fin 2) (u : Fin 4) (a : Fin 256) (b : Fin 128), x.val = 256 * r.val + a.val → t.val = 128 * u.val + b.val →
      T r u (ix2 a b) = T ⟨x.val / 256, by omega⟩ ⟨t.val / 128, by omega⟩ (ix2 ⟨x.val % 256, by omega⟩ ⟨t.val % 128, by omega⟩) := by
    intro r u a b hx ht
    have e1 : (⟨x.val / 256, by omega⟩ : Fin 2) = r := Fin.ext (by show x.val / 256 = r.val; omega)
    have e2 : (⟨t.val / 128, by omega⟩ : Fin 4) = u := Fin.ext (by show t.val / 128 = u.val; omega)
    have e3 : (⟨x.val % 256, by omega⟩ : Fin 256) = a := Fin.ext (by show x.val % 256 = a.val; omega)
    have e4 : (⟨t.val % 128, by omega⟩ : Fin 128) = b := Fin.ext (by show t.val % 128 = b.val; omega)
    rw [e1, e2, e3, e4]
  pointwise
  split_ifs <;> refine key _ _ _ _ ?_ ?_ <;> simp <;> omega

theorem bAt_apply (n : Nat) (hn : n < 16) (ho : ∀ r u, InbB (offB n r u)) (x t : Fin 512) :
    I.bAt (offB n) ho (ix2 x t)
      = I.b (ix5 0 ⟨x.val / 256, by omega⟩ ⟨4 * n + t.val / 128, by omega⟩ ⟨x.val % 256, by omega⟩ ⟨t.val % 128, by omega⟩) := by
  unfold In.bAt
  rw [biasBlock_apply (fun r u => I.tile (offB n r u) (ho r u)), tile_apply I n hn]

/-- A chunk's scores, entry by entry. -/
theorem sChunk_apply (h : Fin 4) (n : Nat) (hn : n < 16) (x t : Fin 512) :
    sChunk I h n (ix2 x t) = ∑ d : Fin 128, I.q (ix2 x ⟨128 * h.val + d.val, by omega⟩) * I.k (ix4 0 ⟨n, hn⟩ ⟨128 * h.val + d.val, by omega⟩ t)
      + I.b (ix5 0 ⟨x.val / 256, by omega⟩ ⟨4 * n + t.val / 128, by omega⟩ ⟨x.val % 256, by omega⟩ ⟨t.val % 128, by omega⟩) := by
  have e : n % 16 = n := Nat.mod_eq_of_lt hn
  unfold sChunk
  rw [score_apply]
  simp only [e]
  rw [bAt_apply I n hn]
  congr 1
  refine Finset.sum_congr rfl fun d _ => ?_
  rw [qAt_apply, kAt_apply I n hn]

/-- A chunk's values, entry by entry. -/
theorem vChunk_apply (h : Fin 4) (n : Nat) (hn : n < 16) (k : Fin 512) (d : Fin 128) :
    vChunk I h n (ix2 k d) = I.v (ix2 ⟨512 * n + k.val, by omega⟩ ⟨128 * h.val + d.val, by omega⟩) := by
  have e : n % 16 = n := Nat.mod_eq_of_lt hn
  unfold vChunk
  simp only [e]
  exact vAt_apply I n hn h _ k d

end Cert.KernelIdeal.Attn

end
-- ==== Proof.Value.lean ====
/-
  The kernel's result: every entry is the attention `attnAt`.
-/
module

public import proofs.«01_k».proof.Proof.Blocks
public import proofs.«01_k».proof.Proof.Reads

@[expose] public section

set_option maxRecDepth 16384

noncomputable section

namespace Cert.KernelIdeal.Attn

open Cert.KernelIdeal.Gen
open Idealize.ShloMosaic Idealize.ShloMosaic.TcCoe
open Finset (range)

variable (m : (ℓ : Loc nD τ sig) → Buf (Elt Ideal) ℓ) (c : Dev nD) (t : Fin grid0.N)

/-- The grid point's sequence, head (of its group's four) and query. -/
def seqOf : Fin 2 := (grid0.coords t) 0
def grpOf : Fin 4 := (grid0.coords t) 1
def headOf (h : Fin 4) : Fin 16 := ⟨4 * (grpOf t).val + h.val, by omega⟩
def queryOf (x : Fin 512) : Fin 8192 := ⟨512 * (row (grid0.coords t)).val + x.val, by omega⟩

/-- The query block's entries. -/
theorem q_value (h : Fin 4) (x : Fin 512) (d : Fin 128) :
    (ins m c t).q (ix2 x ⟨128 * h.val + d.val, by omega⟩) = aQ m c (ix4 (seqOf t) (queryOf t x) (headOf t h) d) * qs := by
  have hg4 := (grpOf t).isLt
  have hr16 := (row (grid0.coords t)).isLt
  have hb2 := (seqOf t).isLt
  refine (blk_q m c t x _ ⟨512 * (16 * (seqOf t).val + (row (grid0.coords t)).val) + x.val, by omega⟩
    ⟨512 * (8 + (grpOf t).val) + (128 * h.val + d.val), by omega⟩ rfl rfl).trans ?_
  exact arr_q m c _ _ _ _ _ _ (by show 512 * (16 * (seqOf t).val + (row (grid0.coords t)).val) + x.val = 8192 * (seqOf t).val + (512 * (row (grid0.coords t)).val + x.val); omega)
    (by show 512 * (8 + (grpOf t).val) + (128 * h.val + d.val) = 4096 + (128 * (4 * (grpOf t).val + h.val) + d.val); omega)

/-- The key block's entries. -/
theorem k_value (h : Fin 4) (n : Nat) (hn : n < 16) (y : Fin 512) (d : Fin 128) (hk : 512 * n + y.val < 8192) :
    (ins m c t).k (ix4 0 ⟨n, hn⟩ ⟨128 * h.val + d.val, by omega⟩ y) = aK m c (ix4 (seqOf t) ⟨512 * n + y.val, hk⟩ (headOf t h) d) := by
  have hg4 := (grpOf t).isLt
  have hb2 := (seqOf t).isLt
  refine (blk_k m c t _ _ _ (seqOf t) ⟨512 * (grpOf t).val + (128 * h.val + d.val), by omega⟩ rfl rfl).trans ?_
  exact arr_k m c _ _ _ _ _ _ _ rfl
    (by show 512 * (grpOf t).val + (128 * h.val + d.val) = 128 * (4 * (grpOf t).val + h.val) + d.val; omega)

/-- The mask block's entries. -/
theorem b_value (n : Nat) (hn : n < 16) (x y : Fin 512) (hk : 512 * n + y.val < 8192) :
    (ins m c t).b (ix5 0 ⟨x.val / 256, by omega⟩ ⟨4 * n + y.val / 128, by omega⟩ ⟨x.val % 256, by omega⟩ ⟨y.val % 128, by omega⟩)
      = (Scalar.select (allow (aW m c) (seqOf t) (queryOf t x) ⟨512 * n + y.val, hk⟩) 0 ⊥ : EReal) := by
  have hr16 := (row (grid0.coords t)).isLt
  have hb2 := (seqOf t).isLt
  refine (blk_b m c t _ _ _ _ (seqOf t) ⟨2 * (row (grid0.coords t)).val + x.val / 256, by omega⟩ rfl rfl).trans ?_
  exact arr_b m c _ _ _ _ _ _ _ (by show 512 * (row (grid0.coords t)).val + x.val = 256 * (2 * (row (grid0.coords t)).val + x.val / 256) + x.val % 256; omega)
    (by show 512 * n + y.val = 128 * (4 * n + y.val / 128) + y.val % 128; omega)

/-- A chunk's scores are the attention's, over `log 2`. -/
theorem chunk_score (h : Fin 4) (n : Nat) (hn : n < 16) (x y : Fin 512) :
    sChunk (ins m c t) h n (ix2 x y)
      = scoreAt (aQ m c) (aK m c) (aW m c) (seqOf t) (queryOf t x) (headOf t h) (512 * n + y.val) * ((Real.log 2)⁻¹ : ℝ) := by
  have hk : 512 * n + y.val < 8192 := by omega
  rw [sChunk_apply _ _ _ hn, b_value m c t n hn x y hk]
  simp only [q_value m c t h x, k_value m c t h n hn y _ hk]
  unfold scoreAt
  rw [dif_pos hk]
  exact scaled_score (fun d => aQ m c (ix4 (seqOf t) (queryOf t x) (headOf t h) d)) (fun d => aK m c (ix4 (seqOf t) ⟨512 * n + y.val, hk⟩ (headOf t h) d)) _

/-- A chunk's values are the arguments' values. -/
theorem chunk_value (h : Fin 4) (n : Nat) (hn : n < 16) (k : Fin 512) (d : Fin 128) :
    vChunk (ins m c t) h n (ix2 k d) = valueAt (aV m c) (seqOf t) (headOf t h) d (512 * n + k.val) := by
  have hk : 512 * n + k.val < 8192 := by omega
  have hg4 := (grpOf t).isLt
  have hb2 := (seqOf t).isLt
  rw [vChunk_apply _ _ _ hn]
  unfold valueAt
  rw [dif_pos hk]
  refine (blk_v m c t _ _ ⟨8192 * (seqOf t).val + (512 * n + k.val), by omega⟩ ⟨512 * (grpOf t).val + (128 * h.val + d.val), by omega⟩ rfl rfl).trans ?_
  exact arr_v m c _ _ _ _ _ _ rfl
    (by show 512 * (grpOf t).val + (128 * h.val + d.val) = 128 * (4 * (grpOf t).val + h.val) + d.val; omega)

/-- The gate's entry. -/
theorem gate_value (h : Fin 4) (x : Fin 512) (d : Fin 128) (hh : 128 * h.val + 128 ≤ 512) :
    (ins m c t).gAt (128 * h.val) hh (ix2 x d) = aG m c (ix3 (seqOf t) (queryOf t x) ⟨128 * (headOf t h).val + d.val, by omega⟩) := by
  have hg4 := (grpOf t).isLt
  have hr16 := (row (grid0.coords t)).isLt
  have hb2 := (seqOf t).isLt
  rw [gAt_apply]
  refine (blk_g m c t x _ ⟨512 * (16 * (seqOf t).val + (row (grid0.coords t)).val) + x.val, by omega⟩
        ⟨512 * (12 + (grpOf t).val) + (128 * h.val + d.val), by omega⟩ rfl rfl).trans ?_
  exact arr_g m c _ _ _ _ _ (by show 512 * (16 * (seqOf t).val + (row (grid0.coords t)).val) + x.val = 8192 * (seqOf t).val + (512 * (row (grid0.coords t)).val + x.val); omega)
    (by show 512 * (12 + (grpOf t).val) + (128 * h.val + d.val) = 6144 + (128 * (4 * (grpOf t).val + h.val) + d.val); omega)

/-- One head's output block. -/
theorem out_value (h : Fin 4) (x : Fin 512) (d : Fin 128) :
    out (ins m c t) (row (grid0.coords t)) h (ix2 x d)
      = attnAt (aQ m c) (aK m c) (aV m c) (aG m c) (aW m c) (seqOf t) (queryOf t x) (headOf t h) d := by
  have hr16 := (row (grid0.coords t)).isLt
  obtain ⟨-, hA⟩ := fold_apply (ins m c t) h x
    (fun k => scoreAt (aQ m c) (aK m c) (aW m c) (seqOf t) (queryOf t x) (headOf t h) k * ((Real.log 2)⁻¹ : ℝ))
    (fun k e => if h' : e.val < 128 then valueAt (aV m c) (seqOf t) (headOf t h) ⟨e.val, h'⟩ k else 1)
    (fun n hn y => chunk_score m c t h n hn x y)
    (fun n hn k e => by
      split_ifs with h'
      · exact (chunk_value m c t h n hn k ⟨e.val, h'⟩).symm
      · rfl)
    ((row (grid0.coords t)).val + 1) (by omega)
  have hq : (queryOf t x).val < 512 * ((row (grid0.coords t)).val + 1) := by
    show 512 * (row (grid0.coords t)).val + x.val < _
    omega
  unfold out attnAt
  rw [emit_apply, hA, hA, silu_kernel, gate_value]
  rw [acc_final _ _ _ _ _ _ _ _ (by omega) hq, acc_final _ _ _ _ _ _ _ _ (by omega) hq]
  congr 2
  · refine Finset.sum_congr rfl fun k _ => ?_
    rw [dif_pos d.isLt]
  · refine Finset.sum_congr rfl fun k _ => ?_
    rw [dif_neg (by simp), mul_one]

/-- The result array. -/
def G : FVec Ideal ⟨2, ![16384, 2048]⟩ .bf16 := fun j =>
  attnAt (aQ m c) (aK m c) (aV m c) (aG m c) (aW m c) ⟨(j 0).val / 8192, by have : (j 0).val < 16384 := (j 0).isLt; omega⟩
    ⟨(j 0).val % 8192, Nat.mod_lt _ (by decide)⟩ ⟨(j 1).val / 128, by have : (j 1).val < 2048 := (j 1).isLt; omega⟩ ⟨(j 1).val % 128, Nat.mod_lt _ (by decide)⟩

theorem G_apply (R : Fin 16384) (C : Fin 2048) (b : Fin 2) (q : Fin 8192) (h : Fin 16) (d : Fin 128) (hR : R.val = 8192 * b.val + q.val) (hC : C.val = 128 * h.val + d.val) :
    G m c (ix2 R C) = attnAt (aQ m c) (aK m c) (aV m c) (aG m c) (aW m c) b q h d := by
  unfold G
  have e1 : (⟨R.val / 8192, by omega⟩ : Fin 2) = b := Fin.ext (by show R.val / 8192 = b.val; omega)
  have e2 : (⟨R.val % 8192, by omega⟩ : Fin 8192) = q := Fin.ext (by show R.val % 8192 = q.val; omega)
  have e3 : (⟨C.val / 128, by omega⟩ : Fin 16) = h := Fin.ext (by show C.val / 128 = h.val; omega)
  have e4 : (⟨C.val % 128, by omega⟩ : Fin 128) = d := Fin.ext (by show C.val % 128 = d.val; omega)
  show attnAt _ _ _ _ _ (⟨R.val / 8192, _⟩ : Fin 2) (⟨R.val % 8192, _⟩ : Fin 8192) (⟨C.val / 128, _⟩ : Fin 16) (⟨C.val % 128, _⟩ : Fin 128) = _
  rw [e1, e2, e3, e4]

theorem final : (dats m 0 c).arrAt 5 (cfgs 0).N = G m c := by
  refine (dats m 0 c).arrAt_eq_of_covers 5 _ (by decide +kernel) fun t hf y => ?_
  blk_simp
  rw [after0_5]
  obtain ⟨x, z, rfl⟩ : ∃ (x z : Fin 512), y = ix2 x z := ⟨y 0, y 1, eq_ix2 y⟩
  have hg4 := (grpOf t).isLt
  have hr16 := (row (grid0.coords t)).isLt
  have hb2 := (seqOf t).isLt
  show out (ins m c t) (row (grid0.coords t)) ⟨z.val / 128, by omega⟩ (ix2 x ⟨z.val % 128, by omega⟩) = _
  rw [out_value]
  refine (G_apply m c ⟨512 * (16 * (seqOf t).val + (row (grid0.coords t)).val) + x.val, by omega⟩ ⟨512 * (grpOf t).val + z.val, by omega⟩ _ _ _ _ ?_ ?_).symm.trans ?_
  · show 512 * (16 * (seqOf t).val + (row (grid0.coords t)).val) + x.val = 8192 * (seqOf t).val + (512 * (row (grid0.coords t)).val + x.val)
    omega
  · show 512 * (grpOf t).val + z.val = 128 * (4 * (grpOf t).val + z.val / 128) + z.val % 128
    omega
  · have hb : (seqOf t).val = ((grid0.coords t) 0).val := rfl
    have hg : (grpOf t).val = ((grid0.coords t) 1).val := rfl
    have hr : (row (grid0.coords t)).val = ((grid0.coords t) 2).val := rfl
    simp only [hb, hg, hr]
    blk_ext [idx t]

end Cert.KernelIdeal.Attn

end
-- ==== Proof.RefValue.lean ====
/-
  The reference's result, entry by entry: it is the attention `attnAt`.
-/
module

public import proofs.«01_k».proof.Proof.Spec
public import proofs.«01_k».proof.Proof.Entry
public import proofs.«01_k».proof.Proof.Gen.ReferenceIdeal.Run
public import proofs.«01_k».proof.Proof.Gen.KernelIdeal

@[expose] public section

set_option maxRecDepth 16384
set_option maxHeartbeats 2000000

noncomputable section

namespace Cert.ReferenceIdeal.Attn

open Idealize.ShloMosaic Idealize.ShloMosaic.TcCoe Cert.ReferenceIdeal Cert.ReferenceIdeal.Gen
open Cert.KernelIdeal.Attn (attnAt scoreAt valueAt siluAt rs allow mx neg_inf)
open Finset (range)

/-! ## The reference's operations, stage by stage -/

/-- The masked scores. -/
def sArr (Q K : FVec Ideal S2x8192x16x128 .f32) (W : IVec S2x8192x8192 32) : FVec Ideal S2x8192x16x8192 .f32 :=
  select (broadcastInDim S2x8192x16x8192 ![0, 1, 2, 3] bcast_S2x8192x1x8192_S2x8192x16x8192_0_1_2_3 (broadcastInDim S2x8192x1x8192 ![0, 1, 3] bcast_S2x8192x8192_S2x8192x1x8192_0_1_3 (andi (cmpi .ne W (broadcastInDim S2x8192x8192 ![] bcast_S_S2x8192x8192 (constantI S_ 32 0#32))) (broadcastInDim S2x8192x8192 ![0, 1, 2] bcast_S1x8192x8192_S2x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))))))) (mulf (transpose S2x8192x16x8192 [0, 3, 1, 2] (Host.dotGeneral dot_S2x8192x16x128_S2x8192x16x128_S2x16x8192x8192_3_3_1_1_02_02 none K Q) transposes_S2x16x8192x8192_S2x8192x16x8192_0_3_1_2) (broadcastInDim S2x8192x16x8192 ![] bcast_S_S2x8192x16x8192 (Host.rsqrt (constant S_ .f32 0x43000000#32)))) (broadcastInDim S2x8192x16x8192 ![] bcast_S_S2x8192x16x8192 (id (constant S_ .f32 0xFF800000#32)))
/-- The largest score of every query and head. -/
def mArr (s : FVec Ideal S2x8192x16x8192 .f32) : FVec Ideal S2x8192x16 .f32 :=
  Host.reduce FloatOps.maximumf s (constant S_ .f32 0xFF800000#32) reducesTo_S2x8192x16x8192_S2x8192x16_d3 h_S_
/-- The weights. -/
def eArr (s : FVec Ideal S2x8192x16x8192 .f32) (mx : FVec Ideal S2x8192x16 .f32) : FVec Ideal S2x8192x16x8192 .f32 :=
  Host.exp (subf s (broadcastInDim S2x8192x16x8192 ![0, 1, 2, 3] bcast_S2x8192x16x1_S2x8192x16x8192_0_1_2_3 (broadcastInDim S2x8192x16x1 ![0, 1, 2] bcast_S2x8192x16_S2x8192x16x1_0_1_2 mx)))
/-- The sum of the weights. -/
def dArr (e : FVec Ideal S2x8192x16x8192 .f32) : FVec Ideal S2x8192x16 .f32 :=
  Host.reduceAdd e (constant S_ .f32 0x00000000#32) reducesTo_S2x8192x16x8192_S2x8192x16_d3 h_S_
/-- The weighted sum of the values. -/
def nArr (V : FVec Ideal S2x8192x16x128 .f32) (e : FVec Ideal S2x8192x16x8192 .f32) : FVec Ideal S2x8192x16x128 .f32 :=
  transpose S2x8192x16x128 [0, 3, 1, 2] (Host.dotGeneral dot_S2x8192x16x128_S2x8192x16x8192_S2x16x128x8192_1_3_3_1_02_02 none V e) transposes_S2x16x128x8192_S2x8192x16x128_0_3_1_2
/-- The quotient, gated and laid out as rows. -/
def oArr (n : FVec Ideal S2x8192x16x128 .f32) (d : FVec Ideal S2x8192x16 .f32) (G : FVec Ideal S2x8192x2048 .f32) : FVec Ideal S16384x2048 .bf16 :=
  truncf .bf16 (shapeCast _ (mulf (shapeCast _ (Host.divf n (broadcastInDim S2x8192x16x128 ![0, 1, 2, 3] bcast_S2x8192x16x1_S2x8192x16x128_0_1_2_3 (broadcastInDim S2x8192x16x1 ![0, 1, 2] bcast_S2x8192x16_S2x8192x16x1_0_1_2 d))) shapeCasts_S2x8192x16x128_S2x8192x2048) (mulf G (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf G)))))) shapeCasts_S2x8192x2048_S16384x2048) bitsLt_bf16_f32

theorem sArr_apply (Q K : FVec Ideal S2x8192x16x128 .f32) (W : IVec S2x8192x8192 32) (b : Fin 2) (q : Fin 8192) (h : Fin 16) (k : Fin 8192) :
    sArr Q K W (ix4 b q h k) = Scalar.select (allow W b q k) ((∑ d : Fin 128, K (ix4 b k h d) * Q (ix4 b q h d)) * rs) (Ideal.ofBits FTy.f32 4286578688#32) := by
  unfold sArr
  pointwise
  rfl

theorem mArr_apply (s : FVec Ideal S2x8192x16x8192 .f32) (b : Fin 2) (q : Fin 8192) (h : Fin 16) :
    mArr s (ix3 b q h) = Finset.fold max (Ideal.ofBits FTy.f32 4286578688#32) (fun k : Fin 8192 => s (ix4 b q h k)) Finset.univ := by
  unfold mArr
  pointwise

theorem eArr_apply (s : FVec Ideal S2x8192x16x8192 .f32) (mx : FVec Ideal S2x8192x16 .f32) (b : Fin 2) (q : Fin 8192) (h : Fin 16) (k : Fin 8192) :
    eArr s mx (ix4 b q h k) = Ideal.exp (s (ix4 b q h k) - mx (ix3 b q h)) := by
  unfold eArr
  pointwise

theorem dArr_apply (e : FVec Ideal S2x8192x16x8192 .f32) (b : Fin 2) (q : Fin 8192) (h : Fin 16) :
    dArr e (ix3 b q h) = ∑ k : Fin 8192, e (ix4 b q h k) := by
  unfold dArr
  pointwise

theorem nArr_apply (V : FVec Ideal S2x8192x16x128 .f32) (e : FVec Ideal S2x8192x16x8192 .f32) (b : Fin 2) (q : Fin 8192) (h : Fin 16) (d : Fin 128) :
    nArr V e (ix4 b q h d) = ∑ k : Fin 8192, V (ix4 b k h d) * e (ix4 b q h k) := by
  unfold nArr
  pointwise

theorem oArr_apply (n : FVec Ideal S2x8192x16x128 .f32) (d : FVec Ideal S2x8192x16 .f32) (G : FVec Ideal S2x8192x2048 .f32) (R : Fin 16384) (C : Fin 2048)
    (b : Fin 2) (q : Fin 8192) (h : Fin 16) (l : Fin 128)
    (hb : b = ⟨R.val / 8192, by omega⟩) (hq : q = ⟨R.val % 8192, by omega⟩) (hh : h = ⟨C.val / 128, by omega⟩) (hl : l = ⟨C.val % 128, by omega⟩) :
    oArr n d G (ix2 R C) = Ideal.div (n (ix4 b q h l)) (d (ix3 b q h)) * siluAt (G (ix3 b q C)) := by
  subst hb hq hh hl
  unfold oArr
  pointwise
  rfl

theorem res_eq (m : (ℓ : Loc nD τ sig) → Buf (Elt Ideal) ℓ) (c : Dev nD) : Value.res_main_v33 (F := Ideal) m c =
    (let Q : FVec Ideal S2x8192x16x128 .f32 := m ((c.tc : Thread nD τ).loc main_arg0)
     let K : FVec Ideal S2x8192x16x128 .f32 := m ((c.tc : Thread nD τ).loc main_arg1)
     let V : FVec Ideal S2x8192x16x128 .f32 := m ((c.tc : Thread nD τ).loc main_arg2)
     let G : FVec Ideal S2x8192x2048 .f32 := m ((c.tc : Thread nD τ).loc main_arg3)
     let W : IVec S2x8192x8192 32 := m ((c.tc : Thread nD τ).loc main_arg4)
     let s := sArr Q K W
     let e := eArr s (mArr s)
     oArr (nArr V e) (dArr e) G) := rfl

/-! ## The whole -/

variable (m : (ℓ : Loc nD τ sig) → Buf (Elt Ideal) ℓ) (c : Dev nD)

/-- The arguments. -/
abbrev aQ : FVec Ideal ⟨4, ![2, 8192, 16, 128]⟩ .f32 := m ((c : Thread nD τ).loc main_arg0)
abbrev aK : FVec Ideal ⟨4, ![2, 8192, 16, 128]⟩ .f32 := m ((c : Thread nD τ).loc main_arg1)
abbrev aV : FVec Ideal ⟨4, ![2, 8192, 16, 128]⟩ .f32 := m ((c : Thread nD τ).loc main_arg2)
abbrev aG : FVec Ideal ⟨3, ![2, 8192, 2048]⟩ .f32 := m ((c : Thread nD τ).loc main_arg3)
abbrev aW : IVec ⟨3, ![2, 8192, 8192]⟩ 32 := m ((c : Thread nD τ).loc main_arg4)

theorem scoreAt_fin (Q K : FVec Ideal ⟨4, ![2, 8192, 16, 128]⟩ .f32) (W : IVec ⟨3, ![2, 8192, 8192]⟩ 32) (b : Fin 2) (q : Fin 8192) (h : Fin 16) (k : Fin 8192) :
    scoreAt Q K W b q h k.val = Scalar.select (allow W b q k) ((∑ d : Fin 128, K (ix4 b k h d) * Q (ix4 b q h d)) * rs) ⊥ := by
  unfold scoreAt
  rw [dif_pos k.isLt]

/-- A softmax over `n` keys, its largest score taken as a fold, is the one over the first `n` naturals. -/
theorem softmax_fin (n : ℕ) (s v : ℕ → EReal) (s' v' : Fin n → EReal) (z : EReal) (hz : z = ⊥) (hs : ∀ k, s' k = s k.val) (hv : ∀ k, v' k = v k.val) :
    Ideal.div (∑ k, v' k * Ideal.exp (s' k - Finset.fold max z s' Finset.univ)) (∑ k, Ideal.exp (s' k - Finset.fold max z s' Finset.univ))
      = Ideal.div (∑ k ∈ range n, Ideal.exp (s k - mx s n) * v k) (∑ k ∈ range n, Ideal.exp (s k - mx s n)) := by
  subst hz
  haveI := Cert.KernelIdeal.Gen.facts
  rw [Cert.KernelIdeal.Attn.fold_max s' s hs, Finset.sum_range, Finset.sum_range]
  simp only [hs, hv, mx, mul_comm]

/-- The reference's result at one entry. -/
theorem ref_value (R : Fin 16384) (C : Fin 2048) (b : Fin 2) (q : Fin 8192) (h : Fin 16) (d : Fin 128)
    (hb : b = ⟨R.val / 8192, by omega⟩) (hq : q = ⟨R.val % 8192, by omega⟩) (hh : h = ⟨C.val / 128, by omega⟩) (hd : d = ⟨C.val % 128, by omega⟩) :
    Value.res_main_v33 (F := Ideal) m c (ix2 R C) = attnAt (aQ m c) (aK m c) (aV m c) (aG m c) (aW m c) b q h d := by
  have e6 : C = (⟨128 * h.val + d.val, by omega⟩ : Fin 2048) :=
    Fin.ext (by
      have h1 : h.val = C.val / 128 := congrArg Fin.val hh
      have h2 : d.val = C.val % 128 := congrArg Fin.val hd
      show C.val = 128 * h.val + d.val
      omega)
  rw [res_eq]
  dsimp only
  rw [oArr_apply _ _ _ R C b q h d hb hq hh hd, nArr_apply, dArr_apply]
  simp only [eArr_apply, mArr_apply]
  unfold attnAt
  refine congrArg₂ (fun a b : EReal => a * b) ?_ ?_
  · refine softmax_fin 8192 (scoreAt (aQ m c) (aK m c) (aW m c) b q h) (valueAt (aV m c) b h d)
      (fun k => sArr (aQ m c) (aK m c) (aW m c) (ix4 b q h k)) _ _ neg_inf (fun k => ?_) (fun k => ?_)
    · rw [scoreAt_fin]
      exact (sArr_apply _ _ _ b q h k).trans (congrArg (Scalar.select _ _) neg_inf)
    · unfold valueAt
      rw [dif_pos k.isLt]
  · exact congrArg (fun e : Fin 2048 => siluAt (aG m c (ix3 b q e))) e6

end Cert.ReferenceIdeal.Attn

end
-- ==== Proof.Call2.lean ====
/-
  The in-projection: the columns of the indexer's queries, the attention's queries (scaled), the gates
  and the gMLP, taken in groups from the weight and multiplied in one matrix product.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel2Ideal.Proj

open Cert.Kernel2Ideal.Gen
open Idealize.ShloMosaic Idealize.ShloMosaic.TcCoe

/-- The weight's column that output column `C` is made from. -/
def col (C : Fin 14336) : Fin 15008 :=
  ⟨if C.val < 4096 then 4608 + C.val else if C.val < 6144 then C.val - 4096
    else if C.val < 8192 then 2560 + (C.val - 6144) else 8864 + (C.val - 8192), by split_ifs <;> omega⟩

theorem col_ext (C : Fin 14336) (K : Fin 15008) (h : K.val = if C.val < 4096 then 4608 + C.val else if C.val < 6144 then C.val - 4096
    else if C.val < 8192 then 2560 + (C.val - 6144) else 8864 + (C.val - 8192)) : K = col C :=
  Fin.ext h

/-- The factor of output column `C`: the queries' scale on the queries' columns, one elsewhere. -/
def scl (C : Fin 14336) : EReal :=
  if 4096 ≤ C.val ∧ C.val < 6144 then
    Ideal.div (Ideal.rsqrt (Ideal.ofBits FTy.f32 0x43000000#32)) (Ideal.log (Ideal.ofBits FTy.f32 0x40000000#32))
  else 1

theorem scl_q (C : Fin 14336) (h : 4096 ≤ C.val ∧ C.val < 6144) : scl C
    = Ideal.div (Ideal.rsqrt (Ideal.ofBits FTy.f32 0x43000000#32)) (Ideal.log (Ideal.ofBits FTy.f32 0x40000000#32)) :=
  if_pos h

theorem scl_one (C : Fin 14336) (h : ¬ (4096 ≤ C.val ∧ C.val < 6144)) : scl C = 1 :=
  if_neg h

/-- One block of the call. -/
theorem pay_apply (h : Vec Ideal S1024x4096 .bf16) (w : Vec Ideal S1x1024x4096 .bf16) (s : Vec Ideal S1x1024 .f32) (i j : Fin 1024) :
    (k0_pay1 h w s (ix2 i j) : EReal)
      = (∑ d : Fin 4096, h (ix2 i d) * w (ix3 0 j d)) * s (ix2 0 j) := by
  unfold k0_pay1
  pointwise

theorem out_apply (h : Vec Ideal S1024x4096 .bf16) (w : Vec Ideal S1x1024x4096 .bf16) (s : Vec Ideal S1x1024 .f32) : out0_3 h w s = k0_pay1 h w s := by
  frame_out

variable (m : (ℓ : Loc nD τ sig) → Buf (Elt Ideal) ℓ) (c : Dev nD)

abbrev aH : FVec Ideal ⟨2, ![16384, 4096]⟩ .bf16 := m ((c : Thread nD τ).loc main_arg0)
abbrev aW : FVec Ideal ⟨3, ![2, 4096, 15008]⟩ .f32 := m ((c : Thread nD τ).loc main_arg1)

theorem arr_w (l : Fin 2) (C : Fin 14336) (d : Fin 4096) :
    (V m c main_v13 (ix3 l C d) : EReal) = aW m c (ix3 l d (col C)) := by
  unfold V
  after_reads_at
  by_cases h1 : C.val < 4096
  · refine (dif_pos h1).trans ?_
    obtain ⟨e, he⟩ : ∃ e : Fin 4096, e = ⟨C.val, by omega⟩ := ⟨_, rfl⟩
    rw [← he]
    have hv : e.val = C.val := by rw [he]
    clear he
    after_reads_at
    refine congrArg (fun k => aW m c (ix3 l d k)) (col_ext C _ ?_)
    dsimp only
    split_ifs <;> omega
  by_cases h2 : C.val - 4096 < 2048
  · refine (dif_neg h1).trans ((dif_pos h2).trans ?_)
    obtain ⟨e, he⟩ : ∃ e : Fin 2048, e = ⟨C.val - 4096, by omega⟩ := ⟨_, rfl⟩
    rw [← he]
    have hv : e.val = C.val - 4096 := by rw [he]
    clear he
    after_reads_at
    refine congrArg (fun k => aW m c (ix3 l d k)) (col_ext C _ ?_)
    dsimp only
    split_ifs <;> omega
  by_cases h3 : C.val - 4096 - 2048 < 2048
  · refine (dif_neg h1).trans ((dif_neg h2).trans ((dif_pos h3).trans ?_))
    obtain ⟨e, he⟩ : ∃ e : Fin 2048, e = ⟨C.val - 4096 - 2048, by omega⟩ := ⟨_, rfl⟩
    rw [← he]
    have hv : e.val = C.val - 4096 - 2048 := by rw [he]
    clear he
    after_reads_at
    refine congrArg (fun k => aW m c (ix3 l d k)) (col_ext C _ ?_)
    dsimp only
    split_ifs <;> omega
  refine (dif_neg h1).trans ((dif_neg h2).trans ((dif_neg h3).trans ?_))
  obtain ⟨e, he⟩ : ∃ e : Fin 6144, e = ⟨C.val - 4096 - 2048 - 2048, by omega⟩ := ⟨_, rfl⟩
  rw [← he]
  have hv : e.val = C.val - 4096 - 2048 - 2048 := by rw [he]
  clear he
  after_reads_at
  refine congrArg (fun k => aW m c (ix3 l d k)) (col_ext C _ ?_)
  dsimp only
  split_ifs <;> omega

theorem arr_s (r : Fin 1) (C : Fin 14336) : (V m c main_v6 (ix2 r C) : EReal) = scl C := by
  unfold V
  after_reads_at
  by_cases h1 : C.val < 4096
  · refine (dif_pos h1).trans ?_
    obtain ⟨e, he⟩ : ∃ e : Fin 4096, e = ⟨C.val, by omega⟩ := ⟨_, rfl⟩
    rw [← he, scl_one C (by omega)]
    clear he
    after_reads_at
  by_cases h2 : C.val - 4096 < 2048
  · refine (dif_neg h1).trans ((dif_pos h2).trans ?_)
    obtain ⟨e, he⟩ : ∃ e : Fin 2048, e = ⟨C.val - 4096, by omega⟩ := ⟨_, rfl⟩
    rw [← he, scl_q C (by omega)]
    clear he
    after_reads_at
  refine (dif_neg h1).trans ((dif_neg h2).trans ?_)
  obtain ⟨e, he⟩ : ∃ e : Fin 8192, e = ⟨C.val - 4096 - 2048, by omega⟩ := ⟨_, rfl⟩
  rw [← he, scl_one C (by omega)]
  clear he
  after_reads_at

theorem idx : ∀ t : Fin grid0.N,
    win0_0.index t = ![((grid0.coords t) 0).val, 0]
    ∧ win0_1.index t = ![0, ((grid0.coords t) 1).val, 0]
    ∧ win0_2.index t = ![0, ((grid0.coords t) 1).val]
    ∧ win0_3.index t = ![((grid0.coords t) 0).val, ((grid0.coords t) 1).val] := by
  decide +kernel

variable (t : Fin grid0.N)

theorem blk_h (i : Fin 1024) (d : Fin 4096) (R : Fin 16384) (hR : R.val = 1024 * ((grid0.coords t) 0).val + i.val) :
    iblk m c 0 t (ix2 i d) = aH m c (ix2 R d) := by
  refine Eq.trans (b := V m c main_arg0 (ix2 R d)) ?_ (congrFun (V_main_arg0 m c) _)
  blk_ext [iblk, idx t]

theorem blk_w (j : Fin 1024) (d : Fin 4096) (C : Fin 14336) (hC : C.val = 1024 * ((grid0.coords t) 1).val + j.val) :
    (iblk m c 1 t (ix3 0 j d) : EReal) = aW m c (ix3 0 d (col C)) := by
  refine Eq.trans (b := V m c main_v13 (ix3 0 C d)) ?_ (arr_w m c 0 C d)
  blk_ext [iblk, idx t]

theorem blk_s (j : Fin 1024) (C : Fin 14336) (hC : C.val = 1024 * ((grid0.coords t) 1).val + j.val) :
    (iblk m c 2 t (ix2 0 j) : EReal) = scl C := by
  refine Eq.trans (b := V m c main_v6 (ix2 0 C)) ?_ (arr_s m c 0 C)
  blk_ext [iblk, idx t]

/-- The result array. -/
def G : FVec Ideal ⟨2, ![16384, 14336]⟩ .bf16 := fun j =>
  ((∑ d : Fin 4096, aH m c (ix2 (j 0) d) * aW m c (ix3 0 d (col (j 1)))) * scl (j 1) : EReal)

theorem G_apply (R : Fin 16384) (C : Fin 14336) : (G m c (ix2 R C) : EReal)
    = (∑ d : Fin 4096, aH m c (ix2 R d) * aW m c (ix3 0 d (col C))) * scl C := rfl

theorem final : (dats m 0 c).arrAt 3 (cfgs 0).N = G m c := by
  refine (dats m 0 c).arrAt_eq_of_covers 3 _ (by decide +kernel) fun t hf y => ?_
  blk_simp
  rw [after0_3, out_apply]
  obtain ⟨i, j, rfl⟩ : ∃ (i : Fin 1024) (j : Fin 1024), y = ix2 i j := ⟨y 0, y 1, eq_ix2 y⟩
  have h0 := ((grid0.coords t) 0).isLt
  have h1 := ((grid0.coords t) 1).isLt
  change _ < 16 at h0
  change _ < 14 at h1
  obtain ⟨R, hR⟩ : ∃ R : Fin 16384, R.val = 1024 * ((grid0.coords t) 0).val + i.val := ⟨⟨1024 * ((grid0.coords t) 0).val + i.val, by omega⟩, rfl⟩
  obtain ⟨C, hC⟩ : ∃ C : Fin 14336, C.val = 1024 * ((grid0.coords t) 1).val + j.val := ⟨⟨1024 * ((grid0.coords t) 1).val + j.val, by omega⟩, rfl⟩
  refine (pay_apply _ _ _ i j).trans ?_
  rw [Finset.sum_congr rfl fun d _ => congrArg₂ (fun a b : EReal => a * b) (blk_h m c t i d R hR) (blk_w m c t j d C hC), blk_s m c t j C hC]
  refine (G_apply m c R C).symm.trans ?_
  blk_ext [idx t]

end Cert.Kernel2Ideal.Proj

namespace Cert.Reference2Ideal.Proj

open Cert.Reference2Ideal Cert.Reference2Ideal.Gen
open Cert.Kernel2Ideal.Proj (col scl col_ext scl_q scl_one)
open Idealize.ShloMosaic Idealize.ShloMosaic.TcCoe

/-- The whole product. -/
def projArr (A : FVec Ideal S16384x4096 .bf16) (W : FVec Ideal S2x4096x15008 .f32) : FVec Ideal S16384x15008 .f32 :=
  Host.dotGeneral dot_S16384x4096_S4096x15008_S16384x15008_1_0_0_1_n_n none (extf .f32 A bitsLt_bf16_f32) (shapeCast _ (extractStridedSlice S1x4096x15008 ![0, 0, 0] W slices_S2x4096x15008_S1x4096x15008_0_0_0) shapeCasts_S1x4096x15008_S4096x15008)

/-- The column groups, the queries' scaled. -/
def catArr (P : FVec Ideal S16384x15008 .f32) : FVec Ideal S16384x14336 .bf16 :=
  truncf .bf16 ((concatenate S16384x14336 1 [⟨S16384x4096, ((extractStridedSlice S16384x4096 ![0, 4608] P slices_S16384x15008_S16384x4096_0_4608))⟩, ⟨S16384x2048, ((mulf (extractStridedSlice S16384x2048 ![0, 0] P slices_S16384x15008_S16384x2048_0_0) (broadcastInDim S16384x2048 ![] bcast_S_S16384x2048 (Host.divf (Host.rsqrt (constant S_ .f32 0x43000000#32)) (Host.log (constant S_ .f32 0x40000000#32))))))⟩, ⟨S16384x2048, ((extractStridedSlice S16384x2048 ![0, 2560] P slices_S16384x15008_S16384x2048_0_2560))⟩, ⟨S16384x6144, ((extractStridedSlice S16384x6144 ![0, 8864] P slices_S16384x15008_S16384x6144_0_8864))⟩] concatenates_S16384x4096_S16384x2048_S16384x2048_S16384x6144_S16384x14336_d1)) bitsLt_bf16_f32

/-- The reference's operations. -/
def refArr (A : FVec Ideal S16384x4096 .bf16) (W : FVec Ideal S2x4096x15008 .f32) : FVec Ideal S16384x14336 .bf16 :=
  catArr (projArr A W)

theorem projArr_apply (A : FVec Ideal S16384x4096 .bf16) (W : FVec Ideal S2x4096x15008 .f32) (R : Fin 16384) (K : Fin 15008) :
    (projArr A W (ix2 R K) : EReal) = ∑ d : Fin 4096, A (ix2 R d) * W (ix3 0 d K) := by
  unfold projArr
  pointwise

theorem catArr_apply (P : FVec Ideal S16384x15008 .f32) (R : Fin 16384) (C : Fin 14336) :
    (catArr P (ix2 R C) : EReal) = P (ix2 R (col C)) * scl C := by
  unfold catArr
  pointwise
  have hP (K : Fin 15008) (h : K.val = if C.val < 4096 then 4608 + C.val else if C.val < 6144 then C.val - 4096
      else if C.val < 8192 then 2560 + (C.val - 6144) else 8864 + (C.val - 8192)) : P (ix2 R K) = P (ix2 R (col C)) :=
    congrArg (fun k => P (ix2 R k)) (col_ext C K h)
  by_cases h1 : C.val < 4096
  · refine (dif_pos h1).trans ?_
    rw [scl_one C (by omega), mul_one]
    exact hP _ (by dsimp only; split_ifs <;> omega)
  by_cases h2 : C.val - 4096 < 2048
  · refine (dif_neg h1).trans ((dif_pos h2).trans ?_)
    rw [scl_q C (by omega)]
    exact congrArg (· * _) (hP _ (by dsimp only; split_ifs <;> omega))
  by_cases h3 : C.val - 4096 - 2048 < 2048
  · refine (dif_neg h1).trans ((dif_neg h2).trans ((dif_pos h3).trans ?_))
    rw [scl_one C (by omega), mul_one]
    exact hP _ (by dsimp only; split_ifs <;> omega)
  refine (dif_neg h1).trans ((dif_neg h2).trans ((dif_neg h3).trans ?_))
  rw [scl_one C (by omega), mul_one]
  exact hP _ (by dsimp only; split_ifs <;> omega)

theorem refArr_apply (A : FVec Ideal S16384x4096 .bf16) (W : FVec Ideal S2x4096x15008 .f32) (R : Fin 16384) (C : Fin 14336) :
    (refArr A W (ix2 R C) : EReal)
      = (∑ d : Fin 4096, A (ix2 R d) * W (ix3 0 d (col C))) * scl C := by
  unfold refArr
  rw [catArr_apply, projArr_apply]

theorem refArr_eq (A : FVec Ideal S16384x4096 .bf16) (W : FVec Ideal S2x4096x15008 .f32) (A' : FVec Ideal S16384x4096 .bf16) (W' : FVec Ideal S2x4096x15008 .f32)
    (hA : A = A') (hW : W = W') : refArr A W = refArr A' W' := by
  rw [hA, hW]

end Cert.Reference2Ideal.Proj

namespace Cert.Proof

open Idealize.ShloMosaic Idealize.ShloMosaic.TcCoe Idealize.SL.Sem

theorem quiescent_Kernel2 : @Cert.quiescent_Kernel2 Cert.Kernel2.Gen.facts := fun m g _ =>
  Cert.Kernel2.Gen.frame m g

theorem quiescent_Kernel2Ideal : @Cert.quiescent_Kernel2Ideal Cert.Kernel2Ideal.Gen.facts := fun m g _ =>
  Cert.Kernel2Ideal.Gen.frame m g

theorem quiescent_Reference2Ideal : @Cert.quiescent_Reference2Ideal Cert.Reference2Ideal.Gen.facts := fun m g _ =>
  (θ_run Cert.Reference2Ideal.defs _ _).mono (fun r h => ⟨fun c => (h c).2, sem_eq_zero_of_no_sems (by decide) r.2⟩)
    (Cert.Reference2Ideal.Value.run (F := Ideal) m g)

theorem preserves2 : Cert.preserves_Kernel2_Kernel2Ideal := trivial

/-- Kernel and reference end with the same result. -/
theorem algebraic2 : @Cert.algebraic_Kernel2Ideal_Reference2Ideal Cert.Kernel2Ideal.Gen.facts Cert.Reference2Ideal.Gen.facts := by
  intro m g m' g' _ hargs
  refine ⟨fun c => Cert.Kernel2Ideal.Proj.G m c, ?_, ?_⟩
  · exact (θ_run Cert.Kernel2Ideal.defs _ _).mono
      (fun r h c => ⟨(h c).1.trans (Cert.Kernel2Ideal.Proj.final m c), (h c).2⟩)
      (Cert.Kernel2Ideal.Value.run_blocks (F := Ideal) m g)
  · refine (θ_run Cert.Reference2Ideal.defs _ _).mono
      (fun r h c => ⟨(h c).1.trans ?_, (h c).2⟩)
      (Cert.Reference2Ideal.Value.run (F := Ideal) m' g')
    have hA := hargs c
    refine (Cert.Reference2Ideal.Proj.refArr_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
      (Cert.Kernel2Ideal.Proj.aH m c) (Cert.Kernel2Ideal.Proj.aW m c) hA.1 hA.2).trans ?_
    funext j
    obtain ⟨R, C, rfl⟩ : ∃ (R : Fin 16384) (C : Fin 14336), j = ix2 R C := ⟨j 0, j 1, eq_ix2 j⟩
    exact (Cert.Reference2Ideal.Proj.refArr_apply _ _ R C).trans (Cert.Kernel2Ideal.Proj.G_apply m c R C).symm

end Cert.Proof

end
-- ==== Proof.Call3.lean ====
/-
  The out-projection with its residual: every entry is the residual's entry plus the product of a row of the two
  branches, side by side, with a column of the weight.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel3Ideal.Proj

open Cert.Kernel3Ideal.Gen
open Idealize.ShloMosaic Idealize.ShloMosaic.TcCoe

/-- One block of the call. -/
theorem pay_apply (a : Vec Ideal S1024x2048 .bf16) (wa : Vec Ideal S1x2048x1024 .bf16) (b : Vec Ideal S1024x2048 .bf16) (wb : Vec Ideal S1x2048x1024 .bf16)
    (x : Vec Ideal S1024x1024 .f32) (i j : Fin 1024) :
    (k0_pay1 a wa b wb x (ix2 i j) : EReal)
      = x (ix2 i j) + ((∑ d : Fin 2048, a (ix2 i d) * wa (ix3 0 d j)) + ∑ d : Fin 2048, b (ix2 i d) * wb (ix3 0 d j)) := by
  unfold k0_pay1
  pointwise

theorem out_apply (a b : Vec Ideal S1024x2048 .bf16) (wa wb : Vec Ideal S1x2048x1024 .bf16) (x : Vec Ideal S1024x1024 .f32) :
    out0_5 a b wa wb x = k0_pay1 a wa b wb x := by
  frame_out

variable (m : (ℓ : Loc nD τ sig) → Buf (Elt Ideal) ℓ) (c : Dev nD)

abbrev aA : FVec Ideal ⟨2, ![16384, 2048]⟩ .bf16 := m ((c : Thread nD τ).loc main_arg0)
abbrev aB : FVec Ideal ⟨2, ![16384, 2048]⟩ .bf16 := m ((c : Thread nD τ).loc main_arg1)
abbrev aW : FVec Ideal ⟨3, ![2, 4096, 4096]⟩ .f32 := m ((c : Thread nD τ).loc main_arg2)
abbrev aX : FVec Ideal ⟨2, ![16384, 4096]⟩ .f32 := m ((c : Thread nD τ).loc main_arg3)

theorem arr_w (l : Fin 2) (r s : Fin 4096) : V m c main_v0 (ix3 l r s) = aW m c (ix3 l r s) := by
  unfold V
  after_reads_at

theorem idx : ∀ t : Fin grid0.N,
    win0_0.index t = ![((grid0.coords t) 0).val, 0]
    ∧ win0_1.index t = ![((grid0.coords t) 0).val, 0]
    ∧ win0_2.index t = ![0, 0, ((grid0.coords t) 1).val]
    ∧ win0_3.index t = ![0, 1, ((grid0.coords t) 1).val]
    ∧ win0_4.index t = ![((grid0.coords t) 0).val, ((grid0.coords t) 1).val]
    ∧ win0_5.index t = ![((grid0.coords t) 0).val, ((grid0.coords t) 1).val] := by
  decide +kernel

variable (t : Fin grid0.N)

theorem blk_a (i : Fin 1024) (d : Fin 2048) (R : Fin 16384) (hR : R.val = 1024 * ((grid0.coords t) 0).val + i.val) :
    iblk m c 0 t (ix2 i d) = aA m c (ix2 R d) := by
  refine Eq.trans (b := V m c main_arg0 (ix2 R d)) ?_ (congrFun (V_main_arg0 m c) _)
  blk_ext [iblk, idx t]

theorem blk_b (i : Fin 1024) (d : Fin 2048) (R : Fin 16384) (hR : R.val = 1024 * ((grid0.coords t) 0).val + i.val) :
    iblk m c 1 t (ix2 i d) = aB m c (ix2 R d) := by
  refine Eq.trans (b := V m c main_arg1 (ix2 R d)) ?_ (congrFun (V_main_arg1 m c) _)
  blk_ext [iblk, idx t]

theorem blk_x (i j : Fin 1024) (R : Fin 16384) (C : Fin 4096) (hR : R.val = 1024 * ((grid0.coords t) 0).val + i.val)
    (hC : C.val = 1024 * ((grid0.coords t) 1).val + j.val) : iblk m c 4 t (ix2 i j) = aX m c (ix2 R C) := by
  refine Eq.trans (b := V m c main_arg3 (ix2 R C)) ?_ (congrFun (V_main_arg3 m c) _)
  blk_ext [iblk, idx t]

theorem blk_wa (d : Fin 2048) (j : Fin 1024) (D : Fin 4096) (C : Fin 4096) (hD : D.val = d.val) (hC : C.val = 1024 * ((grid0.coords t) 1).val + j.val) :
    iblk m c 2 t (ix3 0 d j) = aW m c (ix3 0 D C) := by
  refine Eq.trans (b := V m c main_v0 (ix3 0 D C)) ?_ (arr_w m c 0 D C)
  blk_ext [iblk, idx t]

theorem blk_wb (d : Fin 2048) (j : Fin 1024) (D : Fin 4096) (C : Fin 4096) (hD : D.val = 2048 + d.val) (hC : C.val = 1024 * ((grid0.coords t) 1).val + j.val) :
    iblk m c 3 t (ix3 0 d j) = aW m c (ix3 0 D C) := by
  refine Eq.trans (b := V m c main_v0 (ix3 0 D C)) ?_ (arr_w m c 0 D C)
  blk_ext [iblk, idx t]

/-- The result array. -/
def G : FVec Ideal ⟨2, ![16384, 4096]⟩ .f32 := fun j => (aX m c j : EReal)
  + ((∑ d : Fin 2048, aA m c (ix2 (j 0) d) * aW m c (ix3 0 (Fin.castAdd 2048 d) (j 1)))
    + ∑ d : Fin 2048, aB m c (ix2 (j 0) d) * aW m c (ix3 0 (Fin.natAdd 2048 d) (j 1)))

theorem G_apply (R : Fin 16384) (C : Fin 4096) : (G m c (ix2 R C) : EReal) = aX m c (ix2 R C)
    + ((∑ d : Fin 2048, aA m c (ix2 R d) * aW m c (ix3 0 (Fin.castAdd 2048 d) C))
      + ∑ d : Fin 2048, aB m c (ix2 R d) * aW m c (ix3 0 (Fin.natAdd 2048 d) C)) := rfl

theorem final : (dats m 0 c).arrAt 5 (cfgs 0).N = G m c := by
  refine (dats m 0 c).arrAt_eq_of_covers 5 _ (by decide +kernel) fun t hf y => ?_
  blk_simp
  rw [after0_5, out_apply]
  obtain ⟨i, j, rfl⟩ : ∃ (i j : Fin 1024), y = ix2 i j := ⟨y 0, y 1, eq_ix2 y⟩
  have h0 := ((grid0.coords t) 0).isLt
  have h1 := ((grid0.coords t) 1).isLt
  change _ < 16 at h0
  change _ < 4 at h1
  obtain ⟨R, hR⟩ : ∃ R : Fin 16384, R.val = 1024 * ((grid0.coords t) 0).val + i.val := ⟨⟨1024 * ((grid0.coords t) 0).val + i.val, by omega⟩, rfl⟩
  obtain ⟨C, hC⟩ : ∃ C : Fin 4096, C.val = 1024 * ((grid0.coords t) 1).val + j.val := ⟨⟨1024 * ((grid0.coords t) 1).val + j.val, by omega⟩, rfl⟩
  refine (pay_apply _ _ _ _ _ i j).trans ?_
  rw [blk_x m c t i j R C hR hC, Finset.sum_congr rfl fun d _ => congrArg₂ (fun a b : EReal => a * b) (blk_a m c t i d R hR) (blk_wa m c t d j (Fin.castAdd 2048 d) C rfl hC),
    Finset.sum_congr rfl fun d _ => congrArg₂ (fun a b : EReal => a * b) (blk_b m c t i d R hR) (blk_wb m c t d j (Fin.natAdd 2048 d) C rfl hC)]
  refine (G_apply m c R C).symm.trans ?_
  blk_ext [idx t]

end Cert.Kernel3Ideal.Proj

namespace Cert.Reference3Ideal.Proj

open Cert.Reference3Ideal Cert.Reference3Ideal.Gen
open Idealize.ShloMosaic Idealize.ShloMosaic.TcCoe

/-- The reference's operations. -/
def refArr (A B : FVec Ideal S16384x2048 .bf16) (W : FVec Ideal S2x4096x4096 .f32) (X : FVec Ideal S16384x4096 .f32) : FVec Ideal S16384x4096 .f32 :=
  addf X (Host.dotGeneral dot_S16384x4096_S4096x4096_S16384x4096_1_0_0_1_n_n none (extf .f32 (concatenate S16384x4096 1 [⟨S16384x2048, A⟩, ⟨S16384x2048, B⟩] concatenates_S16384x2048_S16384x2048_S16384x4096_d1) bitsLt_bf16_f32) (shapeCast _ (extractStridedSlice S1x4096x4096 ![0, 0, 0] W slices_S2x4096x4096_S1x4096x4096_0_0_0) shapeCasts_S1x4096x4096_S4096x4096))

theorem refArr_apply (A B : FVec Ideal S16384x2048 .bf16) (W : FVec Ideal S2x4096x4096 .f32) (X : FVec Ideal S16384x4096 .f32) (R : Fin 16384) (C : Fin 4096) :
    (refArr A B W X (ix2 R C) : EReal) = X (ix2 R C) + ((∑ d : Fin 2048, A (ix2 R d) * W (ix3 0 (Fin.castAdd 2048 d) C)) + ∑ d : Fin 2048, B (ix2 R d) * W (ix3 0 (Fin.natAdd 2048 d) C)) := by
  unfold refArr
  pointwise
  rfl

theorem refArr_eq (A B : FVec Ideal S16384x2048 .bf16) (W : FVec Ideal S2x4096x4096 .f32) (X : FVec Ideal S16384x4096 .f32)
    (A' B' : FVec Ideal S16384x2048 .bf16) (W' : FVec Ideal S2x4096x4096 .f32) (X' : FVec Ideal S16384x4096 .f32)
    (hA : A = A') (hB : B = B') (hW : W = W') (hX : X = X') : refArr A B W X = refArr A' B' W' X' := by
  rw [hA, hB, hW, hX]

end Cert.Reference3Ideal.Proj

namespace Cert.Proof

open Idealize.ShloMosaic Idealize.ShloMosaic.TcCoe Idealize.SL.Sem

theorem quiescent_Kernel3 : @Cert.quiescent_Kernel3 Cert.Kernel3.Gen.facts := fun m g _ =>
  Cert.Kernel3.Gen.frame m g

theorem quiescent_Kernel3Ideal : @Cert.quiescent_Kernel3Ideal Cert.Kernel3Ideal.Gen.facts := fun m g _ =>
  Cert.Kernel3Ideal.Gen.frame m g

theorem quiescent_Reference3Ideal : @Cert.quiescent_Reference3Ideal Cert.Reference3Ideal.Gen.facts := fun m g _ =>
  (θ_run Cert.Reference3Ideal.defs _ _).mono (fun r h => ⟨fun c => (h c).2, sem_eq_zero_of_no_sems (by decide) r.2⟩)
    (Cert.Reference3Ideal.Value.run (F := Ideal) m g)

theorem preserves3 : Cert.preserves_Kernel3_Kernel3Ideal := trivial

/-- Kernel and reference end with the same result. -/
theorem algebraic3 : @Cert.algebraic_Kernel3Ideal_Reference3Ideal Cert.Kernel3Ideal.Gen.facts Cert.Reference3Ideal.Gen.facts := by
  intro m g m' g' _ hargs
  refine ⟨fun c => Cert.Kernel3Ideal.Proj.G m c, ?_, ?_⟩
  · exact (θ_run Cert.Kernel3Ideal.defs _ _).mono
      (fun r h c => ⟨(h c).1.trans (Cert.Kernel3Ideal.Proj.final m c), (h c).2⟩)
      (Cert.Kernel3Ideal.Value.run_blocks (F := Ideal) m g)
  · refine (θ_run Cert.Reference3Ideal.defs _ _).mono
      (fun r h c => ⟨(h c).1.trans ?_, (h c).2⟩)
      (Cert.Reference3Ideal.Value.run (F := Ideal) m' g')
    have hA := hargs c
    refine (Cert.Reference3Ideal.Proj.refArr_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
      (Cert.Kernel3Ideal.Proj.aA m c) (Cert.Kernel3Ideal.Proj.aB m c) (Cert.Kernel3Ideal.Proj.aW m c) (Cert.Kernel3Ideal.Proj.aX m c) hA.1 hA.2.1 hA.2.2.1 hA.2.2.2).trans ?_
    funext j
    obtain ⟨R, C, rfl⟩ : ∃ (R : Fin 16384) (C : Fin 4096), j = ix2 R C := ⟨j 0, j 1, eq_ix2 j⟩
    exact (Cert.Reference3Ideal.Proj.refArr_apply _ _ _ _ R C).trans (Cert.Kernel3Ideal.Proj.G_apply m c R C).symm

end Cert.Proof

end
-- ==== Proof.Call4.lean ====
/-
  The final RMSNorm: every entry over the root mean square of its row, times the column's weight.
-/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel4Ideal.Norm

open Cert.Kernel4Ideal.Gen
open Idealize.ShloMosaic Idealize.ShloMosaic.TcCoe

/-- One block of the call. -/
theorem pay_apply (x : Vec Ideal S512x4096 .f32) (g : Vec Ideal S1x4096 .f32) (i : Fin 512) (j : Fin 4096) :
    (k0_pay1 x g (ix2 i j) : EReal)
      = x (ix2 i j) * Ideal.rsqrt (Ideal.div (∑ d : Fin 4096, x (ix2 i d) * x (ix2 i d)) (Ideal.ofBits FTy.f32 0x45800000#32) + Ideal.ofBits FTy.f32 0x358637BD#32) * g (ix2 0 j) := by
  unfold k0_pay1
  pointwise

theorem out_apply (x : Vec Ideal S512x4096 .f32) (g : Vec Ideal S1x4096 .f32) : out0_2 x g = k0_pay1 x g := by
  frame_out

variable (m : (ℓ : Loc nD τ sig) → Buf (Elt Ideal) ℓ) (c : Dev nD)

abbrev aX : FVec Ideal ⟨2, ![16384, 4096]⟩ .f32 := m ((c : Thread nD τ).loc main_arg0)
abbrev aG : FVec Ideal ⟨1, ![4096]⟩ .f32 := m ((c : Thread nD τ).loc main_arg1)

theorem arr_g (r : Fin 1) (s : Fin 4096) : V m c main_v0 (ix2 r s) = aG m c (ix1 s) := by
  unfold V
  after_reads_at

theorem idx : ∀ t : Fin grid0.N,
    win0_0.index t = ![((grid0.coords t) 0).val, 0]
    ∧ win0_1.index t = ![0, 0]
    ∧ win0_2.index t = ![((grid0.coords t) 0).val, 0] := by
  decide +kernel

variable (t : Fin grid0.N)

theorem blk_x (i : Fin 512) (d : Fin 4096) (R : Fin 16384) (hR : R.val = 512 * ((grid0.coords t) 0).val + i.val) :
    iblk m c 0 t (ix2 i d) = aX m c (ix2 R d) := by
  refine Eq.trans (b := V m c main_arg0 (ix2 R d)) ?_ (congrFun (V_main_arg0 m c) _)
  blk_ext [iblk, idx t]

theorem blk_g (j : Fin 4096) : iblk m c 1 t (ix2 0 j) = aG m c (ix1 j) := by
  refine Eq.trans (b := V m c main_v0 (ix2 0 j)) ?_ (arr_g m c 0 j)
  blk_ext [iblk, idx t]

/-- The result array. -/
def G : FVec Ideal ⟨2, ![16384, 4096]⟩ .f32 := fun j =>
  (aX m c j : EReal) * Ideal.rsqrt (Ideal.div (∑ d : Fin 4096, aX m c (ix2 (j 0) d) * aX m c (ix2 (j 0) d)) (Ideal.ofBits FTy.f32 0x45800000#32) + Ideal.ofBits FTy.f32 0x358637BD#32)
    * aG m c (ix1 (j 1))

theorem G_apply (R : Fin 16384) (C : Fin 4096) : (G m c (ix2 R C) : EReal) = aX m c (ix2 R C)
    * Ideal.rsqrt (Ideal.div (∑ d : Fin 4096, aX m c (ix2 R d) * aX m c (ix2 R d)) (Ideal.ofBits FTy.f32 0x45800000#32) + Ideal.ofBits FTy.f32 0x358637BD#32) * aG m c (ix1 C) := rfl

theorem final : (dats m 0 c).arrAt 2 (cfgs 0).N = G m c := by
  refine (dats m 0 c).arrAt_eq_of_covers 2 _ (by decide +kernel) fun t hf y => ?_
  blk_simp
  rw [after0_2, out_apply]
  obtain ⟨i, j, rfl⟩ : ∃ (i : Fin 512) (j : Fin 4096), y = ix2 i j := ⟨y 0, y 1, eq_ix2 y⟩
  have h0 := ((grid0.coords t) 0).isLt
  change _ < 32 at h0
  obtain ⟨R, hR⟩ : ∃ R : Fin 16384, R.val = 512 * ((grid0.coords t) 0).val + i.val := ⟨⟨512 * ((grid0.coords t) 0).val + i.val, by omega⟩, rfl⟩
  refine (pay_apply _ _ i j).trans ?_
  rw [Finset.sum_congr rfl fun d _ => congrArg₂ (fun a b : EReal => a * b) (blk_x m c t i d R hR) (blk_x m c t i d R hR), blk_x m c t i j R hR, blk_g m c t j]
  refine (G_apply m c R j).symm.trans ?_
  blk_ext [idx t]

end Cert.Kernel4Ideal.Norm

namespace Cert.Reference4Ideal.Norm

open Cert.Reference4Ideal Cert.Reference4Ideal.Gen
open Idealize.ShloMosaic Idealize.ShloMosaic.TcCoe

/-- The reference's operations. -/
def refArr (X : FVec Ideal S16384x4096 .f32) (W : FVec Ideal S4096 .f32) : FVec Ideal S16384x4096 .f32 :=
  mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 W))

theorem refArr_apply (X : FVec Ideal S16384x4096 .f32) (W : FVec Ideal S4096 .f32) (R : Fin 16384) (C : Fin 4096) :
    (refArr X W (ix2 R C) : EReal) = X (ix2 R C)
      * Ideal.rsqrt (Ideal.div (∑ d : Fin 4096, X (ix2 R d) * X (ix2 R d)) (Ideal.ofBits FTy.f32 0x45800000#32) + Ideal.ofBits FTy.f32 0x358637BD#32) * W (ix1 C) := by
  unfold refArr
  pointwise

theorem refArr_eq (X : FVec Ideal S16384x4096 .f32) (W : FVec Ideal S4096 .f32) (X' : FVec Ideal S16384x4096 .f32) (W' : FVec Ideal S4096 .f32)
    (hX : X = X') (hW : W = W') : refArr X W = refArr X' W' := by
  rw [hX, hW]

end Cert.Reference4Ideal.Norm

namespace Cert.Proof

open Idealize.ShloMosaic Idealize.ShloMosaic.TcCoe Idealize.SL.Sem

theorem quiescent_Kernel4 : @Cert.quiescent_Kernel4 Cert.Kernel4.Gen.facts := fun m g _ =>
  Cert.Kernel4.Gen.frame m g

theorem quiescent_Kernel4Ideal : @Cert.quiescent_Kernel4Ideal Cert.Kernel4Ideal.Gen.facts := fun m g _ =>
  Cert.Kernel4Ideal.Gen.frame m g

theorem quiescent_Reference4Ideal : @Cert.quiescent_Reference4Ideal Cert.Reference4Ideal.Gen.facts := fun m g _ =>
  (θ_run Cert.Reference4Ideal.defs _ _).mono (fun r h => ⟨fun c => (h c).2, sem_eq_zero_of_no_sems (by decide) r.2⟩)
    (Cert.Reference4Ideal.Value.run (F := Ideal) m g)

theorem preserves4 : Cert.preserves_Kernel4_Kernel4Ideal := trivial

/-- Kernel and reference end with the same result. -/
theorem algebraic4 : @Cert.algebraic_Kernel4Ideal_Reference4Ideal Cert.Kernel4Ideal.Gen.facts Cert.Reference4Ideal.Gen.facts := by
  intro m g m' g' _ hargs
  refine ⟨fun c => Cert.Kernel4Ideal.Norm.G m c, ?_, ?_⟩
  · exact (θ_run Cert.Kernel4Ideal.defs _ _).mono
      (fun r h c => ⟨(h c).1.trans (Cert.Kernel4Ideal.Norm.final m c), (h c).2⟩)
      (Cert.Kernel4Ideal.Value.run_blocks (F := Ideal) m g)
  · refine (θ_run Cert.Reference4Ideal.defs _ _).mono
      (fun r h c => ⟨(h c).1.trans ?_, (h c).2⟩)
      (Cert.Reference4Ideal.Value.run (F := Ideal) m' g')
    have hA := hargs c
    refine (Cert.Reference4Ideal.Norm.refArr_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
      (Cert.Kernel4Ideal.Norm.aX m c) (Cert.Kernel4Ideal.Norm.aG m c) hA.1 hA.2).trans ?_
    funext j
    obtain ⟨R, C, rfl⟩ : ∃ (R : Fin 16384) (C : Fin 4096), j = ix2 R C := ⟨j 0, j 1, eq_ix2 j⟩
    exact (Cert.Reference4Ideal.Norm.refArr_apply _ _ R C).trans (Cert.Kernel4Ideal.Norm.G_apply m c R C).symm

end Cert.Proof

end
-- ==== Proof.Call5.lean ====
/-
  The latent's call: the latent's rows, normalised, and their expansion to keys and values; the indexer's
  keys, normalised; the indexer's head weights, scaled.
-/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel5Ideal.Prep

open Cert.Kernel5Ideal.Gen
open Idealize.ShloMosaic Idealize.ShloMosaic.TcCoe

/-- A row over its root mean square, times the weights. -/
def latRow (t g : Fin 512 → EReal) (e : Fin 512) : EReal :=
  t e * Ideal.rsqrt (Ideal.div (∑ x : Fin 512, t x * t x) (Ideal.ofBits FTy.f32 0x44000000#32) + Ideal.ofBits FTy.f32 0x358637BD#32) * g e

/-- A row without its mean. -/
def ctrRow (t : Fin 128 → EReal) (e : Fin 128) : EReal :=
  t e - Ideal.div (∑ x : Fin 128, t x) (Ideal.ofBits FTy.f32 0x43000000#32)

/-- A row's layer norm. -/
def keyRow (t g b : Fin 128 → EReal) (e : Fin 128) : EReal :=
  ctrRow t e * Ideal.rsqrt (Ideal.div (∑ x : Fin 128, ctrRow t x * ctrRow t x) (Ideal.ofBits FTy.f32 0x43000000#32) + Ideal.ofBits FTy.f32 0x358637BD#32) * g e + b e

def c0 (e : Fin 512) : Fin 768 := ⟨e.val, by omega⟩
def c1 (e : Fin 128) : Fin 768 := ⟨512 + e.val, by omega⟩
def c2 (e : Fin 128) : Fin 768 := ⟨640 + e.val, by omega⟩

variable (h : Vec Ideal S512x4096 .bf16) (w : Vec Ideal S1x768x4096 .bf16)

theorem pay1_apply (i : Fin 512) (s : Fin 768) : (k0_pay1 h w (ix2 i s) : EReal) = ∑ d : Fin 4096, h (ix2 i d) * w (ix3 0 s d) := by
  unfold k0_pay1
  pointwise

theorem pay2_apply (g : Vec Ideal S1x512 .f32) (i e : Fin 512) :
    (k0_pay2 h w g (ix2 i e) : EReal) = latRow (fun x => k0_pay1 h w (ix2 i (c0 x))) (fun x => g (ix2 0 x)) e := by
  unfold k0_pay2
  generalize k0_pay1 h w = P
  pointwise
  rfl

theorem pay3_apply (g : Vec Ideal S1x512 .f32) (u : Vec Ideal S1x2048x512 .bf16) (a : Fin 2048) (i : Fin 512) :
    (k0_pay3 h w g u (ix4 0 0 a i) : EReal) = ∑ e : Fin 512, u (ix3 0 a e) * k0_pay2 h w g (ix2 i e) := by
  unfold k0_pay3
  generalize k0_pay2 h w g = P
  pointwise

theorem pay4_apply (g : Vec Ideal S1x512 .f32) (u : Vec Ideal S1x512x2048 .bf16) (i : Fin 512) (a : Fin 2048) :
    (k0_pay4 h w g u (ix2 i a) : EReal) = ∑ e : Fin 512, k0_pay2 h w g (ix2 i e) * u (ix3 0 e a) := by
  unfold k0_pay4
  generalize k0_pay2 h w g = P
  pointwise

theorem pay5_apply (P : FVec Ideal S512x768 .f32) (g b : Vec Ideal S1x128 .f32) (x : Fin 128) (i : Fin 512) :
    (k0_pay5 P g b (ix2 x i) : EReal) = keyRow (fun y => P (ix2 i (c1 y))) (fun y => g (ix2 0 y)) (fun y => b (ix2 0 y)) x := by
  unfold k0_pay5
  pointwise
  rfl

theorem pay6_apply (P : FVec Ideal S512x768 .f32) (g b : Vec Ideal S1x128 .f32) (x : Fin 128) (y : Fin 256) (i : Fin 512) (hi : i.val = y.val) :
    (k0_pay6 P g b (ix4 0 0 x y) : EReal) = k0_pay5 P g b (ix2 x i) := by
  unfold k0_pay6
  generalize k0_pay5 P g b = Q
  pointwise
  exact congrArg (fun k => Q (ix2 x k)) (Fin.ext hi.symm)

theorem pay7_apply (P : FVec Ideal S512x768 .f32) (g b : Vec Ideal S1x128 .f32) (x : Fin 128) (y : Fin 256) (i : Fin 512) (hi : i.val = 256 + y.val) :
    (k0_pay7 P g b (ix4 0 0 x y) : EReal) = k0_pay5 P g b (ix2 x i) := by
  unfold k0_pay7
  generalize k0_pay5 P g b = Q
  pointwise
  exact congrArg (fun k => Q (ix2 x k)) (Fin.ext hi.symm)

theorem pay8_apply (P : FVec Ideal S512x768 .f32) (i : Fin 512) (j : Fin 128) :
    (k0_pay8 P (ix2 i j) : EReal) = P (ix2 i (c2 j)) * Ideal.ofBits FTy.f32 0x3C800000#32 := by
  unfold k0_pay8
  pointwise
  rfl

variable (kg : Vec Ideal S1x512 .f32) (g b : Vec Ideal S1x128 .f32) (uk : Vec Ideal S1x2048x512 .bf16) (uv : Vec Ideal S1x512x2048 .bf16)

theorem out7 : out0_7 h w kg g b uk uv = k0_pay3 h w kg uk := by
  frame_out

theorem out8 : out0_8 h w kg g b uk uv = k0_pay4 h w kg uv := by
  frame_out

theorem out10 : out0_10 h w kg g b uk uv = k0_pay8 (k0_pay1 h w) := by
  frame_out
  unfold k0_pay9
  frame_out

/-- The row of tile `u`, place `v`. -/
def place (u : Fin 2) (v : Fin 256) : Fin 512 := ⟨256 * u.val + v.val, by omega⟩

/-- The tiles of normalised keys, as one function of the block's index. -/
def tiles (P : FVec Ideal S512x768 .f32) (g b : Vec Ideal S1x128 .f32) : Vec Ideal S1x2x128x256 .bf16 := fun y =>
  k0_pay5 P g b (ix2 (y 2) (place (y 1) (y 3)))

theorem tiles_apply (P : FVec Ideal S512x768 .f32) (g b : Vec Ideal S1x128 .f32) (r : Fin 1) (u : Fin 2) (x : Fin 128) (v : Fin 256) :
    (tiles P g b (ix4 r u x v) : EReal) = k0_pay5 P g b (ix2 x (place u v)) := rfl

theorem pay9_eq : k0_pay9 h w kg g b uk uv = k0_pay1 h w := by
  unfold k0_pay9
  frame_out

theorem emb9 (x : Fin 128) (v : Fin 256) : r0_9.emb (ix4 (0 : Fin 1) (0 : Fin 1) x v) = (ix4 (0 : Fin 1) (1 : Fin 2) x v : S1x2x128x256.Idx) := by
  refine (eq_ix4 _).trans ?_
  congr 1
  · exact Fin.ext ((ValueKit.rect_emb_unit_val _ _ _ _ 2).trans (show 0 + x.val = x.val by omega))
  · exact Fin.ext ((ValueKit.rect_emb_unit_val _ _ _ _ 3).trans (show 0 + v.val = v.val by omega))

theorem emb8 (x : Fin 128) (v : Fin 256) : r0_8.emb (ix4 (0 : Fin 1) (0 : Fin 1) x v) = (ix4 (0 : Fin 1) (0 : Fin 2) x v : S1x2x128x256.Idx) := by
  refine (eq_ix4 _).trans ?_
  congr 1
  · exact Fin.ext ((ValueKit.rect_emb_unit_val _ _ _ _ 2).trans (show 0 + x.val = x.val by omega))
  · exact Fin.ext ((ValueKit.rect_emb_unit_val _ _ _ _ 3).trans (show 0 + v.val = v.val by omega))

theorem piece9 (P : FVec Ideal S512x768 .f32) (z : S1x1x128x256.Idx) : k0_pay7 P g b z = tiles P g b (r0_9.emb z) := by
  obtain ⟨a0, a1, x, v, rfl⟩ : ∃ (a0 a1 : Fin 1) (x : Fin 128) (v : Fin 256), z = ix4 a0 a1 x v := ⟨z 0, z 1, z 2, z 3, eq_ix4 z⟩
  obtain rfl := Subsingleton.elim a0 0
  obtain rfl := Subsingleton.elim a1 0
  refine (pay7_apply P g b x v (place 1 v) rfl).trans ?_
  exact ((congrArg (tiles P g b) (emb9 x v)).trans (tiles_apply P g b 0 1 x v)).symm

theorem piece8 (P : FVec Ideal S512x768 .f32) (z : S1x1x128x256.Idx) : k0_pay6 P g b z = tiles P g b (r0_8.emb z) := by
  obtain ⟨a0, a1, x, v, rfl⟩ : ∃ (a0 a1 : Fin 1) (x : Fin 128) (v : Fin 256), z = ix4 a0 a1 x v := ⟨z 0, z 1, z 2, z 3, eq_ix4 z⟩
  obtain rfl := Subsingleton.elim a0 0
  obtain rfl := Subsingleton.elim a1 0
  refine (pay6_apply P g b x v (place 0 v) (by unfold place; simp)).trans ?_
  exact ((congrArg (tiles P g b) (emb8 x v)).trans (tiles_apply P g b 0 0 x v)).symm

theorem out9 : out0_9 h w kg g b uk uv = tiles (k0_pay1 h w) g b := by
  frame_out
  rw [pay9_eq]
  generalize k0_pay1 h w = P
  funext y
  refine View.canon_apply_of_pieces (tiles P g b) _ ?_ y (cover0_9 _ _ y)
  simp only [List.forall_mem_cons]
  exact ⟨piece9 g b P, piece8 g b P, fun p hp => absurd hp List.not_mem_nil⟩

/-- An entry of the projection of a row. -/
def projE (H : FVec Ideal ⟨2, ![16384, 4096]⟩ .bf16) (W : FVec Ideal ⟨3, ![2, 4096, 15008]⟩ .f32) (R : Fin 16384) (K : Fin 15008) : EReal :=
  ∑ d : Fin 4096, H (ix2 R d) * W (ix3 0 d K)

def k0 (e : Fin 512) : Fin 15008 := ⟨2048 + e.val, by omega⟩
def k1 (e : Fin 128) : Fin 15008 := ⟨8704 + e.val, by omega⟩
def k2 (e : Fin 32) : Fin 15008 := ⟨8832 + e.val, by omega⟩

/-- An entry of a head's matrix, the heads one after another. -/
def upE (U : FVec Ideal ⟨4, ![2, 512, 16, 128]⟩ .f32) (e : Fin 512) (a : Fin 2048) : EReal :=
  U (ix4 0 e (⟨a.val / 128, by omega⟩ : Fin 16) (⟨a.val % 128, by omega⟩ : Fin 128))

/-- An entry of the normalised latent. -/
def latE (H : FVec Ideal ⟨2, ![16384, 4096]⟩ .bf16) (W : FVec Ideal ⟨3, ![2, 4096, 15008]⟩ .f32) (G : FVec Ideal ⟨1, ![512]⟩ .f32) (R : Fin 16384) (e : Fin 512) : EReal :=
  latRow (fun x => projE H W R (k0 x)) (fun x => G (ix1 x)) e

/-- An entry of the expanded latent: of the keys with `w_uk`, of the values with `w_uv`. -/
def expE (H : FVec Ideal ⟨2, ![16384, 4096]⟩ .bf16) (W : FVec Ideal ⟨3, ![2, 4096, 15008]⟩ .f32) (G : FVec Ideal ⟨1, ![512]⟩ .f32) (U : FVec Ideal ⟨4, ![2, 512, 16, 128]⟩ .f32)
    (R : Fin 16384) (a : Fin 2048) : EReal :=
  ∑ e : Fin 512, latE H W G R e * upE U e a

/-- An entry of the indexer's normalised keys. -/
def idxE (H : FVec Ideal ⟨2, ![16384, 4096]⟩ .bf16) (W : FVec Ideal ⟨3, ![2, 4096, 15008]⟩ .f32) (K B : FVec Ideal ⟨1, ![128]⟩ .f32) (R : Fin 16384) (x : Fin 128) : EReal :=
  keyRow (fun y => projE H W R (k1 y)) (fun y => K (ix1 y)) (fun y => B (ix1 y)) x

/-- An entry of the indexer's scaled head weights, zero past the last head. -/
def wtsE (H : FVec Ideal ⟨2, ![16384, 4096]⟩ .bf16) (W : FVec Ideal ⟨3, ![2, 4096, 15008]⟩ .f32) (R : Fin 16384) (j : Fin 128) : EReal :=
  if hj : j.val < 32 then projE H W R (k2 ⟨j.val, hj⟩) * Ideal.ofBits FTy.f32 0x3C800000#32 else 0

/-- The row of batch `b`, chunk `q` of 512, place `s`. -/
def row16 (b : Fin 2) (q : Fin 16) (s : Fin 512) : Fin 16384 := ⟨8192 * b.val + 512 * q.val + s.val, by omega⟩

/-- The row of batch `b`, tile `q` of 256, place `s`. -/
def row32 (b : Fin 2) (q : Fin 32) (s : Fin 256) : Fin 16384 := ⟨8192 * b.val + 256 * q.val + s.val, by omega⟩

section
variable (m : (ℓ : Loc nD τ sig) → Buf (Elt Ideal) ℓ) (c : Dev nD)

abbrev aH : FVec Ideal ⟨2, ![16384, 4096]⟩ .bf16 := m ((c : Thread nD τ).loc main_arg0)
abbrev aW : FVec Ideal ⟨3, ![2, 4096, 15008]⟩ .f32 := m ((c : Thread nD τ).loc main_arg1)
abbrev aG : FVec Ideal ⟨1, ![512]⟩ .f32 := m ((c : Thread nD τ).loc main_arg2)
abbrev aK : FVec Ideal ⟨1, ![128]⟩ .f32 := m ((c : Thread nD τ).loc main_arg3)
abbrev aB : FVec Ideal ⟨1, ![128]⟩ .f32 := m ((c : Thread nD τ).loc main_arg4)
abbrev aUk : FVec Ideal ⟨4, ![2, 512, 16, 128]⟩ .f32 := m ((c : Thread nD τ).loc main_arg5)
abbrev aUv : FVec Ideal ⟨4, ![2, 512, 16, 128]⟩ .f32 := m ((c : Thread nD τ).loc main_arg6)

theorem arr_lat (l : Fin 2) (C : Fin 15104) (d : Fin 4096) (e : Fin 512) (hC : C.val = 14336 + e.val) :
    (V m c main_v9 (ix3 l C d) : EReal) = aW m c (ix3 l d (k0 e)) := by
  unfold V
  after_reads_at
  refine (dif_neg (by omega)).trans ((dif_neg (by omega)).trans ((dif_neg (by omega)).trans ((dif_neg (by omega)).trans ((dif_pos (by omega)).trans ?_))))
  obtain ⟨z, hz⟩ : ∃ z : Fin 512, z = ⟨C.val - 4096 - 2048 - 2048 - 6144, by omega⟩ := ⟨_, rfl⟩
  rw [← hz]
  have hv : z.val = C.val - 4096 - 2048 - 2048 - 6144 := by rw [hz]
  obtain rfl : z = e := Fin.ext (by omega)
  clear hz hv hC
  after_reads_at
  rfl

theorem arr_idx (l : Fin 2) (C : Fin 15104) (d : Fin 4096) (z : Fin 160) (K : Fin 15008) (hC : C.val = 14848 + z.val) (hK : K.val = 8704 + z.val) :
    (V m c main_v9 (ix3 l C d) : EReal) = aW m c (ix3 l d K) := by
  unfold V
  after_reads_at
  refine (dif_neg (by omega)).trans ((dif_neg (by omega)).trans ((dif_neg (by omega)).trans ((dif_neg (by omega)).trans ((dif_neg (by omega)).trans ((dif_pos (by omega)).trans ?_)))))
  obtain ⟨y, hy⟩ : ∃ y : Fin 160, y = ⟨C.val - 4096 - 2048 - 2048 - 6144 - 512, by omega⟩ := ⟨_, rfl⟩
  rw [← hy]
  have hv : y.val = C.val - 4096 - 2048 - 2048 - 6144 - 512 := by rw [hy]
  obtain rfl : y = z := Fin.ext (by omega)
  clear hy hv hC
  have hb : 8704 + y.val < 15008 := by clear hK; omega
  obtain rfl : K = ⟨8704 + y.val, hb⟩ := Fin.ext hK
  clear hK
  after_reads_at

theorem arr_pad (l : Fin 2) (C : Fin 15104) (d : Fin 4096) (hC : 15008 ≤ C.val) :
    @Eq EReal (V m c main_v9 (ix3 l C d)) 0 := by
  unfold V
  after_reads_at
  refine (dif_neg (by omega)).trans ((dif_neg (by omega)).trans ((dif_neg (by omega)).trans ((dif_neg (by omega)).trans ((dif_neg (by omega)).trans ((dif_neg (by omega)).trans ?_)))))
  obtain ⟨y, hy⟩ : ∃ y : Fin 96, y = ⟨C.val - 4096 - 2048 - 2048 - 6144 - 512 - 160, by omega⟩ := ⟨_, rfl⟩
  rw [← hy]
  clear hy hC
  after_reads_at

theorem arr_uk (l : Fin 2) (a : Fin 2048) (e : Fin 512) : (V m c main_v12 (ix3 l a e) : EReal)
    = aUk m c (ix4 l e (⟨a.val / 128, by omega⟩ : Fin 16) (⟨a.val % 128, by omega⟩ : Fin 128)) := by
  unfold V
  after_reads_at

theorem arr_uv (l : Fin 2) (e : Fin 512) (a : Fin 2048) : (V m c main_v14 (ix3 l e a) : EReal)
    = aUv m c (ix4 l e (⟨a.val / 128, by omega⟩ : Fin 16) (⟨a.val % 128, by omega⟩ : Fin 128)) := by
  unfold V
  after_reads_at

theorem arr_g (r : Fin 1) (s : Fin 512) : V m c main_v15 (ix2 r s) = aG m c (ix1 s) := by
  unfold V
  after_reads_at

theorem arr_k (r : Fin 1) (s : Fin 128) : V m c main_v16 (ix2 r s) = aK m c (ix1 s) := by
  unfold V
  after_reads_at

theorem arr_b (r : Fin 1) (s : Fin 128) : V m c main_v17 (ix2 r s) = aB m c (ix1 s) := by
  unfold V
  after_reads_at

theorem idx : ∀ t : Fin grid0.N,
    win0_0.index t = ![16 * ((grid0.coords t) 0).val + ((grid0.coords t) 1).val, 0]
    ∧ win0_1.index t = ![0, 14336, 0]
    ∧ win0_2.index t = ![0, 0]
    ∧ win0_3.index t = ![0, 0]
    ∧ win0_4.index t = ![0, 0]
    ∧ win0_5.index t = ![0, 0, 0]
    ∧ win0_6.index t = ![0, 0, 0]
    ∧ win0_7.index t = ![((grid0.coords t) 0).val, ((grid0.coords t) 1).val, 0, 0]
    ∧ win0_8.index t = ![16 * ((grid0.coords t) 0).val + ((grid0.coords t) 1).val, 0]
    ∧ win0_9.index t = ![((grid0.coords t) 0).val, ((grid0.coords t) 1).val, 0, 0]
    ∧ win0_10.index t = ![16 * ((grid0.coords t) 0).val + ((grid0.coords t) 1).val, 0] := by
  decide +kernel

variable (t : Fin grid0.N)

theorem blk_h (i : Fin 512) (d : Fin 4096) (R : Fin 16384) (hR : R.val = 512 * (16 * ((grid0.coords t) 0).val + ((grid0.coords t) 1).val) + i.val) :
    iblk m c 0 t (ix2 i d) = aH m c (ix2 R d) := by
  refine Eq.trans (b := V m c main_arg0 (ix2 R d)) ?_ (congrFun (V_main_arg0 m c) _)
  blk_ext [iblk, idx t]

theorem blk_w (s : Fin 768) (d : Fin 4096) (C : Fin 15104) (hC : C.val = 14336 + s.val) :
    iblk m c 1 t (ix3 0 s d) = V m c main_v9 (ix3 0 C d) := by
  blk_ext [iblk, idx t]
  · refine (Pipeline.Window.rect_emb_val_off win0_1 t (ix3 0 s d) 0).trans ?_
    rw [(idx t).2.1]
    rfl
  · refine (Pipeline.Window.rect_emb_val_off win0_1 t (ix3 0 s d) 1).trans ?_
    rw [(idx t).2.1]
    exact hC.symm
  · refine (Pipeline.Window.rect_emb_val_off win0_1 t (ix3 0 s d) 2).trans ?_
    rw [(idx t).2.1]
    exact Nat.zero_add _

theorem blk_g (e : Fin 512) : iblk m c 2 t (ix2 0 e) = aG m c (ix1 e) := by
  refine Eq.trans (b := V m c main_v15 (ix2 0 e)) ?_ (arr_g m c 0 e)
  blk_ext [iblk, idx t]

theorem blk_k (e : Fin 128) : iblk m c 3 t (ix2 0 e) = aK m c (ix1 e) := by
  refine Eq.trans (b := V m c main_v16 (ix2 0 e)) ?_ (arr_k m c 0 e)
  blk_ext [iblk, idx t]

theorem blk_b (e : Fin 128) : iblk m c 4 t (ix2 0 e) = aB m c (ix1 e) := by
  refine Eq.trans (b := V m c main_v17 (ix2 0 e)) ?_ (arr_b m c 0 e)
  blk_ext [iblk, idx t]

theorem blk_uk (a : Fin 2048) (e : Fin 512) : (iblk m c 5 t (ix3 0 a e) : EReal) = upE (aUk m c) e a := by
  refine Eq.trans (b := V m c main_v12 (ix3 0 a e)) ?_ (arr_uk m c 0 a e)
  blk_ext [iblk, idx t]

theorem blk_uv (e : Fin 512) (a : Fin 2048) : (iblk m c 6 t (ix3 0 e a) : EReal) = upE (aUv m c) e a := by
  refine Eq.trans (b := V m c main_v14 (ix3 0 e a)) ?_ (arr_uv m c 0 e a)
  blk_ext [iblk, idx t]

variable (R : Fin 16384) (i : Fin 512) (hR : R.val = 512 * (16 * ((grid0.coords t) 0).val + ((grid0.coords t) 1).val) + i.val)
include hR

theorem tail_lat (e : Fin 512) : (k0_pay1 (iblk m c 0 t) (iblk m c 1 t) (ix2 i (c0 e)) : EReal) = projE (aH m c) (aW m c) R (k0 e) := by
  refine (pay1_apply _ _ i (c0 e)).trans ?_
  refine Finset.sum_congr rfl fun d _ => congrArg₂ (fun a b : EReal => a * b) (blk_h m c t i d R hR) ?_
  exact (blk_w m c t (c0 e) d ⟨14336 + e.val, by omega⟩ rfl).trans (arr_lat m c 0 _ d e rfl)

theorem tail_idx (e : Fin 128) : (k0_pay1 (iblk m c 0 t) (iblk m c 1 t) (ix2 i (c1 e)) : EReal) = projE (aH m c) (aW m c) R (k1 e) := by
  refine (pay1_apply _ _ i (c1 e)).trans ?_
  refine Finset.sum_congr rfl fun d _ => congrArg₂ (fun a b : EReal => a * b) (blk_h m c t i d R hR) ?_
  exact (blk_w m c t (c1 e) d ⟨14848 + e.val, by omega⟩ (by unfold c1; dsimp only; omega)).trans
    (arr_idx m c 0 _ d ⟨e.val, by omega⟩ (k1 e) rfl rfl)

theorem tail_wts (e : Fin 32) : (k0_pay1 (iblk m c 0 t) (iblk m c 1 t) (ix2 i (c2 ⟨e.val, by omega⟩)) : EReal) = projE (aH m c) (aW m c) R (k2 e) := by
  refine (pay1_apply _ _ i _).trans ?_
  refine Finset.sum_congr rfl fun d _ => congrArg₂ (fun a b : EReal => a * b) (blk_h m c t i d R hR) ?_
  exact (blk_w m c t (c2 ⟨e.val, by omega⟩) d ⟨14976 + e.val, by omega⟩ (by unfold c2; dsimp only; omega)).trans
    (arr_idx m c 0 _ d ⟨128 + e.val, by omega⟩ (k2 e) (by dsimp only; omega) (by unfold k2; dsimp only; omega))

theorem tail_pad (j : Fin 128) (hj : ¬ j.val < 32) : @Eq EReal (k0_pay1 (iblk m c 0 t) (iblk m c 1 t) (ix2 i (c2 j))) 0 := by
  refine (pay1_apply _ _ i _).trans ?_
  refine Finset.sum_eq_zero fun d _ => ?_
  refine (congrArg (fun b : EReal => @HMul.hMul EReal EReal EReal _ (iblk m c 0 t (ix2 i d)) b) ((blk_w m c t (c2 j) d ⟨14976 + j.val, by omega⟩ (by unfold c2; dsimp only; omega)).trans
    (arr_pad m c 0 _ d (by dsimp only; omega)))).trans ?_
  exact mul_zero _

theorem lat_eq (e : Fin 512) : (k0_pay2 (iblk m c 0 t) (iblk m c 1 t) (iblk m c 2 t) (ix2 i e) : EReal) = latE (aH m c) (aW m c) (aG m c) R e :=
  (pay2_apply _ _ _ i e).trans
    (congrArg₂ (fun a b => latRow a b e) (funext fun x => tail_lat m c t R i hR x) (funext fun x => blk_g m c t x))

theorem idx_eq (x : Fin 128) : (k0_pay5 (k0_pay1 (iblk m c 0 t) (iblk m c 1 t)) (iblk m c 3 t) (iblk m c 4 t) (ix2 x i) : EReal)
    = idxE (aH m c) (aW m c) (aK m c) (aB m c) R x := by
  refine (pay5_apply _ _ _ x i).trans ?_
  refine (congrArg (fun a => keyRow a (fun y => iblk m c 3 t (ix2 0 y)) (fun y => iblk m c 4 t (ix2 0 y)) x) (funext fun y => tail_idx m c t R i hR y)).trans ?_
  exact congrArg₂ (fun a b => keyRow (fun y => projE (aH m c) (aW m c) R (k1 y)) a b x) (funext fun y => blk_k m c t y) (funext fun y => blk_b m c t y)

theorem key_eq (a : Fin 2048) : (k0_pay3 (iblk m c 0 t) (iblk m c 1 t) (iblk m c 2 t) (iblk m c 5 t) (ix4 0 0 a i) : EReal)
    = expE (aH m c) (aW m c) (aG m c) (aUk m c) R a := by
  refine (pay3_apply _ _ _ _ a i).trans ?_
  refine Finset.sum_congr rfl fun e _ => (congrArg₂ (fun a b : EReal => a * b) (blk_uk m c t a e) (lat_eq m c t R i hR e)).trans (mul_comm _ _)

theorem val_eq (a : Fin 2048) : (k0_pay4 (iblk m c 0 t) (iblk m c 1 t) (iblk m c 2 t) (iblk m c 6 t) (ix2 i a) : EReal)
    = expE (aH m c) (aW m c) (aG m c) (aUv m c) R a := by
  refine (pay4_apply _ _ _ _ i a).trans ?_
  exact Finset.sum_congr rfl fun e _ => congrArg₂ (fun a b : EReal => a * b) (lat_eq m c t R i hR e) (blk_uv m c t e a)

theorem wts_eq (j : Fin 128) : (k0_pay8 (k0_pay1 (iblk m c 0 t) (iblk m c 1 t)) (ix2 i j) : EReal) = wtsE (aH m c) (aW m c) R j := by
  refine (pay8_apply _ i j).trans ?_
  unfold wtsE
  by_cases hj : j.val < 32
  · rw [dif_pos hj]
    exact congrArg (fun a : EReal => a * _) (tail_wts m c t R i hR ⟨j.val, hj⟩)
  · rw [dif_neg hj]
    exact (congrArg (fun a : EReal => a * _) (tail_pad m c t R i hR j hj)).trans (zero_mul _)

end

section
variable (m : (ℓ : Loc nD τ sig) → Buf (Elt Ideal) ℓ) (c : Dev nD)

/-- The keys. -/
def G7 : FVec Ideal ⟨4, ![2, 16, 2048, 512]⟩ .bf16 := fun j =>
  expE (aH m c) (aW m c) (aG m c) (aUk m c) (row16 (j 0) (j 1) (j 3)) (j 2)

/-- The values. -/
def G8 : FVec Ideal ⟨2, ![16384, 2048]⟩ .bf16 := fun j => expE (aH m c) (aW m c) (aG m c) (aUv m c) (j 0) (j 1)

/-- The indexer's keys. -/
def G9 : FVec Ideal ⟨4, ![2, 32, 128, 256]⟩ .bf16 := fun j =>
  idxE (aH m c) (aW m c) (aK m c) (aB m c) (row32 (j 0) (j 1) (j 3)) (j 2)

/-- The indexer's head weights. -/
def G10 : FVec Ideal ⟨2, ![16384, 128]⟩ .f32 := fun j => wtsE (aH m c) (aW m c) (j 0) (j 1)

theorem G7_apply (b : Fin 2) (q : Fin 16) (a : Fin 2048) (s : Fin 512) (R : Fin 16384) (hR : R = row16 b q s) :
    (G7 m c (ix4 b q a s) : EReal) = expE (aH m c) (aW m c) (aG m c) (aUk m c) R a := by
  subst hR
  rfl

theorem G8_apply (R : Fin 16384) (a : Fin 2048) : (G8 m c (ix2 R a) : EReal) = expE (aH m c) (aW m c) (aG m c) (aUv m c) R a := rfl

theorem G9_apply (b : Fin 2) (q : Fin 32) (x : Fin 128) (s : Fin 256) (R : Fin 16384) (hR : R = row32 b q s) :
    (G9 m c (ix4 b q x s) : EReal) = idxE (aH m c) (aW m c) (aK m c) (aB m c) R x := by
  subst hR
  rfl

theorem G10_apply (R : Fin 16384) (j : Fin 128) : (G10 m c (ix2 R j) : EReal) = wtsE (aH m c) (aW m c) R j := rfl

theorem final7 : (dats m 0 c).arrAt 7 (cfgs 0).N = G7 m c := by
  refine (dats m 0 c).arrAt_eq_of_covers 7 _ (by decide +kernel) fun t hf y => ?_
  blk_simp
  rw [after0_7, out7]
  obtain ⟨p, q, a, i, rfl⟩ : ∃ (p q : Fin 1) (a : Fin 2048) (i : Fin 512), y = ix4 p q a i := ⟨y 0, y 1, y 2, y 3, eq_ix4 y⟩
  obtain rfl := Subsingleton.elim p 0
  obtain rfl := Subsingleton.elim q 0
  have h0 := ((grid0.coords t) 0).isLt
  have h1 := ((grid0.coords t) 1).isLt
  change _ < 2 at h0
  change _ < 16 at h1
  obtain ⟨b, hb⟩ : ∃ b : Fin 2, b.val = ((grid0.coords t) 0).val := ⟨⟨_, h0⟩, rfl⟩
  obtain ⟨q, hq⟩ : ∃ q : Fin 16, q.val = ((grid0.coords t) 1).val := ⟨⟨_, h1⟩, rfl⟩
  refine (key_eq m c t (row16 b q i) i (by unfold row16; dsimp only; omega) a).trans ?_
  refine (G7_apply m c b q a i _ rfl).symm.trans ?_
  blk_ext [idx t]

theorem final8 : (dats m 0 c).arrAt 8 (cfgs 0).N = G8 m c := by
  refine (dats m 0 c).arrAt_eq_of_covers 8 _ (by decide +kernel) fun t hf y => ?_
  blk_simp
  rw [after0_8, out8]
  obtain ⟨i, a, rfl⟩ : ∃ (i : Fin 512) (a : Fin 2048), y = ix2 i a := ⟨y 0, y 1, eq_ix2 y⟩
  have h0 := ((grid0.coords t) 0).isLt
  have h1 := ((grid0.coords t) 1).isLt
  change _ < 2 at h0
  change _ < 16 at h1
  obtain ⟨b, hb⟩ : ∃ b : Fin 2, b.val = ((grid0.coords t) 0).val := ⟨⟨_, h0⟩, rfl⟩
  obtain ⟨q, hq⟩ : ∃ q : Fin 16, q.val = ((grid0.coords t) 1).val := ⟨⟨_, h1⟩, rfl⟩
  obtain ⟨R, hR⟩ : ∃ R : Fin 16384, R.val = 512 * (16 * ((grid0.coords t) 0).val + ((grid0.coords t) 1).val) + i.val :=
    ⟨⟨512 * (16 * ((grid0.coords t) 0).val + ((grid0.coords t) 1).val) + i.val, by omega⟩, rfl⟩
  refine (val_eq m c t R i hR a).trans ?_
  refine (G8_apply m c R a).symm.trans ?_
  blk_ext [idx t]

theorem final9 : (dats m 0 c).arrAt 9 (cfgs 0).N = G9 m c := by
  refine (dats m 0 c).arrAt_eq_of_covers 9 _ (by decide +kernel) fun t hf y => ?_
  blk_simp
  rw [after0_9, out9]
  obtain ⟨p, u, x, v, rfl⟩ : ∃ (p : Fin 1) (u : Fin 2) (x : Fin 128) (v : Fin 256), y = ix4 p u x v := ⟨y 0, y 1, y 2, y 3, eq_ix4 y⟩
  obtain rfl := Subsingleton.elim p 0
  have h0 := ((grid0.coords t) 0).isLt
  have h1 := ((grid0.coords t) 1).isLt
  change _ < 2 at h0
  change _ < 16 at h1
  obtain ⟨b, hb⟩ : ∃ b : Fin 2, b.val = ((grid0.coords t) 0).val := ⟨⟨_, h0⟩, rfl⟩
  obtain ⟨q, hq⟩ : ∃ q : Fin 16, q.val = ((grid0.coords t) 1).val := ⟨⟨_, h1⟩, rfl⟩
  obtain ⟨w, hw⟩ : ∃ w : Fin 32, w.val = 2 * q.val + u.val := ⟨⟨2 * q.val + u.val, by omega⟩, rfl⟩
  refine (tiles_apply _ _ _ 0 u x v).trans ?_
  refine (idx_eq m c t (row32 b w v) (place u v) (by unfold row32 place; dsimp only; omega) x).trans ?_
  refine (G9_apply m c b w x v _ rfl).symm.trans ?_
  blk_ext [idx t]

theorem final10 : (dats m 0 c).arrAt 10 (cfgs 0).N = G10 m c := by
  refine (dats m 0 c).arrAt_eq_of_covers 10 _ (by decide +kernel) fun t hf y => ?_
  blk_simp
  rw [after0_10, out10]
  obtain ⟨i, j, rfl⟩ : ∃ (i : Fin 512) (j : Fin 128), y = ix2 i j := ⟨y 0, y 1, eq_ix2 y⟩
  have h0 := ((grid0.coords t) 0).isLt
  have h1 := ((grid0.coords t) 1).isLt
  change _ < 2 at h0
  change _ < 16 at h1
  obtain ⟨b, hb⟩ : ∃ b : Fin 2, b.val = ((grid0.coords t) 0).val := ⟨⟨_, h0⟩, rfl⟩
  obtain ⟨q, hq⟩ : ∃ q : Fin 16, q.val = ((grid0.coords t) 1).val := ⟨⟨_, h1⟩, rfl⟩
  obtain ⟨R, hR⟩ : ∃ R : Fin 16384, R.val = 512 * (16 * ((grid0.coords t) 0).val + ((grid0.coords t) 1).val) + i.val :=
    ⟨⟨512 * (16 * ((grid0.coords t) 0).val + ((grid0.coords t) 1).val) + i.val, by omega⟩, rfl⟩
  refine (wts_eq m c t R i hR j).trans ?_
  refine (G10_apply m c R j).symm.trans ?_
  blk_ext [idx t]

end

end Cert.Kernel5Ideal.Prep

namespace Cert.Reference5Ideal.Prep

open Cert.Reference5Ideal Cert.Reference5Ideal.Gen
open Cert.Kernel5Ideal.Prep (latRow ctrRow keyRow projE k0 k1 k2 upE latE expE idxE wtsE row16 row32)
open Idealize.ShloMosaic Idealize.ShloMosaic.TcCoe

/-- The whole projection. -/
def projArr (H : FVec Ideal S16384x4096 .bf16) (W : FVec Ideal S2x4096x15008 .f32) : FVec Ideal S16384x15008 .f32 :=
  Host.dotGeneral dot_S16384x4096_S4096x15008_S16384x15008_1_0_0_1_n_n none (extf .f32 H bitsLt_bf16_f32) (shapeCast _ (extractStridedSlice S1x4096x15008 ![0, 0, 0] W slices_S2x4096x15008_S1x4096x15008_0_0_0) shapeCasts_S1x4096x15008_S4096x15008)

/-- The normalised latent. -/
def latArr (P : FVec Ideal S16384x15008 .f32) (G : FVec Ideal S512 .f32) : FVec Ideal S16384x512 .f32 :=
  mulf (mulf (extractStridedSlice S16384x512 ![0, 2048] P slices_S16384x15008_S16384x512_0_2048) (broadcastInDim S16384x512 ![0, 1] bcast_S16384x1_S16384x512_0_1 (Host.rsqrt (addf (Host.divf (broadcastInDim S16384x1 ![0] bcast_S16384_S16384x1_0 (Host.reduceAdd (mulf (extractStridedSlice S16384x512 ![0, 2048] P slices_S16384x15008_S16384x512_0_2048) (extractStridedSlice S16384x512 ![0, 2048] P slices_S16384x15008_S16384x512_0_2048)) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 G))

/-- The keys. -/
def keyArr (Q : FVec Ideal S16384x512 .f32) (U : FVec Ideal S2x512x16x128 .f32) : FVec Ideal S2x16x2048x512 .bf16 :=
  truncf .bf16 (transpose S2x16x2048x512 [0, 1, 3, 2] (shapeCast _ (Host.dotGeneral dot_S16384x512_S512x2048_S16384x2048_1_0_0_1_n_n none Q (shapeCast _ (shapeCast _ (extractStridedSlice S1x512x16x128 ![0, 0, 0, 0] U slices_S2x512x16x128_S1x512x16x128_0_0_0_0) shapeCasts_S1x512x16x128_S512x16x128) shapeCasts_S512x16x128_S512x2048)) shapeCasts_S16384x2048_S2x16x512x2048) transposes_S2x16x512x2048_S2x16x2048x512_0_1_3_2) bitsLt_bf16_f32

/-- The values. -/
def valArr (Q : FVec Ideal S16384x512 .f32) (U : FVec Ideal S2x512x16x128 .f32) : FVec Ideal S16384x2048 .bf16 :=
  truncf .bf16 (Host.dotGeneral dot_S16384x512_S512x2048_S16384x2048_1_0_0_1_n_n none Q (shapeCast _ (shapeCast _ (extractStridedSlice S1x512x16x128 ![0, 0, 0, 0] U slices_S2x512x16x128_S1x512x16x128_0_0_0_0) shapeCasts_S1x512x16x128_S512x16x128) shapeCasts_S512x16x128_S512x2048)) bitsLt_bf16_f32

/-- The indexer's keys without their means. -/
def ctrArr (P : FVec Ideal S16384x15008 .f32) : FVec Ideal S16384x128 .f32 :=
  subf (extractStridedSlice S16384x128 ![0, 8704] P slices_S16384x15008_S16384x128_0_8704) (broadcastInDim S16384x128 ![0, 1] bcast_S16384x1_S16384x128_0_1 (Host.divf (broadcastInDim S16384x1 ![0] bcast_S16384_S16384x1_0 (Host.reduceAdd (extractStridedSlice S16384x128 ![0, 8704] P slices_S16384x15008_S16384x128_0_8704) (constant S_ .f32 0x00000000#32) reducesTo_S16384x128_S16384_d1 h_S_)) (broadcastInDim S16384x1 ![] bcast_S_S16384x1 (constant S_ .f32 0x43000000#32))))

/-- The indexer's keys. -/
def idxArr (Z : FVec Ideal S16384x128 .f32) (K B : FVec Ideal S128 .f32) : FVec Ideal S2x32x128x256 .bf16 :=
  truncf .bf16 (transpose S2x32x128x256 [0, 1, 3, 2] (shapeCast _ (addf (mulf (mulf Z (broadcastInDim S16384x128 ![0, 1] bcast_S16384x1_S16384x128_0_1 (Host.rsqrt (addf (Host.divf (broadcastInDim S16384x1 ![0] bcast_S16384_S16384x1_0 (Host.reduceAdd (mulf Z Z) (constant S_ .f32 0x00000000#32) reducesTo_S16384x128_S16384_d1 h_S_)) (broadcastInDim S16384x1 ![] bcast_S_S16384x1 (constant S_ .f32 0x43000000#32))) (broadcastInDim S16384x1 ![] bcast_S_S16384x1 (constant S_ .f32 0x358637BD#32)))))) (broadcastInDim S16384x128 ![0, 1] bcast_S1x128_S16384x128_0_1 (broadcastInDim S1x128 ![1] bcast_S128_S1x128_1 K))) (broadcastInDim S16384x128 ![0, 1] bcast_S1x128_S16384x128_0_1 (broadcastInDim S1x128 ![1] bcast_S128_S1x128_1 B))) shapeCasts_S16384x128_S2x32x256x128) transposes_S2x32x256x128_S2x32x128x256_0_1_3_2) bitsLt_bf16_f32

/-- The indexer's head weights. -/
def wtsArr (P : FVec Ideal S16384x15008 .f32) : FVec Ideal S16384x128 .f32 :=
  concatenate S16384x128 1 [⟨S16384x32, (mulf (extractStridedSlice S16384x32 ![0, 8832] P slices_S16384x15008_S16384x32_0_8832) (broadcastInDim S16384x32 ![] bcast_S_S16384x32 (constant S_ .f32 0x3C800000#32)))⟩, ⟨S16384x96, (broadcastInDim S16384x96 ![] bcast_S_S16384x96 (constant S_ .f32 0x00000000#32))⟩] concatenates_S16384x32_S16384x96_S16384x128_d1

theorem projArr_apply (H : FVec Ideal S16384x4096 .bf16) (W : FVec Ideal S2x4096x15008 .f32) (R : Fin 16384) (K : Fin 15008) :
    (projArr H W (ix2 R K) : EReal) = projE H W R K := by
  unfold projArr projE
  pointwise

theorem latArr_apply (P : FVec Ideal S16384x15008 .f32) (G : FVec Ideal S512 .f32) (R : Fin 16384) (e : Fin 512) :
    (latArr P G (ix2 R e) : EReal) = latRow (fun x => P (ix2 R (k0 x))) (fun x => G (ix1 x)) e := by
  unfold latArr
  pointwise
  rfl

theorem keyArr_apply (Q : FVec Ideal S16384x512 .f32) (U : FVec Ideal S2x512x16x128 .f32) (b : Fin 2) (q : Fin 16) (a : Fin 2048) (s : Fin 512) (R : Fin 16384) (hR : R = row16 b q s) :
    (keyArr Q U (ix4 b q a s) : EReal) = ∑ e : Fin 512, Q (ix2 R e) * upE U e a := by
  unfold keyArr
  pointwise
  obtain rfl : R = ⟨b.val * 8192 + q.val * 512 + s.val, by clear hR R; omega⟩ := by
    rw [hR]
    refine Fin.ext ?_
    unfold row16
    dsimp only
    omega
  rfl

theorem valArr_apply (Q : FVec Ideal S16384x512 .f32) (U : FVec Ideal S2x512x16x128 .f32) (R : Fin 16384) (a : Fin 2048) :
    (valArr Q U (ix2 R a) : EReal) = ∑ e : Fin 512, Q (ix2 R e) * upE U e a := by
  unfold valArr
  pointwise
  rfl

theorem ctrArr_apply (P : FVec Ideal S16384x15008 .f32) (R : Fin 16384) (x : Fin 128) :
    (ctrArr P (ix2 R x) : EReal) = ctrRow (fun y => P (ix2 R (k1 y))) x := by
  unfold ctrArr
  pointwise
  rfl

theorem idxArr_apply (Z : FVec Ideal S16384x128 .f32) (K B : FVec Ideal S128 .f32) (b : Fin 2) (q : Fin 32) (x : Fin 128) (s : Fin 256) (R : Fin 16384) (hR : R = row32 b q s) :
    (idxArr Z K B (ix4 b q x s) : EReal)
      = Z (ix2 R x) * Ideal.rsqrt (Ideal.div (∑ y : Fin 128, Z (ix2 R y) * Z (ix2 R y)) (Ideal.ofBits FTy.f32 0x43000000#32) + Ideal.ofBits FTy.f32 0x358637BD#32) * K (ix1 x) + B (ix1 x) := by
  unfold idxArr
  pointwise
  obtain rfl : R = ⟨b.val * 8192 + q.val * 256 + s.val, by clear hR R; omega⟩ := by
    rw [hR]
    refine Fin.ext ?_
    unfold row32
    dsimp only
    omega
  rfl

theorem wtsArr_apply (P : FVec Ideal S16384x15008 .f32) (R : Fin 16384) (j : Fin 128) :
    (wtsArr P (ix2 R j) : EReal) = if hj : j.val < 32 then P (ix2 R (k2 ⟨j.val, hj⟩)) * Ideal.ofBits FTy.f32 0x3C800000#32 else 0 := by
  unfold wtsArr
  pointwise
  rfl

theorem key_out (H : FVec Ideal S16384x4096 .bf16) (W : FVec Ideal S2x4096x15008 .f32) (G : FVec Ideal S512 .f32) (U : FVec Ideal S2x512x16x128 .f32)
    (b : Fin 2) (q : Fin 16) (a : Fin 2048) (s : Fin 512) (R : Fin 16384) (hR : R = row16 b q s) :
    (keyArr (latArr (projArr H W) G) U (ix4 b q a s) : EReal) = expE H W G U R a := by
  refine (keyArr_apply _ _ b q a s R hR).trans ?_
  refine Finset.sum_congr rfl fun e _ => congrArg (fun z : EReal => z * upE U e a) ((latArr_apply _ _ R e).trans ?_)
  exact congrArg (fun z => latRow z (fun x => G (ix1 x)) e) (funext fun x => projArr_apply H W R (k0 x))

theorem val_out (H : FVec Ideal S16384x4096 .bf16) (W : FVec Ideal S2x4096x15008 .f32) (G : FVec Ideal S512 .f32) (U : FVec Ideal S2x512x16x128 .f32)
    (R : Fin 16384) (a : Fin 2048) : (valArr (latArr (projArr H W) G) U (ix2 R a) : EReal) = expE H W G U R a := by
  refine (valArr_apply _ _ R a).trans ?_
  refine Finset.sum_congr rfl fun e _ => congrArg (fun z : EReal => z * upE U e a) ((latArr_apply _ _ R e).trans ?_)
  exact congrArg (fun z => latRow z (fun x => G (ix1 x)) e) (funext fun x => projArr_apply H W R (k0 x))

theorem idx_out (H : FVec Ideal S16384x4096 .bf16) (W : FVec Ideal S2x4096x15008 .f32) (K B : FVec Ideal S128 .f32)
    (b : Fin 2) (q : Fin 32) (x : Fin 128) (s : Fin 256) (R : Fin 16384) (hR : R = row32 b q s) :
    (idxArr (ctrArr (projArr H W)) K B (ix4 b q x s) : EReal) = idxE H W K B R x := by
  refine (idxArr_apply _ _ _ b q x s R hR).trans ?_
  have hz : ∀ y : Fin 128, (ctrArr (projArr H W) (ix2 R y) : EReal) = ctrRow (fun y => projE H W R (k1 y)) y := fun y =>
    (ctrArr_apply _ R y).trans (congrArg (fun z => ctrRow z y) (funext fun x => projArr_apply H W R (k1 x)))
  simp only [hz]
  rfl

theorem wts_out (H : FVec Ideal S16384x4096 .bf16) (W : FVec Ideal S2x4096x15008 .f32) (R : Fin 16384) (j : Fin 128) :
    (wtsArr (projArr H W) (ix2 R j) : EReal) = wtsE H W R j := by
  refine (wtsArr_apply _ R j).trans ?_
  unfold wtsE
  by_cases hj : j.val < 32
  · rw [dif_pos hj, dif_pos hj]
    exact congrArg (fun z : EReal => z * _) (projArr_apply H W R (k2 ⟨j.val, hj⟩))
  · rw [dif_neg hj, dif_neg hj]

theorem keyArr_eq (H H' : FVec Ideal S16384x4096 .bf16) (W W' : FVec Ideal S2x4096x15008 .f32) (G G' : FVec Ideal S512 .f32) (U U' : FVec Ideal S2x512x16x128 .f32)
    (hH : H = H') (hW : W = W') (hG : G = G') (hU : U = U') : keyArr (latArr (projArr H W) G) U = keyArr (latArr (projArr H' W') G') U' := by
  rw [hH, hW, hG, hU]

theorem valArr_eq (H H' : FVec Ideal S16384x4096 .bf16) (W W' : FVec Ideal S2x4096x15008 .f32) (G G' : FVec Ideal S512 .f32) (U U' : FVec Ideal S2x512x16x128 .f32)
    (hH : H = H') (hW : W = W') (hG : G = G') (hU : U = U') : valArr (latArr (projArr H W) G) U = valArr (latArr (projArr H' W') G') U' := by
  rw [hH, hW, hG, hU]

theorem idxArr_eq (H H' : FVec Ideal S16384x4096 .bf16) (W W' : FVec Ideal S2x4096x15008 .f32) (K K' B B' : FVec Ideal S128 .f32)
    (hH : H = H') (hW : W = W') (hK : K = K') (hB : B = B') : idxArr (ctrArr (projArr H W)) K B = idxArr (ctrArr (projArr H' W')) K' B' := by
  rw [hH, hW, hK, hB]

theorem wtsArr_eq (H H' : FVec Ideal S16384x4096 .bf16) (W W' : FVec Ideal S2x4096x15008 .f32)
    (hH : H = H') (hW : W = W') : wtsArr (projArr H W) = wtsArr (projArr H' W') := by
  rw [hH, hW]

end Cert.Reference5Ideal.Prep

namespace Cert.Proof

open Idealize.ShloMosaic Idealize.ShloMosaic.TcCoe Idealize.SL.Sem

theorem quiescent_Kernel5 : @Cert.quiescent_Kernel5 Cert.Kernel5.Gen.facts := fun m g _ =>
  Cert.Kernel5.Gen.frame m g

theorem quiescent_Kernel5Ideal : @Cert.quiescent_Kernel5Ideal Cert.Kernel5Ideal.Gen.facts := fun m g _ =>
  Cert.Kernel5Ideal.Gen.frame m g

theorem quiescent_Reference5Ideal : @Cert.quiescent_Reference5Ideal Cert.Reference5Ideal.Gen.facts := fun m g _ =>
  (θ_run Cert.Reference5Ideal.defs _ _).mono (fun r h => ⟨fun c => (h c).2.2.2.2, sem_eq_zero_of_no_sems (by decide) r.2⟩)
    (Cert.Reference5Ideal.Value.run (F := Ideal) m g)

theorem preserves5 : Cert.preserves_Kernel5_Kernel5Ideal := trivial

/-- Kernel and reference end with the same four results. -/
theorem algebraic5 : @Cert.algebraic_Kernel5Ideal_Reference5Ideal Cert.Kernel5Ideal.Gen.facts Cert.Reference5Ideal.Gen.facts := by
  intro m g m' g' _ hargs
  refine ⟨fun c => Cert.Kernel5Ideal.Prep.G7 m c, fun c => Cert.Kernel5Ideal.Prep.G8 m c, fun c => Cert.Kernel5Ideal.Prep.G9 m c,
    fun c => Cert.Kernel5Ideal.Prep.G10 m c, ?_, ?_⟩
  · exact (θ_run Cert.Kernel5Ideal.defs _ _).mono
      (fun r h c => ⟨((h.1 c).1 7).trans (Cert.Kernel5Ideal.Prep.final7 m c), ((h.1 c).1 8).trans (Cert.Kernel5Ideal.Prep.final8 m c),
        ((h.1 c).1 9).trans (Cert.Kernel5Ideal.Prep.final9 m c), ((h.1 c).1 10).trans (Cert.Kernel5Ideal.Prep.final10 m c), h.2 c⟩)
      (θ_run_and (Cert.Kernel5Ideal.Gen.run_main m g)
        (Cert.Kernel5Ideal.Gen.frame_of m g (Cert.Kernel5Ideal.Gen.dats m) (Cert.Kernel5Ideal.Gen.A_eq m) (Cert.Kernel5Ideal.Gen.run_main m g)))
  · refine (θ_run Cert.Reference5Ideal.defs _ _).mono
      (fun r h c => ⟨(h c).1.trans ?_, (h c).2.1.trans ?_, (h c).2.2.1.trans ?_, (h c).2.2.2.1.trans ?_, (h c).2.2.2.2⟩)
      (Cert.Reference5Ideal.Value.run (F := Ideal) m' g')
    · have hA := hargs c
      refine (Cert.Reference5Ideal.Prep.keyArr_eq (m' ((c.tc : Thread Cert.Reference5Ideal.nD Cert.Reference5Ideal.τ).loc Cert.Reference5Ideal.main_arg0)) (Cert.Kernel5Ideal.Prep.aH m c)
        (m' ((c.tc : Thread Cert.Reference5Ideal.nD Cert.Reference5Ideal.τ).loc Cert.Reference5Ideal.main_arg1)) (Cert.Kernel5Ideal.Prep.aW m c)
        (m' ((c.tc : Thread Cert.Reference5Ideal.nD Cert.Reference5Ideal.τ).loc Cert.Reference5Ideal.main_arg2)) (Cert.Kernel5Ideal.Prep.aG m c)
        (m' ((c.tc : Thread Cert.Reference5Ideal.nD Cert.Reference5Ideal.τ).loc Cert.Reference5Ideal.main_arg5))
        (Cert.Kernel5Ideal.Prep.aUk m c) hA.1 hA.2.1 hA.2.2.1 hA.2.2.2.2.2.1).trans ?_
      funext j
      obtain ⟨b, q, a, s, rfl⟩ : ∃ (b : Fin 2) (q : Fin 16) (a : Fin 2048) (s : Fin 512), j = ix4 b q a s := ⟨j 0, j 1, j 2, j 3, eq_ix4 j⟩
      exact (Cert.Reference5Ideal.Prep.key_out _ _ _ _ b q a s _ rfl).trans (Cert.Kernel5Ideal.Prep.G7_apply m c b q a s _ rfl).symm
    · have hA := hargs c
      refine (Cert.Reference5Ideal.Prep.valArr_eq (m' ((c.tc : Thread Cert.Reference5Ideal.nD Cert.Reference5Ideal.τ).loc Cert.Reference5Ideal.main_arg0)) (Cert.Kernel5Ideal.Prep.aH m c)
        (m' ((c.tc : Thread Cert.Reference5Ideal.nD Cert.Reference5Ideal.τ).loc Cert.Reference5Ideal.main_arg1)) (Cert.Kernel5Ideal.Prep.aW m c)
        (m' ((c.tc : Thread Cert.Reference5Ideal.nD Cert.Reference5Ideal.τ).loc Cert.Reference5Ideal.main_arg2)) (Cert.Kernel5Ideal.Prep.aG m c)
        (m' ((c.tc : Thread Cert.Reference5Ideal.nD Cert.Reference5Ideal.τ).loc Cert.Reference5Ideal.main_arg6))
        (Cert.Kernel5Ideal.Prep.aUv m c) hA.1 hA.2.1 hA.2.2.1 hA.2.2.2.2.2.2).trans ?_
      funext j
      obtain ⟨R, a, rfl⟩ : ∃ (R : Fin 16384) (a : Fin 2048), j = ix2 R a := ⟨j 0, j 1, eq_ix2 j⟩
      exact (Cert.Reference5Ideal.Prep.val_out _ _ _ _ R a).trans (Cert.Kernel5Ideal.Prep.G8_apply m c R a).symm
    · have hA := hargs c
      refine (Cert.Reference5Ideal.Prep.idxArr_eq (m' ((c.tc : Thread Cert.Reference5Ideal.nD Cert.Reference5Ideal.τ).loc Cert.Reference5Ideal.main_arg0)) (Cert.Kernel5Ideal.Prep.aH m c)
        (m' ((c.tc : Thread Cert.Reference5Ideal.nD Cert.Reference5Ideal.τ).loc Cert.Reference5Ideal.main_arg1)) (Cert.Kernel5Ideal.Prep.aW m c)
        (m' ((c.tc : Thread Cert.Reference5Ideal.nD Cert.Reference5Ideal.τ).loc Cert.Reference5Ideal.main_arg3)) (Cert.Kernel5Ideal.Prep.aK m c)
        (m' ((c.tc : Thread Cert.Reference5Ideal.nD Cert.Reference5Ideal.τ).loc Cert.Reference5Ideal.main_arg4)) (Cert.Kernel5Ideal.Prep.aB m c)
        hA.1 hA.2.1 hA.2.2.2.1 hA.2.2.2.2.1).trans ?_
      funext j
      obtain ⟨b, q, x, s, rfl⟩ : ∃ (b : Fin 2) (q : Fin 32) (x : Fin 128) (s : Fin 256), j = ix4 b q x s := ⟨j 0, j 1, j 2, j 3, eq_ix4 j⟩
      exact (Cert.Reference5Ideal.Prep.idx_out _ _ _ _ b q x s _ rfl).trans (Cert.Kernel5Ideal.Prep.G9_apply m c b q x s _ rfl).symm
    · have hA := hargs c
      refine (Cert.Reference5Ideal.Prep.wtsArr_eq (m' ((c.tc : Thread Cert.Reference5Ideal.nD Cert.Reference5Ideal.τ).loc Cert.Reference5Ideal.main_arg0)) (Cert.Kernel5Ideal.Prep.aH m c)
        (m' ((c.tc : Thread Cert.Reference5Ideal.nD Cert.Reference5Ideal.τ).loc Cert.Reference5Ideal.main_arg1)) (Cert.Kernel5Ideal.Prep.aW m c) hA.1 hA.2.1).trans ?_
      funext j
      obtain ⟨R, x, rfl⟩ : ∃ (R : Fin 16384) (x : Fin 128), j = ix2 R x := ⟨j 0, j 1, eq_ix2 j⟩
      exact (Cert.Reference5Ideal.Prep.wts_out _ _ R x).trans (Cert.Kernel5Ideal.Prep.G10_apply m c R x).symm

end Cert.Proof

end
-- ==== Proof.Call6.lean ====
/-
  The causal spatial gating inside chunks of 128 rows.
-/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Spec
public import Idealize.ShloMosaic.Lib.Pipeline.ValueKit
public import Idealize.ShloMosaic.Lib.StableHlo.ReadAt
public import Idealize.ShloMosaic.Lib.Claim

@[expose] public section

namespace Cert.Kernel6Ideal.Gate

open Cert.Kernel6Ideal Cert.Kernel6Ideal.Gen
open Cert.KernelIdeal.Attn (siluAt silu_kernel)
open Idealize.ShloMosaic Idealize.ShloMosaic.TcCoe Idealize.ShloMosaic.Pipeline Idealize.SL.Sem

/-- One chunk of one group: its rows mixed, plus the bias, times the two gates. -/
noncomputable def body (n : FVec Ideal S128x128 .bf16) (w : Vec Ideal S1x128x128 .f32) (b : Vec Ideal S128x1 .f32) (gt u : Vec Ideal S128x128 .bf16) : FVec Ideal S128x128 .bf16 :=
  have cst_18 : FVec Ideal S128x128 .f32 := constant S128x128 .f32 0x00000000#32
  have v46 : FVec Ideal S128x128 .f32 := matmul dot_S128x128_S128x128_S128x128_1_0_0_1_n_n none (k0_pay6 k0_pay3 (k0_pay4 w) k0_pay5) n cst_18
  have v47 : FVec Ideal S128x128 .f32 := broadcastTo S128x128 (k0_pay7 b) broadcasts_S128x1_S128x128
  have v48 : FVec Ideal S128x128 .f32 := addf v46 v47
  have v50 : FVec Ideal S128x128 .f32 := extf .f32 gt bitsLt_bf16_f32
  have v52 : FVec Ideal S128x128 .f32 := extf .f32 u bitsLt_bf16_f32
  have cst_23 : Ideal .f32 := Scalar.ofBits .f32 0x3F000000#32
  have v53 : FVec Ideal S128x128 .f32 := broadcast S128x128 cst_23
  have v54 : FVec Ideal S128x128 .f32 := mulf v53 v52
  have cst_24 : Ideal .f32 := Scalar.ofBits .f32 0x3F3504F3#32
  have v55 : FVec Ideal S128x128 .f32 := broadcast S128x128 cst_24
  have v56 : FVec Ideal S128x128 .f32 := mulf v52 v55
  have v57 : FVec Ideal S128x128 .f32 := erf v56
  have cst_25 : Ideal .f32 := Scalar.ofBits .f32 0x3F800000#32
  have v58 : FVec Ideal S128x128 .f32 := broadcast S128x128 cst_25
  have v59 : FVec Ideal S128x128 .f32 := addf v58 v57
  have v60 : FVec Ideal S128x128 .f32 := mulf v54 v59
  have v61 : FVec Ideal S128x128 .f32 := mulf v60 v48
  have cst_26 : Ideal .f32 := Scalar.ofBits .f32 0x00000000#32
  have v62 : FVec Ideal S128x128 .f32 := broadcast S128x128 cst_26
  have v63 : FVec Ideal S128x128 .f32 := subf v62 v50
  have v64 : FVec Ideal S128x128 .f32 := exp v63
  have cst_27 : Ideal .f32 := Scalar.ofBits .f32 0x3F800000#32
  have v65 : FVec Ideal S128x128 .f32 := broadcast S128x128 cst_27
  have v66 : FVec Ideal S128x128 .f32 := addf v65 v64
  have v67 : FVec Ideal S128x128 .f32 := divf v50 v66
  have v68 : FVec Ideal S128x128 .f32 := mulf v61 v67
  have v69 : FVec Ideal S128x128 .bf16 := truncf .bf16 v68 bitsLt_bf16_f32
  v69

/-- The exact gelu. -/
noncomputable def gelu (x : EReal) : EReal :=
  Ideal.ofBits FTy.f32 0x3F000000#32 * x * (1 + Ideal.erf (x * Ideal.ofBits FTy.f32 0x3F3504F3#32))

theorem select_le (x p : Fin 128) (a b : EReal) : Scalar.select (IntOp.cmpi CmpIPredicate.sle (BitVec.ofNat 32 x.val) (BitVec.ofNat 32 p.val)) a b = if x.val ≤ p.val then a else b := by
  by_cases h : x.val ≤ p.val
  · have e : IntOp.cmpi CmpIPredicate.sle (BitVec.ofNat 32 x.val) (BitVec.ofNat 32 p.val) = 1#1 := by
      word_omega
    rw [e, if_pos h]
    rfl
  · have e : IntOp.cmpi CmpIPredicate.sle (BitVec.ofNat 32 x.val) (BitVec.ofNat 32 p.val) = 0#1 := by
      word_omega
    rw [e, if_neg h]
    rfl

/-- A row without its mean. -/
noncomputable def ctrRow (a : Fin 2048 → EReal) (e : Fin 2048) : EReal := a e - Ideal.div (∑ x : Fin 2048, a x) (Ideal.ofBits FTy.f32 0x45000000#32)

/-- A row after the layer norm. -/
noncomputable def normRow (a g b : Fin 2048 → EReal) (e : Fin 2048) : EReal :=
  ctrRow a e * Ideal.rsqrt (Ideal.div (∑ x : Fin 2048, ctrRow a x * ctrRow a x) (Ideal.ofBits FTy.f32 0x45000000#32) + Ideal.ofBits FTy.f32 0x358637BD#32) * g e + b e

theorem body_apply (n : FVec Ideal S128x128 .bf16) (w : Vec Ideal S1x128x128 .f32) (b : Vec Ideal S128x1 .f32) (gt u : Vec Ideal S128x128 .bf16) (p q : Fin 128) :
    (body n w b gt u (ix2 p q) : EReal)
      = gelu (u (ix2 p q)) * ((∑ d : Fin 128, if d.val ≤ p.val then (w (ix3 0 p d) * n (ix2 d q) : EReal) else 0) + b (ix2 p 0)) * siluAt (gt (ix2 p q)) := by
  unfold body k0_pay6 k0_pay3 k0_pay4 k0_pay5 k0_pay7 gelu
  pointwise
  simp only [select_le]
  rw [silu_kernel]
  rfl

theorem pay2_apply (v : Vec Ideal S256x2048 .bf16) (vg vb : Vec Ideal S1x2048 .f32) (i : Fin 256) (e : Fin 2048) :
    (k0_pay2 v vg vb (ix2 i e) : EReal) = normRow (fun x => gelu (v (ix2 i x))) (fun x => vg (ix2 0 x)) (fun x => vb (ix2 0 x)) e := by
  unfold k0_pay2
  pointwise
  rfl

/-- The output block at an entry, over the normalised block, the gates' blocks, the weights and the transposed bias. -/
noncomputable def cell (N U Gt : FVec Ideal S256x2048 .bf16) (Ws : FVec Ideal S16x128x128 .f32) (Bt : FVec Ideal S128x16 .f32) (r : Fin 2) (p : Fin 128) (g : Fin 16) (q : Fin 128) : EReal :=
  gelu (U (ix2 (⟨128 * r.val + p.val, by omega⟩ : Fin 256) (⟨128 * g.val + q.val, by omega⟩ : Fin 2048)))
    * ((∑ d : Fin 128, if d.val ≤ p.val then (Ws (ix3 g p d) * N (ix2 (⟨128 * r.val + d.val, by omega⟩ : Fin 256) (⟨128 * g.val + q.val, by omega⟩ : Fin 2048)) : EReal) else 0) + Bt (ix2 p g))
    * siluAt (Gt (ix2 (⟨128 * r.val + p.val, by omega⟩ : Fin 256) (⟨128 * g.val + q.val, by omega⟩ : Fin 2048)))

noncomputable def tile (N U Gt : FVec Ideal S256x2048 .bf16) (Ws : FVec Ideal S16x128x128 .f32) (Bt : FVec Ideal S128x16 .f32) : Vec Ideal S256x2048 .bf16 := fun y =>
  cell N U Gt Ws Bt (⟨(y 0).val / 128, by have h : (y 0).val < 256 := (y 0).isLt; omega⟩ : Fin 2) (⟨(y 0).val % 128, by omega⟩ : Fin 128)
    (⟨(y 1).val / 128, by have h : (y 1).val < 2048 := (y 1).isLt; omega⟩ : Fin 16) (⟨(y 1).val % 128, by omega⟩ : Fin 128)

theorem tile_apply (N U Gt : FVec Ideal S256x2048 .bf16) (Ws : FVec Ideal S16x128x128 .f32) (Bt : FVec Ideal S128x16 .f32) (r : Fin 2) (p : Fin 128) (g : Fin 16) (q : Fin 128)
    (R : Fin 256) (C : Fin 2048) (hR : R.val = 128 * r.val + p.val) (hC : C.val = 128 * g.val + q.val) :
    (tile N U Gt Ws Bt (ix2 R C) : EReal) = cell N U Gt Ws Bt r p g q := by
  unfold tile
  have h0 : (⟨R.val / 128, by omega⟩ : Fin 2) = r := Fin.ext (by dsimp only; omega)
  have h1 : (⟨R.val % 128, by omega⟩ : Fin 128) = p := Fin.ext (by dsimp only; omega)
  have h2 : (⟨C.val / 128, by omega⟩ : Fin 16) = g := Fin.ext (by dsimp only; omega)
  have h3 : (⟨C.val % 128, by omega⟩ : Fin 128) = q := Fin.ext (by dsimp only; omega)
  exact (congrArg₂ (fun a b => cell N U Gt Ws Bt a b _ _) h0 h1).trans (congrArg₂ (fun a b => cell N U Gt Ws Bt r p a b) h2 h3)

def rowF (s p : Fin 128) : Fin 16384 := ⟨128 * s.val + p.val, by omega⟩
def colF (g : Fin 16) (q : Fin 128) : Fin 2048 := ⟨128 * g.val + q.val, by omega⟩

/-- An entry of the gated result: row `p` of chunk `s`, column `q` of group `g`. -/
noncomputable def gateE (X : FVec Ideal ⟨2, ![16384, 14336]⟩ .bf16) (K B : FVec Ideal ⟨1, ![2048]⟩ .f32) (W : FVec Ideal ⟨3, ![16, 128, 128]⟩ .f32) (Bs : FVec Ideal ⟨2, ![16, 128]⟩ .f32)
    (s p : Fin 128) (g : Fin 16) (q : Fin 128) : EReal :=
  gelu (X (ix2 (rowF s p) (⟨8192 + (colF g q).val, by omega⟩ : Fin 14336)))
    * ((∑ d : Fin 128, if d.val ≤ p.val then
        (W (ix3 g p d) * normRow (fun x => gelu (X (ix2 (rowF s d) (⟨10240 + x.val, by omega⟩ : Fin 14336)))) (fun x => K (ix1 x)) (fun x => B (ix1 x)) (colF g q) : EReal) else 0) + Bs (ix2 g p))
    * siluAt (X (ix2 (rowF s p) (⟨12288 + (colF g q).val, by omega⟩ : Fin 14336)))

section
variable (N U Gt : FVec Ideal S256x2048 .bf16) (Ws : FVec Ideal S16x128x128 .f32) (Bt : FVec Ideal S128x16 .f32)

theorem piece (r : Fin 2) (g : Fin 16) (n : FVec Ideal S128x128 .bf16) (w : Vec Ideal S1x128x128 .f32) (b : Vec Ideal S128x1 .f32) (gt u : Vec Ideal S128x128 .bf16) (p q : Fin 128)
    (E : S256x2048.Idx) (hE : E = (ix2 (⟨128 * r.val + p.val, by omega⟩ : Fin 256) (⟨128 * g.val + q.val, by omega⟩ : Fin 2048) : S256x2048.Idx))
    (hn : ∀ d : Fin 128, (n (ix2 d q) : EReal) = N (ix2 (⟨128 * r.val + d.val, by omega⟩ : Fin 256) (⟨128 * g.val + q.val, by omega⟩ : Fin 2048)))
    (hw : ∀ d : Fin 128, (w (ix3 0 p d) : EReal) = Ws (ix3 g p d)) (hb : (b (ix2 p 0) : EReal) = Bt (ix2 p g))
    (hg : (gt (ix2 p q) : EReal) = Gt E) (hu : (u (ix2 p q) : EReal) = U E) :
    (body n w b gt u (ix2 p q) : EReal) = tile N U Gt Ws Bt E := by
  subst hE
  refine (body_apply n w b gt u p q).trans ?_
  refine Eq.trans ?_ (tile_apply N U Gt Ws Bt r p g q _ _ rfl rfl).symm
  unfold cell
  rw [hg, hu, hb]
  simp only [hn, hw]

theorem ix3_congr {a b c : ℕ} {i i' : Fin a} {j j' : Fin b} {k k' : Fin c} (hi : i = i') (hj : j = j') (hk : k = k') : ix3 i j k = ix3 i' j' k' := by
  rw [hi, hj, hk]

theorem emb4 (p q : Fin 128) : r0_4.emb (ix2 p q) = (ix2 (⟨0 + p.val, by omega⟩ : Fin 256) (⟨0 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb2 (p d : Fin 128) : r0_2.emb (ix3 (0 : Fin 1) p d) = (ix3 (0 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb3 (p : Fin 128) : r0_3.emb (ix2 p (0 : Fin 1)) = (ix2 p (0 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece4 (z : S128x128.Idx) : k0_pay8 N k0_pay3 (k0_pay4 (View.ld Ws r0_2)) (k0_pay5 (F := Ideal)) (View.ld Bt r0_3) (View.ld Gt r0_4) (View.ld U r0_4) z = tile N U Gt Ws Bt (r0_4.emb z) := by
  have h : k0_pay8 N k0_pay3 (k0_pay4 (View.ld Ws r0_2)) (k0_pay5 (F := Ideal)) (View.ld Bt r0_3) (View.ld Gt r0_4) (View.ld U r0_4) = body (extractStridedSlice S128x128 ![0, 0] N slices_S256x2048_o0_0_S128x128) (View.ld Ws r0_2) (View.ld Bt r0_3) (View.ld Gt r0_4) (View.ld U r0_4) := rfl
  rw [h]
  obtain ⟨p, q, rfl⟩ : ∃ p q : Fin 128, z = ix2 p q := ⟨z 0, z 1, eq_ix2 z⟩
  exact piece N U Gt Ws Bt 0 0 _ _ _ _ _ p q _ (emb4 p q) (fun d => by pointwise) (fun d => congrArg Ws (emb2 p d)) (congrArg Bt (emb3 p)) rfl rfl

theorem emb5 (p q : Fin 128) : r0_5.emb (ix2 p q) = (ix2 (⟨128 + p.val, by omega⟩ : Fin 256) (⟨0 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece5 (z : S128x128.Idx) : k0_pay13 (k0_pay9 N k0_pay3 (k0_pay4 (View.ld Ws r0_2)) (k0_pay5 (F := Ideal)) (View.ld Bt r0_3)) (k0_pay10 (View.ld Gt r0_5)) (k0_pay11 (View.ld U r0_5)) (k0_pay12 (F := Ideal)) z = tile N U Gt Ws Bt (r0_5.emb z) := by
  have h : k0_pay13 (k0_pay9 N k0_pay3 (k0_pay4 (View.ld Ws r0_2)) (k0_pay5 (F := Ideal)) (View.ld Bt r0_3)) (k0_pay10 (View.ld Gt r0_5)) (k0_pay11 (View.ld U r0_5)) (k0_pay12 (F := Ideal)) = body (extractStridedSlice S128x128 ![128, 0] N slices_S256x2048_o128_0_S128x128) (View.ld Ws r0_2) (View.ld Bt r0_3) (View.ld Gt r0_5) (View.ld U r0_5) := rfl
  rw [h]
  obtain ⟨p, q, rfl⟩ : ∃ p q : Fin 128, z = ix2 p q := ⟨z 0, z 1, eq_ix2 z⟩
  exact piece N U Gt Ws Bt 1 0 _ _ _ _ _ p q _ (emb5 p q) (fun d => by pointwise) (fun d => congrArg Ws (emb2 p d)) (congrArg Bt (emb3 p)) rfl rfl

theorem emb8 (p q : Fin 128) : r0_8.emb (ix2 p q) = (ix2 (⟨0 + p.val, by omega⟩ : Fin 256) (⟨128 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb6 (p d : Fin 128) : r0_6.emb (ix3 (0 : Fin 1) p d) = (ix3 (1 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb7 (p : Fin 128) : r0_7.emb (ix2 p (0 : Fin 1)) = (ix2 p (1 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece8 (z : S128x128.Idx) : k0_pay21 (k0_pay16 N k0_pay3 (View.ld Ws r0_6) (View.ld Bt r0_7)) (k0_pay17 (View.ld Gt r0_8)) (k0_pay19 (View.ld U r0_8)) (k0_pay20 (View.ld U r0_8)) z = tile N U Gt Ws Bt (r0_8.emb z) := by
  have h : k0_pay21 (k0_pay16 N k0_pay3 (View.ld Ws r0_6) (View.ld Bt r0_7)) (k0_pay17 (View.ld Gt r0_8)) (k0_pay19 (View.ld U r0_8)) (k0_pay20 (View.ld U r0_8)) = body (extractStridedSlice S128x128 ![0, 128] N slices_S256x2048_o0_128_S128x128) (View.ld Ws r0_6) (View.ld Bt r0_7) (View.ld Gt r0_8) (View.ld U r0_8) := rfl
  rw [h]
  obtain ⟨p, q, rfl⟩ : ∃ p q : Fin 128, z = ix2 p q := ⟨z 0, z 1, eq_ix2 z⟩
  exact piece N U Gt Ws Bt 0 1 _ _ _ _ _ p q _ (emb8 p q) (fun d => by pointwise) (fun d => congrArg Ws (emb6 p d)) (congrArg Bt (emb7 p)) rfl rfl

theorem emb9 (p q : Fin 128) : r0_9.emb (ix2 p q) = (ix2 (⟨128 + p.val, by omega⟩ : Fin 256) (⟨128 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece9 (z : S128x128.Idx) : k0_pay22 N (k0_pay14 k0_pay3 (View.ld Ws r0_6)) (k0_pay15 (View.ld Bt r0_7)) (View.ld Gt r0_9) (View.ld U r0_9) z = tile N U Gt Ws Bt (r0_9.emb z) := by
  have h : k0_pay22 N (k0_pay14 k0_pay3 (View.ld Ws r0_6)) (k0_pay15 (View.ld Bt r0_7)) (View.ld Gt r0_9) (View.ld U r0_9) = body (extractStridedSlice S128x128 ![128, 128] N slices_S256x2048_o128_128_S128x128) (View.ld Ws r0_6) (View.ld Bt r0_7) (View.ld Gt r0_9) (View.ld U r0_9) := rfl
  rw [h]
  obtain ⟨p, q, rfl⟩ : ∃ p q : Fin 128, z = ix2 p q := ⟨z 0, z 1, eq_ix2 z⟩
  exact piece N U Gt Ws Bt 1 1 _ _ _ _ _ p q _ (emb9 p q) (fun d => by pointwise) (fun d => congrArg Ws (emb6 p d)) (congrArg Bt (emb7 p)) rfl rfl

theorem emb12 (p q : Fin 128) : r0_12.emb (ix2 p q) = (ix2 (⟨0 + p.val, by omega⟩ : Fin 256) (⟨256 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb10 (p d : Fin 128) : r0_10.emb (ix3 (0 : Fin 1) p d) = (ix3 (2 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb11 (p : Fin 128) : r0_11.emb (ix2 p (0 : Fin 1)) = (ix2 p (2 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece12 (z : S128x128.Idx) : k0_pay26 N k0_pay3 (k0_pay23 (View.ld Ws r0_10)) (View.ld Bt r0_11) (View.ld Gt r0_12) (View.ld U r0_12) z = tile N U Gt Ws Bt (r0_12.emb z) := by
  have h : k0_pay26 N k0_pay3 (k0_pay23 (View.ld Ws r0_10)) (View.ld Bt r0_11) (View.ld Gt r0_12) (View.ld U r0_12) = body (extractStridedSlice S128x128 ![0, 256] N slices_S256x2048_o0_256_S128x128) (View.ld Ws r0_10) (View.ld Bt r0_11) (View.ld Gt r0_12) (View.ld U r0_12) := rfl
  rw [h]
  obtain ⟨p, q, rfl⟩ : ∃ p q : Fin 128, z = ix2 p q := ⟨z 0, z 1, eq_ix2 z⟩
  exact piece N U Gt Ws Bt 0 2 _ _ _ _ _ p q _ (emb12 p q) (fun d => by pointwise) (fun d => congrArg Ws (emb10 p d)) (congrArg Bt (emb11 p)) rfl rfl

theorem emb13 (p q : Fin 128) : r0_13.emb (ix2 p q) = (ix2 (⟨128 + p.val, by omega⟩ : Fin 256) (⟨256 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece13 (z : S128x128.Idx) : k0_pay30 (k0_pay27 N k0_pay3 (k0_pay23 (View.ld Ws r0_10)) (View.ld Bt r0_11)) (k0_pay28 (View.ld Gt r0_13)) (k0_pay29 (View.ld U r0_13)) z = tile N U Gt Ws Bt (r0_13.emb z) := by
  have h : k0_pay30 (k0_pay27 N k0_pay3 (k0_pay23 (View.ld Ws r0_10)) (View.ld Bt r0_11)) (k0_pay28 (View.ld Gt r0_13)) (k0_pay29 (View.ld U r0_13)) = body (extractStridedSlice S128x128 ![128, 256] N slices_S256x2048_o128_256_S128x128) (View.ld Ws r0_10) (View.ld Bt r0_11) (View.ld Gt r0_13) (View.ld U r0_13) := rfl
  rw [h]
  obtain ⟨p, q, rfl⟩ : ∃ p q : Fin 128, z = ix2 p q := ⟨z 0, z 1, eq_ix2 z⟩
  exact piece N U Gt Ws Bt 1 2 _ _ _ _ _ p q _ (emb13 p q) (fun d => by pointwise) (fun d => congrArg Ws (emb10 p d)) (congrArg Bt (emb11 p)) rfl rfl

theorem emb16 (p q : Fin 128) : r0_16.emb (ix2 p q) = (ix2 (⟨0 + p.val, by omega⟩ : Fin 256) (⟨384 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb14 (p d : Fin 128) : r0_14.emb (ix3 (0 : Fin 1) p d) = (ix3 (3 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb15 (p : Fin 128) : r0_15.emb (ix2 p (0 : Fin 1)) = (ix2 p (3 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece16 (z : S128x128.Idx) : k0_pay38 (k0_pay33 N k0_pay3 (View.ld Ws r0_14) (View.ld Bt r0_15)) (k0_pay34 (View.ld Gt r0_16)) (k0_pay36 (View.ld U r0_16)) (k0_pay37 (View.ld U r0_16)) (Scalar.ofBits (F := Ideal) .f32 0x3F800000#32) z = tile N U Gt Ws Bt (r0_16.emb z) := by
  have h : k0_pay38 (k0_pay33 N k0_pay3 (View.ld Ws r0_14) (View.ld Bt r0_15)) (k0_pay34 (View.ld Gt r0_16)) (k0_pay36 (View.ld U r0_16)) (k0_pay37 (View.ld U r0_16)) (Scalar.ofBits (F := Ideal) .f32 0x3F800000#32) = body (extractStridedSlice S128x128 ![0, 384] N slices_S256x2048_o0_384_S128x128) (View.ld Ws r0_14) (View.ld Bt r0_15) (View.ld Gt r0_16) (View.ld U r0_16) := rfl
  rw [h]
  obtain ⟨p, q, rfl⟩ : ∃ p q : Fin 128, z = ix2 p q := ⟨z 0, z 1, eq_ix2 z⟩
  exact piece N U Gt Ws Bt 0 3 _ _ _ _ _ p q _ (emb16 p q) (fun d => by pointwise) (fun d => congrArg Ws (emb14 p d)) (congrArg Bt (emb15 p)) rfl rfl

theorem emb17 (p q : Fin 128) : r0_17.emb (ix2 p q) = (ix2 (⟨128 + p.val, by omega⟩ : Fin 256) (⟨384 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece17 (z : S128x128.Idx) : k0_pay39 N (k0_pay31 k0_pay3 (View.ld Ws r0_14)) (k0_pay32 (View.ld Bt r0_15)) (View.ld Gt r0_17) (View.ld U r0_17) z = tile N U Gt Ws Bt (r0_17.emb z) := by
  have h : k0_pay39 N (k0_pay31 k0_pay3 (View.ld Ws r0_14)) (k0_pay32 (View.ld Bt r0_15)) (View.ld Gt r0_17) (View.ld U r0_17) = body (extractStridedSlice S128x128 ![128, 384] N slices_S256x2048_o128_384_S128x128) (View.ld Ws r0_14) (View.ld Bt r0_15) (View.ld Gt r0_17) (View.ld U r0_17) := rfl
  rw [h]
  obtain ⟨p, q, rfl⟩ : ∃ p q : Fin 128, z = ix2 p q := ⟨z 0, z 1, eq_ix2 z⟩
  exact piece N U Gt Ws Bt 1 3 _ _ _ _ _ p q _ (emb17 p q) (fun d => by pointwise) (fun d => congrArg Ws (emb14 p d)) (congrArg Bt (emb15 p)) rfl rfl

theorem emb20 (p q : Fin 128) : r0_20.emb (ix2 p q) = (ix2 (⟨0 + p.val, by omega⟩ : Fin 256) (⟨512 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb18 (p d : Fin 128) : r0_18.emb (ix3 (0 : Fin 1) p d) = (ix3 (4 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb19 (p : Fin 128) : r0_19.emb (ix2 p (0 : Fin 1)) = (ix2 p (4 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece20 (z : S128x128.Idx) : k0_pay42 N k0_pay3 (View.ld Ws r0_18) (View.ld Bt r0_19) (View.ld Gt r0_20) (View.ld U r0_20) z = tile N U Gt Ws Bt (r0_20.emb z) := by
  have h : k0_pay42 N k0_pay3 (View.ld Ws r0_18) (View.ld Bt r0_19) (View.ld Gt r0_20) (View.ld U r0_20) = body (extractStridedSlice S128x128 ![0, 512] N slices_S256x2048_o0_512_S128x128) (View.ld Ws r0_18) (View.ld Bt r0_19) (View.ld Gt r0_20) (View.ld U r0_20) := rfl
  rw [h]
  obtain ⟨p, q, rfl⟩ : ∃ p q : Fin 128, z = ix2 p q := ⟨z 0, z 1, eq_ix2 z⟩
  exact piece N U Gt Ws Bt 0 4 _ _ _ _ _ p q _ (emb20 p q) (fun d => by pointwise) (fun d => congrArg Ws (emb18 p d)) (congrArg Bt (emb19 p)) rfl rfl

theorem emb21 (p q : Fin 128) : r0_21.emb (ix2 p q) = (ix2 (⟨128 + p.val, by omega⟩ : Fin 256) (⟨512 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece21 (z : S128x128.Idx) : k0_pay45 (k0_pay43 N k0_pay3 (View.ld Ws r0_18) (View.ld Bt r0_19)) (k0_pay44 (View.ld Gt r0_21)) (View.ld U r0_21) z = tile N U Gt Ws Bt (r0_21.emb z) := by
  have h : k0_pay45 (k0_pay43 N k0_pay3 (View.ld Ws r0_18) (View.ld Bt r0_19)) (k0_pay44 (View.ld Gt r0_21)) (View.ld U r0_21) = body (extractStridedSlice S128x128 ![128, 512] N slices_S256x2048_o128_512_S128x128) (View.ld Ws r0_18) (View.ld Bt r0_19) (View.ld Gt r0_21) (View.ld U r0_21) := rfl
  rw [h]
  obtain ⟨p, q, rfl⟩ : ∃ p q : Fin 128, z = ix2 p q := ⟨z 0, z 1, eq_ix2 z⟩
  exact piece N U Gt Ws Bt 1 4 _ _ _ _ _ p q _ (emb21 p q) (fun d => by pointwise) (fun d => congrArg Ws (emb18 p d)) (congrArg Bt (emb19 p)) rfl rfl

theorem emb24 (p q : Fin 128) : r0_24.emb (ix2 p q) = (ix2 (⟨0 + p.val, by omega⟩ : Fin 256) (⟨640 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb22 (p d : Fin 128) : r0_22.emb (ix3 (0 : Fin 1) p d) = (ix3 (5 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb23 (p : Fin 128) : r0_23.emb (ix2 p (0 : Fin 1)) = (ix2 p (5 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece24 (z : S128x128.Idx) : k0_pay53 (k0_pay48 N k0_pay3 (View.ld Ws r0_22) (View.ld Bt r0_23)) (k0_pay49 (View.ld Gt r0_24)) (k0_pay51 (View.ld U r0_24)) (k0_pay52 (View.ld U r0_24)) z = tile N U Gt Ws Bt (r0_24.emb z) := by
  have h : k0_pay53 (k0_pay48 N k0_pay3 (View.ld Ws r0_22) (View.ld Bt r0_23)) (k0_pay49 (View.ld Gt r0_24)) (k0_pay51 (View.ld U r0_24)) (k0_pay52 (View.ld U r0_24)) = body (extractStridedSlice S128x128 ![0, 640] N slices_S256x2048_o0_640_S128x128) (View.ld Ws r0_22) (View.ld Bt r0_23) (View.ld Gt r0_24) (View.ld U r0_24) := rfl
  rw [h]
  obtain ⟨p, q, rfl⟩ : ∃ p q : Fin 128, z = ix2 p q := ⟨z 0, z 1, eq_ix2 z⟩
  exact piece N U Gt Ws Bt 0 5 _ _ _ _ _ p q _ (emb24 p q) (fun d => by pointwise) (fun d => congrArg Ws (emb22 p d)) (congrArg Bt (emb23 p)) rfl rfl

theorem emb25 (p q : Fin 128) : r0_25.emb (ix2 p q) = (ix2 (⟨128 + p.val, by omega⟩ : Fin 256) (⟨640 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece25 (z : S128x128.Idx) : k0_pay54 N (k0_pay46 k0_pay3 (View.ld Ws r0_22)) (k0_pay47 (View.ld Bt r0_23)) (View.ld Gt r0_25) (View.ld U r0_25) z = tile N U Gt Ws Bt (r0_25.emb z) := by
  have h : k0_pay54 N (k0_pay46 k0_pay3 (View.ld Ws r0_22)) (k0_pay47 (View.ld Bt r0_23)) (View.ld Gt r0_25) (View.ld U r0_25) = body (extractStridedSlice S128x128 ![128, 640] N slices_S256x2048_o128_640_S128x128) (View.ld Ws r0_22) (View.ld Bt r0_23) (View.ld Gt r0_25) (View.ld U r0_25) := rfl
  rw [h]
  obtain ⟨p, q, rfl⟩ : ∃ p q : Fin 128, z = ix2 p q := ⟨z 0, z 1, eq_ix2 z⟩
  exact piece N U Gt Ws Bt 1 5 _ _ _ _ _ p q _ (emb25 p q) (fun d => by pointwise) (fun d => congrArg Ws (emb22 p d)) (congrArg Bt (emb23 p)) rfl rfl

theorem emb28 (p q : Fin 128) : r0_28.emb (ix2 p q) = (ix2 (⟨0 + p.val, by omega⟩ : Fin 256) (⟨768 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb26 (p d : Fin 128) : r0_26.emb (ix3 (0 : Fin 1) p d) = (ix3 (6 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb27 (p : Fin 128) : r0_27.emb (ix2 p (0 : Fin 1)) = (ix2 p (6 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece28 (z : S128x128.Idx) : k0_pay57 N k0_pay3 (View.ld Ws r0_26) (View.ld Bt r0_27) (View.ld Gt r0_28) (View.ld U r0_28) z = tile N U Gt Ws Bt (r0_28.emb z) := by
  have h : k0_pay57 N k0_pay3 (View.ld Ws r0_26) (View.ld Bt r0_27) (View.ld Gt r0_28) (View.ld U r0_28) = body (extractStridedSlice S128x128 ![0, 768] N slices_S256x2048_o0_768_S128x128) (View.ld Ws r0_26) (View.ld Bt r0_27) (View.ld Gt r0_28) (View.ld U r0_28) := rfl
  rw [h]
  obtain ⟨p, q, rfl⟩ : ∃ p q : Fin 128, z = ix2 p q := ⟨z 0, z 1, eq_ix2 z⟩
  exact piece N U Gt Ws Bt 0 6 _ _ _ _ _ p q _ (emb28 p q) (fun d => by pointwise) (fun d => congrArg Ws (emb26 p d)) (congrArg Bt (emb27 p)) rfl rfl

theorem emb29 (p q : Fin 128) : r0_29.emb (ix2 p q) = (ix2 (⟨128 + p.val, by omega⟩ : Fin 256) (⟨768 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece29 (z : S128x128.Idx) : k0_pay60 (k0_pay58 N k0_pay3 (View.ld Ws r0_26) (View.ld Bt r0_27)) (k0_pay59 (View.ld Gt r0_29)) (View.ld U r0_29) z = tile N U Gt Ws Bt (r0_29.emb z) := by
  have h : k0_pay60 (k0_pay58 N k0_pay3 (View.ld Ws r0_26) (View.ld Bt r0_27)) (k0_pay59 (View.ld Gt r0_29)) (View.ld U r0_29) = body (extractStridedSlice S128x128 ![128, 768] N slices_S256x2048_o128_768_S128x128) (View.ld Ws r0_26) (View.ld Bt r0_27) (View.ld Gt r0_29) (View.ld U r0_29) := rfl
  rw [h]
  obtain ⟨p, q, rfl⟩ : ∃ p q : Fin 128, z = ix2 p q := ⟨z 0, z 1, eq_ix2 z⟩
  exact piece N U Gt Ws Bt 1 6 _ _ _ _ _ p q _ (emb29 p q) (fun d => by pointwise) (fun d => congrArg Ws (emb26 p d)) (congrArg Bt (emb27 p)) rfl rfl

theorem emb32 (p q : Fin 128) : r0_32.emb (ix2 p q) = (ix2 (⟨0 + p.val, by omega⟩ : Fin 256) (⟨896 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb30 (p d : Fin 128) : r0_30.emb (ix3 (0 : Fin 1) p d) = (ix3 (7 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb31 (p : Fin 128) : r0_31.emb (ix2 p (0 : Fin 1)) = (ix2 p (7 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece32 (z : S128x128.Idx) : k0_pay67 (k0_pay63 N k0_pay3 (View.ld Ws r0_30) (View.ld Bt r0_31)) (k0_pay64 (View.ld Gt r0_32)) (k0_pay65 (View.ld U r0_32)) (k0_pay66 (View.ld U r0_32)) (Scalar.ofBits (F := Ideal) .f32 0x3F3504F3#32) z = tile N U Gt Ws Bt (r0_32.emb z) := by
  have h : k0_pay67 (k0_pay63 N k0_pay3 (View.ld Ws r0_30) (View.ld Bt r0_31)) (k0_pay64 (View.ld Gt r0_32)) (k0_pay65 (View.ld U r0_32)) (k0_pay66 (View.ld U r0_32)) (Scalar.ofBits (F := Ideal) .f32 0x3F3504F3#32) = body (extractStridedSlice S128x128 ![0, 896] N slices_S256x2048_o0_896_S128x128) (View.ld Ws r0_30) (View.ld Bt r0_31) (View.ld Gt r0_32) (View.ld U r0_32) := rfl
  rw [h]
  obtain ⟨p, q, rfl⟩ : ∃ p q : Fin 128, z = ix2 p q := ⟨z 0, z 1, eq_ix2 z⟩
  exact piece N U Gt Ws Bt 0 7 _ _ _ _ _ p q _ (emb32 p q) (fun d => by pointwise) (fun d => congrArg Ws (emb30 p d)) (congrArg Bt (emb31 p)) rfl rfl

theorem emb33 (p q : Fin 128) : r0_33.emb (ix2 p q) = (ix2 (⟨128 + p.val, by omega⟩ : Fin 256) (⟨896 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece33 (z : S128x128.Idx) : k0_pay68 N (k0_pay61 k0_pay3 (View.ld Ws r0_30)) (k0_pay62 (View.ld Bt r0_31)) (View.ld Gt r0_33) (View.ld U r0_33) z = tile N U Gt Ws Bt (r0_33.emb z) := by
  have h : k0_pay68 N (k0_pay61 k0_pay3 (View.ld Ws r0_30)) (k0_pay62 (View.ld Bt r0_31)) (View.ld Gt r0_33) (View.ld U r0_33) = body (extractStridedSlice S128x128 ![128, 896] N slices_S256x2048_o128_896_S128x128) (View.ld Ws r0_30) (View.ld Bt r0_31) (View.ld Gt r0_33) (View.ld U r0_33) := rfl
  rw [h]
  obtain ⟨p, q, rfl⟩ : ∃ p q : Fin 128, z = ix2 p q := ⟨z 0, z 1, eq_ix2 z⟩
  exact piece N U Gt Ws Bt 1 7 _ _ _ _ _ p q _ (emb33 p q) (fun d => by pointwise) (fun d => congrArg Ws (emb30 p d)) (congrArg Bt (emb31 p)) rfl rfl

theorem emb36 (p q : Fin 128) : r0_36.emb (ix2 p q) = (ix2 (⟨0 + p.val, by omega⟩ : Fin 256) (⟨1024 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb34 (p d : Fin 128) : r0_34.emb (ix3 (0 : Fin 1) p d) = (ix3 (8 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb35 (p : Fin 128) : r0_35.emb (ix2 p (0 : Fin 1)) = (ix2 p (8 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece36 (z : S128x128.Idx) : k0_pay71 N k0_pay3 (View.ld Ws r0_34) (View.ld Bt r0_35) (View.ld Gt r0_36) (View.ld U r0_36) z = tile N U Gt Ws Bt (r0_36.emb z) := by
  have h : k0_pay71 N k0_pay3 (View.ld Ws r0_34) (View.ld Bt r0_35) (View.ld Gt r0_36) (View.ld U r0_36) = body (extractStridedSlice S128x128 ![0, 1024] N slices_S256x2048_o0_1024_S128x128) (View.ld Ws r0_34) (View.ld Bt r0_35) (View.ld Gt r0_36) (View.ld U r0_36) := rfl
  rw [h]
  obtain ⟨p, q, rfl⟩ : ∃ p q : Fin 128, z = ix2 p q := ⟨z 0, z 1, eq_ix2 z⟩
  exact piece N U Gt Ws Bt 0 8 _ _ _ _ _ p q _ (emb36 p q) (fun d => by pointwise) (fun d => congrArg Ws (emb34 p d)) (congrArg Bt (emb35 p)) rfl rfl

theorem emb37 (p q : Fin 128) : r0_37.emb (ix2 p q) = (ix2 (⟨128 + p.val, by omega⟩ : Fin 256) (⟨1024 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece37 (z : S128x128.Idx) : k0_pay73 (k0_pay72 N k0_pay3 (View.ld Ws r0_34) (View.ld Bt r0_35)) (View.ld Gt r0_37) (View.ld U r0_37) z = tile N U Gt Ws Bt (r0_37.emb z) := by
  have h : k0_pay73 (k0_pay72 N k0_pay3 (View.ld Ws r0_34) (View.ld Bt r0_35)) (View.ld Gt r0_37) (View.ld U r0_37) = body (extractStridedSlice S128x128 ![128, 1024] N slices_S256x2048_o128_1024_S128x128) (View.ld Ws r0_34) (View.ld Bt r0_35) (View.ld Gt r0_37) (View.ld U r0_37) := rfl
  rw [h]
  obtain ⟨p, q, rfl⟩ : ∃ p q : Fin 128, z = ix2 p q := ⟨z 0, z 1, eq_ix2 z⟩
  exact piece N U Gt Ws Bt 1 8 _ _ _ _ _ p q _ (emb37 p q) (fun d => by pointwise) (fun d => congrArg Ws (emb34 p d)) (congrArg Bt (emb35 p)) rfl rfl

theorem emb40 (p q : Fin 128) : r0_40.emb (ix2 p q) = (ix2 (⟨0 + p.val, by omega⟩ : Fin 256) (⟨1152 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb38 (p d : Fin 128) : r0_38.emb (ix3 (0 : Fin 1) p d) = (ix3 (9 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb39 (p : Fin 128) : r0_39.emb (ix2 p (0 : Fin 1)) = (ix2 p (9 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece40 (z : S128x128.Idx) : k0_pay80 (k0_pay76 N k0_pay3 (View.ld Ws r0_38) (View.ld Bt r0_39)) (k0_pay77 (View.ld Gt r0_40)) (k0_pay78 (View.ld U r0_40)) (k0_pay79 (F := Ideal)) z = tile N U Gt Ws Bt (r0_40.emb z) := by
  have h : k0_pay80 (k0_pay76 N k0_pay3 (View.ld Ws r0_38) (View.ld Bt r0_39)) (k0_pay77 (View.ld Gt r0_40)) (k0_pay78 (View.ld U r0_40)) (k0_pay79 (F := Ideal)) = body (extractStridedSlice S128x128 ![0, 1152] N slices_S256x2048_o0_1152_S128x128) (View.ld Ws r0_38) (View.ld Bt r0_39) (View.ld Gt r0_40) (View.ld U r0_40) := rfl
  rw [h]
  obtain ⟨p, q, rfl⟩ : ∃ p q : Fin 128, z = ix2 p q := ⟨z 0, z 1, eq_ix2 z⟩
  exact piece N U Gt Ws Bt 0 9 _ _ _ _ _ p q _ (emb40 p q) (fun d => by pointwise) (fun d => congrArg Ws (emb38 p d)) (congrArg Bt (emb39 p)) rfl rfl

theorem emb41 (p q : Fin 128) : r0_41.emb (ix2 p q) = (ix2 (⟨128 + p.val, by omega⟩ : Fin 256) (⟨1152 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece41 (z : S128x128.Idx) : k0_pay81 N (k0_pay74 k0_pay3 (View.ld Ws r0_38)) (k0_pay75 (View.ld Bt r0_39)) (View.ld Gt r0_41) (View.ld U r0_41) z = tile N U Gt Ws Bt (r0_41.emb z) := by
  have h : k0_pay81 N (k0_pay74 k0_pay3 (View.ld Ws r0_38)) (k0_pay75 (View.ld Bt r0_39)) (View.ld Gt r0_41) (View.ld U r0_41) = body (extractStridedSlice S128x128 ![128, 1152] N slices_S256x2048_o128_1152_S128x128) (View.ld Ws r0_38) (View.ld Bt r0_39) (View.ld Gt r0_41) (View.ld U r0_41) := rfl
  rw [h]
  obtain ⟨p, q, rfl⟩ : ∃ p q : Fin 128, z = ix2 p q := ⟨z 0, z 1, eq_ix2 z⟩
  exact piece N U Gt Ws Bt 1 9 _ _ _ _ _ p q _ (emb41 p q) (fun d => by pointwise) (fun d => congrArg Ws (emb38 p d)) (congrArg Bt (emb39 p)) rfl rfl

theorem emb44 (p q : Fin 128) : r0_44.emb (ix2 p q) = (ix2 (⟨0 + p.val, by omega⟩ : Fin 256) (⟨1280 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb42 (p d : Fin 128) : r0_42.emb (ix3 (0 : Fin 1) p d) = (ix3 (10 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb43 (p : Fin 128) : r0_43.emb (ix2 p (0 : Fin 1)) = (ix2 p (10 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece44 (z : S128x128.Idx) : k0_pay84 N k0_pay3 (View.ld Ws r0_42) (View.ld Bt r0_43) (View.ld Gt r0_44) (View.ld U r0_44) z = tile N U Gt Ws Bt (r0_44.emb z) := by
  have h : k0_pay84 N k0_pay3 (View.ld Ws r0_42) (View.ld Bt r0_43) (View.ld Gt r0_44) (View.ld U r0_44) = body (extractStridedSlice S128x128 ![0, 1280] N slices_S256x2048_o0_1280_S128x128) (View.ld Ws r0_42) (View.ld Bt r0_43) (View.ld Gt r0_44) (View.ld U r0_44) := rfl
  rw [h]
  obtain ⟨p, q, rfl⟩ : ∃ p q : Fin 128, z = ix2 p q := ⟨z 0, z 1, eq_ix2 z⟩
  exact piece N U Gt Ws Bt 0 10 _ _ _ _ _ p q _ (emb44 p q) (fun d => by pointwise) (fun d => congrArg Ws (emb42 p d)) (congrArg Bt (emb43 p)) rfl rfl

theorem emb45 (p q : Fin 128) : r0_45.emb (ix2 p q) = (ix2 (⟨128 + p.val, by omega⟩ : Fin 256) (⟨1280 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece45 (z : S128x128.Idx) : k0_pay86 (k0_pay85 N k0_pay3 (View.ld Ws r0_42) (View.ld Bt r0_43)) (View.ld Gt r0_45) (View.ld U r0_45) z = tile N U Gt Ws Bt (r0_45.emb z) := by
  have h : k0_pay86 (k0_pay85 N k0_pay3 (View.ld Ws r0_42) (View.ld Bt r0_43)) (View.ld Gt r0_45) (View.ld U r0_45) = body (extractStridedSlice S128x128 ![128, 1280] N slices_S256x2048_o128_1280_S128x128) (View.ld Ws r0_42) (View.ld Bt r0_43) (View.ld Gt r0_45) (View.ld U r0_45) := rfl
  rw [h]
  obtain ⟨p, q, rfl⟩ : ∃ p q : Fin 128, z = ix2 p q := ⟨z 0, z 1, eq_ix2 z⟩
  exact piece N U Gt Ws Bt 1 10 _ _ _ _ _ p q _ (emb45 p q) (fun d => by pointwise) (fun d => congrArg Ws (emb42 p d)) (congrArg Bt (emb43 p)) rfl rfl

theorem emb48 (p q : Fin 128) : r0_48.emb (ix2 p q) = (ix2 (⟨0 + p.val, by omega⟩ : Fin 256) (⟨1408 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb46 (p d : Fin 128) : r0_46.emb (ix3 (0 : Fin 1) p d) = (ix3 (11 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb47 (p : Fin 128) : r0_47.emb (ix2 p (0 : Fin 1)) = (ix2 p (11 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece48 (z : S128x128.Idx) : k0_pay92 (k0_pay89 N k0_pay3 (View.ld Ws r0_46) (View.ld Bt r0_47)) (k0_pay90 (View.ld Gt r0_48)) (k0_pay91 (View.ld U r0_48)) z = tile N U Gt Ws Bt (r0_48.emb z) := by
  have h : k0_pay92 (k0_pay89 N k0_pay3 (View.ld Ws r0_46) (View.ld Bt r0_47)) (k0_pay90 (View.ld Gt r0_48)) (k0_pay91 (View.ld U r0_48)) = body (extractStridedSlice S128x128 ![0, 1408] N slices_S256x2048_o0_1408_S128x128) (View.ld Ws r0_46) (View.ld Bt r0_47) (View.ld Gt r0_48) (View.ld U r0_48) := rfl
  rw [h]
  obtain ⟨p, q, rfl⟩ : ∃ p q : Fin 128, z = ix2 p q := ⟨z 0, z 1, eq_ix2 z⟩
  exact piece N U Gt Ws Bt 0 11 _ _ _ _ _ p q _ (emb48 p q) (fun d => by pointwise) (fun d => congrArg Ws (emb46 p d)) (congrArg Bt (emb47 p)) rfl rfl

theorem emb49 (p q : Fin 128) : r0_49.emb (ix2 p q) = (ix2 (⟨128 + p.val, by omega⟩ : Fin 256) (⟨1408 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece49 (z : S128x128.Idx) : k0_pay94 (k0_pay93 N (k0_pay87 k0_pay3 (View.ld Ws r0_46)) (k0_pay88 (View.ld Bt r0_47)) (View.ld Gt r0_49) (View.ld U r0_49)) z = tile N U Gt Ws Bt (r0_49.emb z) := by
  have h : k0_pay94 (k0_pay93 N (k0_pay87 k0_pay3 (View.ld Ws r0_46)) (k0_pay88 (View.ld Bt r0_47)) (View.ld Gt r0_49) (View.ld U r0_49)) = body (extractStridedSlice S128x128 ![128, 1408] N slices_S256x2048_o128_1408_S128x128) (View.ld Ws r0_46) (View.ld Bt r0_47) (View.ld Gt r0_49) (View.ld U r0_49) := rfl
  rw [h]
  obtain ⟨p, q, rfl⟩ : ∃ p q : Fin 128, z = ix2 p q := ⟨z 0, z 1, eq_ix2 z⟩
  exact piece N U Gt Ws Bt 1 11 _ _ _ _ _ p q _ (emb49 p q) (fun d => by pointwise) (fun d => congrArg Ws (emb46 p d)) (congrArg Bt (emb47 p)) rfl rfl

theorem emb52 (p q : Fin 128) : r0_52.emb (ix2 p q) = (ix2 (⟨0 + p.val, by omega⟩ : Fin 256) (⟨1536 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb50 (p d : Fin 128) : r0_50.emb (ix3 (0 : Fin 1) p d) = (ix3 (12 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb51 (p : Fin 128) : r0_51.emb (ix2 p (0 : Fin 1)) = (ix2 p (12 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece52 (z : S128x128.Idx) : k0_pay97 N k0_pay3 (View.ld Ws r0_50) (View.ld Bt r0_51) (View.ld Gt r0_52) (View.ld U r0_52) z = tile N U Gt Ws Bt (r0_52.emb z) := by
  have h : k0_pay97 N k0_pay3 (View.ld Ws r0_50) (View.ld Bt r0_51) (View.ld Gt r0_52) (View.ld U r0_52) = body (extractStridedSlice S128x128 ![0, 1536] N slices_S256x2048_o0_1536_S128x128) (View.ld Ws r0_50) (View.ld Bt r0_51) (View.ld Gt r0_52) (View.ld U r0_52) := rfl
  rw [h]
  obtain ⟨p, q, rfl⟩ : ∃ p q : Fin 128, z = ix2 p q := ⟨z 0, z 1, eq_ix2 z⟩
  exact piece N U Gt Ws Bt 0 12 _ _ _ _ _ p q _ (emb52 p q) (fun d => by pointwise) (fun d => congrArg Ws (emb50 p d)) (congrArg Bt (emb51 p)) rfl rfl

theorem emb53 (p q : Fin 128) : r0_53.emb (ix2 p q) = (ix2 (⟨128 + p.val, by omega⟩ : Fin 256) (⟨1536 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece53 (z : S128x128.Idx) : k0_pay99 (k0_pay96 (View.ld Bt r0_51)) (k0_pay98 N k0_pay3 (View.ld Ws r0_50)) (View.ld Gt r0_53) (View.ld U r0_53) z = tile N U Gt Ws Bt (r0_53.emb z) := by
  have h : k0_pay99 (k0_pay96 (View.ld Bt r0_51)) (k0_pay98 N k0_pay3 (View.ld Ws r0_50)) (View.ld Gt r0_53) (View.ld U r0_53) = body (extractStridedSlice S128x128 ![128, 1536] N slices_S256x2048_o128_1536_S128x128) (View.ld Ws r0_50) (View.ld Bt r0_51) (View.ld Gt r0_53) (View.ld U r0_53) := rfl
  rw [h]
  obtain ⟨p, q, rfl⟩ : ∃ p q : Fin 128, z = ix2 p q := ⟨z 0, z 1, eq_ix2 z⟩
  exact piece N U Gt Ws Bt 1 12 _ _ _ _ _ p q _ (emb53 p q) (fun d => by pointwise) (fun d => congrArg Ws (emb50 p d)) (congrArg Bt (emb51 p)) rfl rfl

theorem emb56 (p q : Fin 128) : r0_56.emb (ix2 p q) = (ix2 (⟨0 + p.val, by omega⟩ : Fin 256) (⟨1664 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb54 (p d : Fin 128) : r0_54.emb (ix3 (0 : Fin 1) p d) = (ix3 (13 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb55 (p : Fin 128) : r0_55.emb (ix2 p (0 : Fin 1)) = (ix2 p (13 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece56 (z : S128x128.Idx) : k0_pay104 (k0_pay102 N k0_pay3 (View.ld Ws r0_54) (View.ld Bt r0_55)) (k0_pay103 (View.ld Gt r0_56)) (View.ld U r0_56) z = tile N U Gt Ws Bt (r0_56.emb z) := by
  have h : k0_pay104 (k0_pay102 N k0_pay3 (View.ld Ws r0_54) (View.ld Bt r0_55)) (k0_pay103 (View.ld Gt r0_56)) (View.ld U r0_56) = body (extractStridedSlice S128x128 ![0, 1664] N slices_S256x2048_o0_1664_S128x128) (View.ld Ws r0_54) (View.ld Bt r0_55) (View.ld Gt r0_56) (View.ld U r0_56) := rfl
  rw [h]
  obtain ⟨p, q, rfl⟩ : ∃ p q : Fin 128, z = ix2 p q := ⟨z 0, z 1, eq_ix2 z⟩
  exact piece N U Gt Ws Bt 0 13 _ _ _ _ _ p q _ (emb56 p q) (fun d => by pointwise) (fun d => congrArg Ws (emb54 p d)) (congrArg Bt (emb55 p)) rfl rfl

theorem emb57 (p q : Fin 128) : r0_57.emb (ix2 p q) = (ix2 (⟨128 + p.val, by omega⟩ : Fin 256) (⟨1664 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece57 (z : S128x128.Idx) : k0_pay108 (k0_pay105 (View.ld Gt r0_57)) (k0_pay106 N (k0_pay100 k0_pay3 (View.ld Ws r0_54)) (k0_pay101 (View.ld Bt r0_55)) (View.ld U r0_57)) (k0_pay107 (View.ld Gt r0_57)) z = tile N U Gt Ws Bt (r0_57.emb z) := by
  have h : k0_pay108 (k0_pay105 (View.ld Gt r0_57)) (k0_pay106 N (k0_pay100 k0_pay3 (View.ld Ws r0_54)) (k0_pay101 (View.ld Bt r0_55)) (View.ld U r0_57)) (k0_pay107 (View.ld Gt r0_57)) = body (extractStridedSlice S128x128 ![128, 1664] N slices_S256x2048_o128_1664_S128x128) (View.ld Ws r0_54) (View.ld Bt r0_55) (View.ld Gt r0_57) (View.ld U r0_57) := rfl
  rw [h]
  obtain ⟨p, q, rfl⟩ : ∃ p q : Fin 128, z = ix2 p q := ⟨z 0, z 1, eq_ix2 z⟩
  exact piece N U Gt Ws Bt 1 13 _ _ _ _ _ p q _ (emb57 p q) (fun d => by pointwise) (fun d => congrArg Ws (emb54 p d)) (congrArg Bt (emb55 p)) rfl rfl

theorem emb60 (p q : Fin 128) : r0_60.emb (ix2 p q) = (ix2 (⟨0 + p.val, by omega⟩ : Fin 256) (⟨1792 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb58 (p d : Fin 128) : r0_58.emb (ix3 (0 : Fin 1) p d) = (ix3 (14 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb59 (p : Fin 128) : r0_59.emb (ix2 p (0 : Fin 1)) = (ix2 p (14 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece60 (z : S128x128.Idx) : k0_pay111 N k0_pay3 (View.ld Ws r0_58) (View.ld Bt r0_59) (View.ld Gt r0_60) (View.ld U r0_60) z = tile N U Gt Ws Bt (r0_60.emb z) := by
  have h : k0_pay111 N k0_pay3 (View.ld Ws r0_58) (View.ld Bt r0_59) (View.ld Gt r0_60) (View.ld U r0_60) = body (extractStridedSlice S128x128 ![0, 1792] N slices_S256x2048_o0_1792_S128x128) (View.ld Ws r0_58) (View.ld Bt r0_59) (View.ld Gt r0_60) (View.ld U r0_60) := rfl
  rw [h]
  obtain ⟨p, q, rfl⟩ : ∃ p q : Fin 128, z = ix2 p q := ⟨z 0, z 1, eq_ix2 z⟩
  exact piece N U Gt Ws Bt 0 14 _ _ _ _ _ p q _ (emb60 p q) (fun d => by pointwise) (fun d => congrArg Ws (emb58 p d)) (congrArg Bt (emb59 p)) rfl rfl

theorem emb61 (p q : Fin 128) : r0_61.emb (ix2 p q) = (ix2 (⟨128 + p.val, by omega⟩ : Fin 256) (⟨1792 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece61 (z : S128x128.Idx) : k0_pay113 (k0_pay109 k0_pay3 (View.ld Ws r0_58)) (k0_pay110 (View.ld Bt r0_59)) (k0_pay112 N) (View.ld Gt r0_61) (View.ld U r0_61) z = tile N U Gt Ws Bt (r0_61.emb z) := by
  have h : k0_pay113 (k0_pay109 k0_pay3 (View.ld Ws r0_58)) (k0_pay110 (View.ld Bt r0_59)) (k0_pay112 N) (View.ld Gt r0_61) (View.ld U r0_61) = body (extractStridedSlice S128x128 ![128, 1792] N slices_S256x2048_o128_1792_S128x128) (View.ld Ws r0_58) (View.ld Bt r0_59) (View.ld Gt r0_61) (View.ld U r0_61) := rfl
  rw [h]
  obtain ⟨p, q, rfl⟩ : ∃ p q : Fin 128, z = ix2 p q := ⟨z 0, z 1, eq_ix2 z⟩
  exact piece N U Gt Ws Bt 1 14 _ _ _ _ _ p q _ (emb61 p q) (fun d => by pointwise) (fun d => congrArg Ws (emb58 p d)) (congrArg Bt (emb59 p)) rfl rfl

theorem emb64 (p q : Fin 128) : r0_64.emb (ix2 p q) = (ix2 (⟨0 + p.val, by omega⟩ : Fin 256) (⟨1920 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem emb62 (p d : Fin 128) : r0_62.emb (ix3 (0 : Fin 1) p d) = (ix3 (15 : Fin 16) p d : S16x128x128.Idx) :=
  (eq_ix3 _).trans (ix3_congr (Fin.ext (ValueKit.rect_emb_unit_val _ _ _ _ 0)) (Fin.ext ((ValueKit.rect_emb_unit_val _ _ _ _ 1).trans (Nat.zero_add _))) (Fin.ext ((ValueKit.rect_emb_unit_val _ _ _ _ 2).trans (Nat.zero_add _))))

theorem emb63 (p : Fin 128) : r0_63.emb (ix2 p (0 : Fin 1)) = (ix2 p (15 : Fin 16) : S128x16.Idx) :=
  (eq_ix2 _).trans (congrArg₂ ix2 (Fin.ext ((ValueKit.rect_emb_unit_val _ _ _ _ 0).trans (Nat.zero_add _))) (Fin.ext (ValueKit.rect_emb_unit_val _ _ _ _ 1)))

theorem piece64 (z : S128x128.Idx) : k0_pay118 (k0_pay116 N k0_pay3 (View.ld Ws r0_62) (View.ld Bt r0_63)) (k0_pay117 (View.ld Gt r0_64)) (View.ld U r0_64) z = tile N U Gt Ws Bt (r0_64.emb z) := by
  have h : k0_pay118 (k0_pay116 N k0_pay3 (View.ld Ws r0_62) (View.ld Bt r0_63)) (k0_pay117 (View.ld Gt r0_64)) (View.ld U r0_64) = body (extractStridedSlice S128x128 ![0, 1920] N slices_S256x2048_o0_1920_S128x128) (View.ld Ws r0_62) (View.ld Bt r0_63) (View.ld Gt r0_64) (View.ld U r0_64) := rfl
  rw [h]
  obtain ⟨p, q, rfl⟩ : ∃ p q : Fin 128, z = ix2 p q := ⟨z 0, z 1, eq_ix2 z⟩
  exact piece N U Gt Ws Bt 0 15 _ _ _ _ _ p q _ (emb64 p q) (fun d => by pointwise) (fun d => congrArg Ws (emb62 p d)) (congrArg Bt (emb63 p)) rfl rfl

theorem emb65 (p q : Fin 128) : r0_65.emb (ix2 p q) = (ix2 (⟨128 + p.val, by omega⟩ : Fin 256) (⟨1920 + q.val, by omega⟩ : Fin 2048) : S256x2048.Idx) :=
  (eq_ix2 _).trans (congrArg₂ ix2 (Fin.ext (ValueKit.rect_emb_unit_val _ _ _ _ 0)) (Fin.ext (ValueKit.rect_emb_unit_val _ _ _ _ 1)))

theorem piece65 (z : S128x128.Idx) : k0_pay1 (k0_pay119 (View.ld Gt r0_65)) (k0_pay120 N (k0_pay114 k0_pay3 (View.ld Ws r0_62)) (k0_pay115 (View.ld Bt r0_63)) (View.ld U r0_65)) (k0_pay121 (View.ld Gt r0_65)) (Scalar.ofBits (F := Ideal) .f32 0x3F800000#32) z = tile N U Gt Ws Bt (r0_65.emb z) := by
  have h : k0_pay1 (k0_pay119 (View.ld Gt r0_65)) (k0_pay120 N (k0_pay114 k0_pay3 (View.ld Ws r0_62)) (k0_pay115 (View.ld Bt r0_63)) (View.ld U r0_65)) (k0_pay121 (View.ld Gt r0_65)) (Scalar.ofBits (F := Ideal) .f32 0x3F800000#32) = body (extractStridedSlice S128x128 ![128, 1920] N slices_S256x2048_o128_1920_S128x128) (View.ld Ws r0_62) (View.ld Bt r0_63) (View.ld Gt r0_65) (View.ld U r0_65) := rfl
  rw [h]
  obtain ⟨p, q, rfl⟩ : ∃ p q : Fin 128, z = ix2 p q := ⟨z 0, z 1, eq_ix2 z⟩
  exact piece N U Gt Ws Bt 1 15 _ _ _ _ _ p q _ (emb65 p q) (fun d => by pointwise) (fun d => congrArg Ws (emb62 p d)) (congrArg Bt (emb63 p)) rfl rfl

end

theorem emb0 (p : Fin 256) (q : Fin 2048) : r0_0.emb (ix2 p q) = (ix2 p q : S256x2048.Idx) :=
  (eq_ix2 _).trans (congrArg₂ ix2 (Fin.ext ((ValueKit.rect_emb_unit_val _ _ _ _ 0).trans (Nat.zero_add _))) (Fin.ext ((ValueKit.rect_emb_unit_val _ _ _ _ 1).trans (Nat.zero_add _))))

theorem emb1 (q : Fin 2048) : r0_1.emb (ix2 (0 : Fin 1) q) = (ix2 0 q : S1x2048.Idx) :=
  (eq_ix2 _).trans (congrArg₂ ix2 (Subsingleton.elim _ _) (Fin.ext ((ValueKit.rect_emb_unit_val _ _ _ _ 1).trans (Nat.zero_add _))))

theorem norm_apply (u v gt : Vec Ideal S256x2048 .bf16) (vg vb : Vec Ideal S1x2048 .f32) (ws : Vec Ideal S16x128x128 .f32) (bt : Vec Ideal S128x16 .f32) (i : Fin 256) (e : Fin 2048) :
    (k0_pay122 u v gt vg vb ws bt (ix2 i e) : EReal) = normRow (fun x => gelu (v (ix2 i x))) (fun x => vg (ix2 0 x)) (fun x => vb (ix2 0 x)) e := by
  refine (pay2_apply _ _ _ i e).trans ?_
  have hv : (fun x : Fin 2048 => gelu (View.ld v r0_0 (ix2 i x))) = fun x => gelu (v (ix2 i x)) := funext fun x => congrArg (fun z => gelu (v z)) (emb0 i x)
  have hg : (fun x : Fin 2048 => (View.ld vg r0_1 (ix2 0 x) : EReal)) = fun x => vg (ix2 0 x) := funext fun x => congrArg (fun z => (vg z : EReal)) (emb1 x)
  have hb : (fun x : Fin 2048 => (View.ld vb r0_1 (ix2 0 x) : EReal)) = fun x => vb (ix2 0 x) := funext fun x => congrArg (fun z => (vb z : EReal)) (emb1 x)
  rw [hv, hg, hb]

theorem out7 (u v gt : Vec Ideal S256x2048 .bf16) (vg vb : Vec Ideal S1x2048 .f32) (ws : Vec Ideal S16x128x128 .f32) (bt : Vec Ideal S128x16 .f32) :
    out0_7 u v gt vg vb ws bt = tile (k0_pay122 u v gt vg vb ws bt) u gt ws bt := by
  unfold out0_7
  generalize k0_pay122 u v gt vg vb ws bt = N
  funext y
  refine View.canon_apply_of_pieces (tile N u gt ws bt) _ ?_ y (cover0_7 _ _ _ _ _ _ _ _ _ _ _ _ _ _ _ _ _ _ _ _ _ _ _ _ _ _ _ _ _ _ _ _ y)
  simp only [List.forall_mem_cons]
  exact ⟨piece65 N u gt ws bt, piece64 N u gt ws bt, piece61 N u gt ws bt, piece60 N u gt ws bt, piece57 N u gt ws bt, piece56 N u gt ws bt, piece53 N u gt ws bt, piece52 N u gt ws bt, piece49 N u gt ws bt, piece48 N u gt ws bt, piece45 N u gt ws bt, piece44 N u gt ws bt, piece41 N u gt ws bt, piece40 N u gt ws bt, piece37 N u gt ws bt, piece36 N u gt ws bt, piece33 N u gt ws bt, piece32 N u gt ws bt, piece29 N u gt ws bt, piece28 N u gt ws bt, piece25 N u gt ws bt, piece24 N u gt ws bt, piece21 N u gt ws bt, piece20 N u gt ws bt, piece17 N u gt ws bt, piece16 N u gt ws bt, piece13 N u gt ws bt, piece12 N u gt ws bt, piece9 N u gt ws bt, piece8 N u gt ws bt, piece5 N u gt ws bt, piece4 N u gt ws bt, fun p hp => absurd hp List.not_mem_nil⟩

section
variable (m : (ℓ : Loc nD τ sig) → Buf (Elt Ideal) ℓ) (c : Dev nD)

abbrev aX : FVec Ideal ⟨2, ![16384, 14336]⟩ .bf16 := m ((c : Thread nD τ).loc main_arg0)
abbrev aK : FVec Ideal ⟨1, ![2048]⟩ .f32 := m ((c : Thread nD τ).loc main_arg1)
abbrev aB : FVec Ideal ⟨1, ![2048]⟩ .f32 := m ((c : Thread nD τ).loc main_arg2)
abbrev aW : FVec Ideal ⟨3, ![16, 128, 128]⟩ .f32 := m ((c : Thread nD τ).loc main_arg3)
abbrev aBs : FVec Ideal ⟨2, ![16, 128]⟩ .f32 := m ((c : Thread nD τ).loc main_arg4)

theorem arr_k (r : Fin 1) (s : Fin 2048) : V m c main_v0 (ix2 r s) = aK m c (ix1 s) := by
  unfold V
  after_reads_at

theorem arr_b (r : Fin 1) (s : Fin 2048) : V m c main_v1 (ix2 r s) = aB m c (ix1 s) := by
  unfold V
  after_reads_at

theorem arr_bs (p : Fin 128) (g : Fin 16) : V m c main_v2 (ix2 p g) = aBs m c (ix2 g p) := by
  unfold V
  after_reads_at

theorem idx : ∀ t : Fin grid0.N,
    win0_0.index t = ![((grid0.coords t) 0).val, 4]
    ∧ win0_1.index t = ![((grid0.coords t) 0).val, 5]
    ∧ win0_2.index t = ![((grid0.coords t) 0).val, 6]
    ∧ win0_3.index t = ![0, 0]
    ∧ win0_4.index t = ![0, 0]
    ∧ win0_5.index t = ![0, 0, 0]
    ∧ win0_6.index t = ![0, 0]
    ∧ win0_7.index t = ![((grid0.coords t) 0).val, 0] := by
  decide +kernel

variable (t : Fin grid0.N)

theorem blk_u (i : Fin 256) (C : Fin 2048) (R : Fin 16384) (hR : R.val = 256 * ((grid0.coords t) 0).val + i.val) :
    iblk m c 0 t (ix2 i C) = aX m c (ix2 R (⟨8192 + C.val, by omega⟩ : Fin 14336)) := by
  refine Eq.trans (b := V m c main_arg0 (ix2 R (⟨8192 + C.val, by omega⟩ : Fin 14336))) ?_ (congrFun (V_main_arg0 m c) _)
  blk_ext [iblk, idx t]

theorem blk_v (i : Fin 256) (C : Fin 2048) (R : Fin 16384) (hR : R.val = 256 * ((grid0.coords t) 0).val + i.val) :
    iblk m c 1 t (ix2 i C) = aX m c (ix2 R (⟨10240 + C.val, by omega⟩ : Fin 14336)) := by
  refine Eq.trans (b := V m c main_arg0 (ix2 R (⟨10240 + C.val, by omega⟩ : Fin 14336))) ?_ (congrFun (V_main_arg0 m c) _)
  blk_ext [iblk, idx t]

theorem blk_g (i : Fin 256) (C : Fin 2048) (R : Fin 16384) (hR : R.val = 256 * ((grid0.coords t) 0).val + i.val) :
    iblk m c 2 t (ix2 i C) = aX m c (ix2 R (⟨12288 + C.val, by omega⟩ : Fin 14336)) := by
  refine Eq.trans (b := V m c main_arg0 (ix2 R (⟨12288 + C.val, by omega⟩ : Fin 14336))) ?_ (congrFun (V_main_arg0 m c) _)
  blk_ext [iblk, idx t]

theorem blk_k (x : Fin 2048) : iblk m c 3 t (ix2 0 x) = aK m c (ix1 x) := by
  refine Eq.trans (b := V m c main_v0 (ix2 0 x)) ?_ (arr_k m c 0 x)
  blk_ext [iblk, idx t]

theorem blk_b (x : Fin 2048) : iblk m c 4 t (ix2 0 x) = aB m c (ix1 x) := by
  refine Eq.trans (b := V m c main_v1 (ix2 0 x)) ?_ (arr_b m c 0 x)
  blk_ext [iblk, idx t]

theorem blk_w (g : Fin 16) (p d : Fin 128) : iblk m c 5 t (ix3 g p d) = aW m c (ix3 g p d) := by
  refine Eq.trans (b := V m c main_arg3 (ix3 g p d)) ?_ (congrFun (V_main_arg3 m c) _)
  blk_ext [iblk, idx t]

theorem blk_bs (p : Fin 128) (g : Fin 16) : iblk m c 6 t (ix2 p g) = aBs m c (ix2 g p) := by
  refine Eq.trans (b := V m c main_v2 (ix2 p g)) ?_ (arr_bs m c p g)
  blk_ext [iblk, idx t]

/-- The result array. -/
noncomputable def G : FVec Ideal ⟨2, ![16384, 2048]⟩ .bf16 := fun j =>
  gateE (aX m c) (aK m c) (aB m c) (aW m c) (aBs m c) (⟨(j 0).val / 128, by have h : (j 0).val < 16384 := (j 0).isLt; omega⟩ : Fin 128) (⟨(j 0).val % 128, by omega⟩ : Fin 128)
    (⟨(j 1).val / 128, by have h : (j 1).val < 2048 := (j 1).isLt; omega⟩ : Fin 16) (⟨(j 1).val % 128, by omega⟩ : Fin 128)

theorem G_apply (R : Fin 16384) (C : Fin 2048) : (G m c (ix2 R C) : EReal)
    = gateE (aX m c) (aK m c) (aB m c) (aW m c) (aBs m c) (⟨R.val / 128, by omega⟩ : Fin 128) (⟨R.val % 128, by omega⟩ : Fin 128) (⟨C.val / 128, by omega⟩ : Fin 16) (⟨C.val % 128, by omega⟩ : Fin 128) := rfl

/-- An entry of the normalised block. -/
theorem norm_eq (i : Fin 256) (C : Fin 2048) (R : Fin 16384) (hR : R.val = 256 * ((grid0.coords t) 0).val + i.val) :
    (k0_pay122 (iblk m c 0 t) (iblk m c 1 t) (iblk m c 2 t) (iblk m c 3 t) (iblk m c 4 t) (iblk m c 5 t) (iblk m c 6 t) (ix2 i C) : EReal)
      = normRow (fun x => gelu (aX m c (ix2 R (⟨10240 + x.val, by omega⟩ : Fin 14336)))) (fun x => aK m c (ix1 x)) (fun x => aB m c (ix1 x)) C := by
  refine (norm_apply _ _ _ _ _ _ _ i C).trans ?_
  have hv : (fun x : Fin 2048 => gelu (iblk m c 1 t (ix2 i x))) = fun x => gelu (aX m c (ix2 R (⟨10240 + x.val, by omega⟩ : Fin 14336))) := funext fun x => congrArg gelu (blk_v m c t i x R hR)
  have hk : (fun x : Fin 2048 => (iblk m c 3 t (ix2 0 x) : EReal)) = fun x => aK m c (ix1 x) := funext fun x => blk_k m c t x
  have hb : (fun x : Fin 2048 => (iblk m c 4 t (ix2 0 x) : EReal)) = fun x => aB m c (ix1 x) := funext fun x => blk_b m c t x
  exact (congrArg (fun a => normRow a _ _ C) hv).trans (congrArg₂ (fun a b => normRow _ a b C) hk hb)

theorem cell_eq (r : Fin 2) (s p : Fin 128) (g : Fin 16) (q : Fin 128) (hs : s.val = 2 * ((grid0.coords t) 0).val + r.val) :
    cell (k0_pay122 (iblk m c 0 t) (iblk m c 1 t) (iblk m c 2 t) (iblk m c 3 t) (iblk m c 4 t) (iblk m c 5 t) (iblk m c 6 t)) (iblk m c 0 t) (iblk m c 2 t) (iblk m c 5 t) (iblk m c 6 t) r p g q
      = gateE (aX m c) (aK m c) (aB m c) (aW m c) (aBs m c) s p g q := by
  unfold cell gateE
  have hrow : ∀ d : Fin 128, (rowF s d).val = 256 * ((grid0.coords t) 0).val + (128 * r.val + d.val) := fun d => by
    unfold rowF
    dsimp only
    omega
  refine congrArg₂ (fun a b : EReal => a * b) (congrArg₂ (fun a b : EReal => a * b) (congrArg gelu ?_) (congrArg₂ (fun a b : EReal => a + b) (Finset.sum_congr rfl fun d _ => ?_) ?_)) (congrArg siluAt ?_)
  · exact blk_u m c t _ (colF g q) (rowF s p) (hrow p)
  · by_cases h : d.val ≤ p.val
    · rw [if_pos h, if_pos h]
      exact congrArg₂ (fun a b : EReal => a * b) (blk_w m c t g p d) (norm_eq m c t _ (colF g q) (rowF s d) (hrow d))
    · rw [if_neg h, if_neg h]
  · exact blk_bs m c t p g
  · exact blk_g m c t _ (colF g q) (rowF s p) (hrow p)

theorem final : (dats m 0 c).arrAt 7 (cfgs 0).N = G m c := by
  refine (dats m 0 c).arrAt_eq_of_covers 7 _ (by decide +kernel) fun t hf y => ?_
  blk_simp
  rw [after0_7, out7]
  obtain ⟨i, C, rfl⟩ : ∃ (i : Fin 256) (C : Fin 2048), y = ix2 i C := ⟨y 0, y 1, eq_ix2 y⟩
  have h0 := ((grid0.coords t) 0).isLt
  change _ < 64 at h0
  obtain ⟨R, hR⟩ : ∃ R : Fin 16384, R.val = 256 * ((grid0.coords t) 0).val + i.val := ⟨⟨256 * ((grid0.coords t) 0).val + i.val, by omega⟩, rfl⟩
  refine (tile_apply _ _ _ _ _ (⟨i.val / 128, by omega⟩ : Fin 2) (⟨R.val % 128, by omega⟩ : Fin 128) (⟨C.val / 128, by omega⟩ : Fin 16) (⟨C.val % 128, by omega⟩ : Fin 128) i C (by dsimp only; omega) (by dsimp only; omega)).trans ?_
  refine (cell_eq m c t _ (⟨R.val / 128, by omega⟩ : Fin 128) _ _ _ (by dsimp only; omega)).trans ?_
  refine (G_apply m c R C).symm.trans ?_
  blk_ext [idx t]

end

end Cert.Kernel6Ideal.Gate

namespace Cert.Reference6Ideal.Gate

open Cert.Reference6Ideal Cert.Reference6Ideal.Gen
open Cert.Kernel6Ideal.Gate (gelu ctrRow normRow rowF colF gateE)
open Cert.KernelIdeal.Attn (siluAt)
open Idealize.ShloMosaic Idealize.ShloMosaic.TcCoe

/-- The columns of the spatial gating. -/
noncomputable def colArr (X : FVec Ideal S16384x14336 .bf16) : FVec Ideal S16384x6144 .f32 :=
  extf .f32 (extractStridedSlice S16384x6144 ![0, 8192] X slices_S16384x14336_S16384x6144_0_8192) bitsLt_bf16_f32

/-- The gelu of the second third. -/
noncomputable def actArr (Y : FVec Ideal S16384x6144 .f32) : FVec Ideal S16384x2048 .f32 :=
  mulf (mulf (broadcastInDim S16384x2048 ![] bcast_S_S16384x2048 (constant S_ .f32 0x3F000000#32)) (extractStridedSlice S16384x2048 ![0, 2048] Y slices_S16384x6144_S16384x2048_0_2048)) (addf (broadcastInDim S16384x2048 ![] bcast_S_S16384x2048 (constant S_ .f32 0x3F800000#32)) (Host.erf (mulf (extractStridedSlice S16384x2048 ![0, 2048] Y slices_S16384x6144_S16384x2048_0_2048) (broadcastInDim S16384x2048 ![] bcast_S_S16384x2048 (constant S_ .f32 0x3F3504F3#32)))))

noncomputable def ctrArr (A : FVec Ideal S16384x2048 .f32) : FVec Ideal S16384x2048 .f32 :=
  subf A (broadcastInDim S16384x2048 ![0, 1] bcast_S16384x1_S16384x2048_0_1 (Host.divf (broadcastInDim S16384x1 ![0] bcast_S16384_S16384x1_0 (Host.reduceAdd A (constant S_ .f32 0x00000000#32) reducesTo_S16384x2048_S16384_d1 h_S_)) (broadcastInDim S16384x1 ![] bcast_S_S16384x1 (constant S_ .f32 0x45000000#32))))

noncomputable def normArr (Z : FVec Ideal S16384x2048 .f32) (K B : FVec Ideal S2048 .f32) : FVec Ideal S16384x2048 .f32 :=
  addf (mulf (mulf Z (broadcastInDim S16384x2048 ![0, 1] bcast_S16384x1_S16384x2048_0_1 (Host.rsqrt (addf (Host.divf (broadcastInDim S16384x1 ![0] bcast_S16384_S16384x1_0 (Host.reduceAdd (mulf Z Z) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 K))) (broadcastInDim S16384x2048 ![0, 1] bcast_S1x2048_S16384x2048_0_1 (broadcastInDim S1x2048 ![1] bcast_S2048_S1x2048_1 B))

/-- The rows of a chunk mixed, plus the bias. -/
noncomputable def mixArr (N : FVec Ideal S16384x2048 .f32) (W : FVec Ideal S16x128x128 .f32) (Bs : FVec Ideal S16x128 .f32) : FVec Ideal S16384x2048 .f32 :=
  shapeCast _ (addf (transpose S128x128x16x128 [1, 3, 0, 2] (Host.dotGeneral dot_S128x128x16x128_S16x128x128_S16x128x128x128_1_2_03_1_2_0 none (shapeCast _ N shapeCasts_S16384x2048_S128x128x16x128) (select (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) W (broadcastInDim S16x128x128 ![] bcast_S_S16x128x128 (constant S_ .f32 0x00000000#32)))) transposes_S16x128x128x128_S128x128x16x128_1_3_0_2) (broadcastInDim S128x128x16x128 ![0, 1, 2, 3] bcast_S1x128x16x1_S128x128x16x128_0_1_2_3 (broadcastInDim S1x128x16x1 ![1, 2] bcast_S128x16_S1x128x16x1_1_2 (transpose S128x16 [1, 0] Bs transposes_S16x128_S128x16_1_0)))) shapeCasts_S128x128x16x128_S16384x2048

/-- The mixed rows times both gates. -/
noncomputable def outArr (Y : FVec Ideal S16384x6144 .f32) (M : FVec Ideal S16384x2048 .f32) : FVec Ideal S16384x2048 .bf16 :=
  truncf .bf16 (mulf (mulf (mulf (mulf (broadcastInDim S16384x2048 ![] bcast_S_S16384x2048 (constant S_ .f32 0x3F000000#32)) (extractStridedSlice S16384x2048 ![0, 0] Y slices_S16384x6144_S16384x2048_0_0)) (addf (broadcastInDim S16384x2048 ![] bcast_S_S16384x2048 (constant S_ .f32 0x3F800000#32)) (Host.erf (mulf (extractStridedSlice S16384x2048 ![0, 0] Y slices_S16384x6144_S16384x2048_0_0) (broadcastInDim S16384x2048 ![] bcast_S_S16384x2048 (constant S_ .f32 0x3F3504F3#32)))))) M) (mulf (extractStridedSlice S16384x2048 ![0, 4096] Y slices_S16384x6144_S16384x2048_0_4096) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 4096] Y slices_S16384x6144_S16384x2048_0_4096))))))) bitsLt_bf16_f32

theorem colArr_apply (X : FVec Ideal S16384x14336 .bf16) (R : Fin 16384) (c : Fin 6144) : (colArr X (ix2 R c) : EReal) = X (ix2 R (⟨8192 + c.val, by omega⟩ : Fin 14336)) := by
  unfold colArr
  pointwise

theorem actArr_apply (Y : FVec Ideal S16384x6144 .f32) (R : Fin 16384) (C : Fin 2048) : (actArr Y (ix2 R C) : EReal) = gelu (Y (ix2 R (⟨2048 + C.val, by omega⟩ : Fin 6144))) := by
  unfold actArr gelu
  pointwise

theorem ctrArr_apply (A : FVec Ideal S16384x2048 .f32) (R : Fin 16384) (C : Fin 2048) : (ctrArr A (ix2 R C) : EReal) = ctrRow (fun x => A (ix2 R x)) C := by
  unfold ctrArr
  pointwise
  rfl

theorem normArr_apply (Z : FVec Ideal S16384x2048 .f32) (K B : FVec Ideal S2048 .f32) (R : Fin 16384) (C : Fin 2048) : (normArr Z K B (ix2 R C) : EReal)
    = Z (ix2 R C) * Ideal.rsqrt (Ideal.div (∑ x : Fin 2048, Z (ix2 R x) * Z (ix2 R x)) (Ideal.ofBits FTy.f32 0x45000000#32) + Ideal.ofBits FTy.f32 0x358637BD#32) * K (ix1 C) + B (ix1 C) := by
  unfold normArr
  pointwise

theorem select_ge (x p : ℕ) (hx : x < 128) (hp : p < 128) (a b : EReal) :
    Scalar.select (Scalar.select (IntOp.cmpi CmpIPredicate.sge (IntOp.addi (BitVec.ofNat 32 p) 0#32) (BitVec.ofNat 32 x)) 1#1 0#1) a b = if x ≤ p then a else b := by
  have e0 : IntOp.addi (BitVec.ofNat 32 p) 0#32 = BitVec.ofNat 32 p := BitVec.add_zero _
  rw [e0]
  by_cases h : x ≤ p
  · have e : IntOp.cmpi CmpIPredicate.sge (BitVec.ofNat 32 p) (BitVec.ofNat 32 x) = 1#1 := by
      word_omega
    rw [e, if_pos h]
    rfl
  · have e : IntOp.cmpi CmpIPredicate.sge (BitVec.ofNat 32 p) (BitVec.ofNat 32 x) = 0#1 := by
      word_omega
    rw [e, if_neg h]
    rfl

theorem mixArr_apply (N : FVec Ideal S16384x2048 .f32) (W : FVec Ideal S16x128x128 .f32) (Bs : FVec Ideal S16x128 .f32) (R : Fin 16384) (C : Fin 2048) :
    (mixArr N W Bs (ix2 R C) : EReal)
      = (∑ d : Fin 128, if d.val ≤ R.val % 128 then
          (W (ix3 (⟨C.val / 128, by omega⟩ : Fin 16) (⟨R.val % 128, by omega⟩ : Fin 128) d) * N (ix2 (rowF (⟨R.val / 128, by omega⟩ : Fin 128) d) C) : EReal) else 0)
        + Bs (ix2 (⟨C.val / 128, by omega⟩ : Fin 16) (⟨R.val % 128, by omega⟩ : Fin 128)) := by
  unfold mixArr
  pointwise
  refine congrArg (fun z : EReal => z + _) (Finset.sum_congr rfl fun d _ => ?_)
  refine (select_ge d.val (R.val % 128) d.isLt (by omega) _ _).trans ?_
  by_cases h : d.val ≤ R.val % 128
  · rw [if_pos h, if_pos h]
    refine (mul_comm _ _).trans ?_
    have e : (⟨R.val / 128 * 128 + d.val, by omega⟩ : Fin 16384) = rowF (⟨R.val / 128, by omega⟩ : Fin 128) d := Fin.ext (by unfold rowF; dsimp only; omega)
    exact congrArg (fun z => (W (ix3 (⟨C.val / 128, by omega⟩ : Fin 16) (⟨R.val % 128, by omega⟩ : Fin 128) d) * N (ix2 z C) : EReal)) e
  · rw [if_neg h, if_neg h]

theorem outArr_apply (Y : FVec Ideal S16384x6144 .f32) (M : FVec Ideal S16384x2048 .f32) (R : Fin 16384) (C : Fin 2048) :
    (outArr Y M (ix2 R C) : EReal) = gelu (Y (ix2 R (⟨C.val, by omega⟩ : Fin 6144))) * M (ix2 R C) * siluAt (Y (ix2 R (⟨4096 + C.val, by omega⟩ : Fin 6144))) := by
  unfold outArr gelu siluAt
  pointwise

/-- The reference's operations together. -/
noncomputable def refArr (X : FVec Ideal S16384x14336 .bf16) (K B : FVec Ideal S2048 .f32) (W : FVec Ideal S16x128x128 .f32) (Bs : FVec Ideal S16x128 .f32) : FVec Ideal S16384x2048 .bf16 :=
  outArr (colArr X) (mixArr (normArr (ctrArr (actArr (colArr X))) K B) W Bs)

theorem act_apply (X : FVec Ideal S16384x14336 .bf16) (R : Fin 16384) (C : Fin 2048) :
    (actArr (colArr X) (ix2 R C) : EReal) = gelu (X (ix2 R (⟨10240 + C.val, by omega⟩ : Fin 14336))) := by
  refine (actArr_apply _ R C).trans (congrArg gelu ((colArr_apply X R _).trans ?_))
  exact congrArg (fun z : Fin 14336 => (X (ix2 R z) : EReal)) (Fin.ext (by dsimp only; omega))

theorem norm_apply (X : FVec Ideal S16384x14336 .bf16) (K B : FVec Ideal S2048 .f32) (R : Fin 16384) (C : Fin 2048) :
    (normArr (ctrArr (actArr (colArr X))) K B (ix2 R C) : EReal)
      = normRow (fun x => gelu (X (ix2 R (⟨10240 + x.val, by omega⟩ : Fin 14336)))) (fun x => K (ix1 x)) (fun x => B (ix1 x)) C := by
  refine (normArr_apply _ K B R C).trans ?_
  have hz : ∀ y : Fin 2048, (ctrArr (actArr (colArr X)) (ix2 R y) : EReal) = ctrRow (fun x => gelu (X (ix2 R (⟨10240 + x.val, by omega⟩ : Fin 14336)))) y := fun y =>
    (ctrArr_apply _ R y).trans (congrArg (fun z => ctrRow z y) (funext fun x => act_apply X R x))
  simp only [hz]
  rfl

theorem refArr_apply (X : FVec Ideal S16384x14336 .bf16) (K B : FVec Ideal S2048 .f32) (W : FVec Ideal S16x128x128 .f32) (Bs : FVec Ideal S16x128 .f32) (R : Fin 16384) (C : Fin 2048) :
    (refArr X K B W Bs (ix2 R C) : EReal)
      = gateE X K B W Bs (⟨R.val / 128, by omega⟩ : Fin 128) (⟨R.val % 128, by omega⟩ : Fin 128) (⟨C.val / 128, by omega⟩ : Fin 16) (⟨C.val % 128, by omega⟩ : Fin 128) := by
  refine (outArr_apply _ _ R C).trans ?_
  have hr : rowF (⟨R.val / 128, by omega⟩ : Fin 128) (⟨R.val % 128, by omega⟩ : Fin 128) = R := Fin.ext (by unfold rowF; dsimp only; omega)
  have hc : colF (⟨C.val / 128, by omega⟩ : Fin 16) (⟨C.val % 128, by omega⟩ : Fin 128) = C := Fin.ext (by unfold colF; dsimp only; omega)
  unfold gateE
  rw [hr]
  simp only [hc]
  refine congrArg₂ (fun a b : EReal => a * b) (congrArg₂ (fun a b : EReal => a * b) (congrArg gelu ((colArr_apply X R _).trans ?_)) ((mixArr_apply _ W Bs R C).trans ?_)) (congrArg siluAt ((colArr_apply X R _).trans ?_))
  · exact congrArg (fun z : Fin 14336 => (X (ix2 R z) : EReal)) (Fin.ext (by dsimp only))
  · refine congrArg (fun z : EReal => z + _) (Finset.sum_congr rfl fun d _ => ?_)
    by_cases h : d.val ≤ R.val % 128
    · rw [if_pos h, if_pos h]
      exact congrArg (fun z : EReal => _ * z) (norm_apply X K B _ C)
    · rw [if_neg h, if_neg h]
  · exact congrArg (fun z : Fin 14336 => (X (ix2 R z) : EReal)) (Fin.ext (by dsimp only; omega))

theorem refArr_eq (X X' : FVec Ideal S16384x14336 .bf16) (K K' B B' : FVec Ideal S2048 .f32) (W W' : FVec Ideal S16x128x128 .f32) (Bs Bs' : FVec Ideal S16x128 .f32)
    (hX : X = X') (hK : K = K') (hB : B = B') (hW : W = W') (hBs : Bs = Bs') : refArr X K B W Bs = refArr X' K' B' W' Bs' := by
  rw [hX, hK, hB, hW, hBs]

end Cert.Reference6Ideal.Gate

namespace Cert.Proof

open Idealize.ShloMosaic Idealize.ShloMosaic.TcCoe Idealize.SL.Sem

theorem quiescent_Kernel6 : @Cert.quiescent_Kernel6 Cert.Kernel6.Gen.facts := fun m g _ =>
  Cert.Kernel6.Gen.frame m g

theorem quiescent_Kernel6Ideal : @Cert.quiescent_Kernel6Ideal Cert.Kernel6Ideal.Gen.facts := fun m g _ =>
  Cert.Kernel6Ideal.Gen.frame m g

theorem quiescent_Reference6Ideal : @Cert.quiescent_Reference6Ideal Cert.Reference6Ideal.Gen.facts := fun m g _ =>
  (θ_run Cert.Reference6Ideal.defs _ _).mono (fun r h => ⟨fun c => (h c).2, sem_eq_zero_of_no_sems (by decide) r.2⟩)
    (Cert.Reference6Ideal.Value.run (F := Ideal) m g)

theorem preserves6 : Cert.preserves_Kernel6_Kernel6Ideal := trivial

/-- Kernel and reference end with the same result. -/
theorem algebraic6 : @Cert.algebraic_Kernel6Ideal_Reference6Ideal Cert.Kernel6Ideal.Gen.facts Cert.Reference6Ideal.Gen.facts := by
  intro m g m' g' _ hargs
  refine ⟨fun c => Cert.Kernel6Ideal.Gate.G m c, ?_, ?_⟩
  · exact (θ_run Cert.Kernel6Ideal.defs _ _).mono
      (fun r h c => ⟨((h.1 c).1 7).trans (Cert.Kernel6Ideal.Gate.final m c), h.2 c⟩)
      (θ_run_and (Cert.Kernel6Ideal.Gen.run_main m g)
        (Cert.Kernel6Ideal.Gen.frame_of m g (Cert.Kernel6Ideal.Gen.dats m) (Cert.Kernel6Ideal.Gen.A_eq m) (Cert.Kernel6Ideal.Gen.run_main m g)))
  · refine (θ_run Cert.Reference6Ideal.defs _ _).mono
      (fun r h c => ⟨(h c).1.trans ?_, (h c).2⟩)
      (Cert.Reference6Ideal.Value.run (F := Ideal) m' g')
    have hA := hargs c
    refine (Cert.Reference6Ideal.Gate.refArr_eq (m' ((c.tc : Thread Cert.Reference6Ideal.nD Cert.Reference6Ideal.τ).loc Cert.Reference6Ideal.main_arg0)) (Cert.Kernel6Ideal.Gate.aX m c)
      (m' ((c.tc : Thread Cert.Reference6Ideal.nD Cert.Reference6Ideal.τ).loc Cert.Reference6Ideal.main_arg1)) (Cert.Kernel6Ideal.Gate.aK m c)
      (m' ((c.tc : Thread Cert.Reference6Ideal.nD Cert.Reference6Ideal.τ).loc Cert.Reference6Ideal.main_arg2)) (Cert.Kernel6Ideal.Gate.aB m c)
      (m' ((c.tc : Thread Cert.Reference6Ideal.nD Cert.Reference6Ideal.τ).loc Cert.Reference6Ideal.main_arg3)) (Cert.Kernel6Ideal.Gate.aW m c)
      (m' ((c.tc : Thread Cert.Reference6Ideal.nD Cert.Reference6Ideal.τ).loc Cert.Reference6Ideal.main_arg4)) (Cert.Kernel6Ideal.Gate.aBs m c)
      hA.1 hA.2.1 hA.2.2.1 hA.2.2.2.1 hA.2.2.2.2).trans ?_
    funext j
    obtain ⟨R, C, rfl⟩ : ∃ (R : Fin 16384) (C : Fin 2048), j = ix2 R C := ⟨j 0, j 1, eq_ix2 j⟩
    exact (Cert.Reference6Ideal.Gate.refArr_apply _ _ _ _ _ R C).trans (Cert.Kernel6Ideal.Gate.G_apply m c R C).symm

end Cert.Proof

end
-- ==== Proof.Call7.lean ====
/-
  The RMSNorm in front of a layer, with its bf16 result: every entry over the root mean square of its row, times the column's weight.
-/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel7Ideal.Norm

open Cert.Kernel7Ideal.Gen
open Idealize.ShloMosaic Idealize.ShloMosaic.TcCoe

/-- One block of the call. -/
theorem pay_apply (x : Vec Ideal S512x4096 .f32) (g : Vec Ideal S1x4096 .f32) (i : Fin 512) (j : Fin 4096) :
    (k0_pay1 x g (ix2 i j) : EReal)
      = x (ix2 i j) * Ideal.rsqrt (Ideal.div (∑ d : Fin 4096, x (ix2 i d) * x (ix2 i d)) (Ideal.ofBits FTy.f32 0x45800000#32) + Ideal.ofBits FTy.f32 0x358637BD#32) * g (ix2 0 j) := by
  unfold k0_pay1
  pointwise

theorem out_apply (x : Vec Ideal S512x4096 .f32) (g : Vec Ideal S1x4096 .f32) : out0_2 x g = k0_pay1 x g := by
  frame_out

variable (m : (ℓ : Loc nD τ sig) → Buf (Elt Ideal) ℓ) (c : Dev nD)

abbrev aX : FVec Ideal ⟨2, ![16384, 4096]⟩ .f32 := m ((c : Thread nD τ).loc main_arg0)
abbrev aG : FVec Ideal ⟨1, ![4096]⟩ .f32 := m ((c : Thread nD τ).loc main_arg1)

theorem arr_g (r : Fin 1) (s : Fin 4096) : V m c main_v0 (ix2 r s) = aG m c (ix1 s) := by
  unfold V
  after_reads_at

theorem idx : ∀ t : Fin grid0.N,
    win0_0.index t = ![((grid0.coords t) 0).val, 0]
    ∧ win0_1.index t = ![0, 0]
    ∧ win0_2.index t = ![((grid0.coords t) 0).val, 0] := by
  decide +kernel

variable (t : Fin grid0.N)

theorem blk_x (i : Fin 512) (d : Fin 4096) (R : Fin 16384) (hR : R.val = 512 * ((grid0.coords t) 0).val + i.val) :
    iblk m c 0 t (ix2 i d) = aX m c (ix2 R d) := by
  refine Eq.trans (b := V m c main_arg0 (ix2 R d)) ?_ (congrFun (V_main_arg0 m c) _)
  blk_ext [iblk, idx t]

theorem blk_g (j : Fin 4096) : iblk m c 1 t (ix2 0 j) = aG m c (ix1 j) := by
  refine Eq.trans (b := V m c main_v0 (ix2 0 j)) ?_ (arr_g m c 0 j)
  blk_ext [iblk, idx t]

/-- The result array. -/
def G : FVec Ideal ⟨2, ![16384, 4096]⟩ .f32 := fun j =>
  (aX m c j : EReal) * Ideal.rsqrt (Ideal.div (∑ d : Fin 4096, aX m c (ix2 (j 0) d) * aX m c (ix2 (j 0) d)) (Ideal.ofBits FTy.f32 0x45800000#32) + Ideal.ofBits FTy.f32 0x358637BD#32)
    * aG m c (ix1 (j 1))

theorem G_apply (R : Fin 16384) (C : Fin 4096) : (G m c (ix2 R C) : EReal) = aX m c (ix2 R C)
    * Ideal.rsqrt (Ideal.div (∑ d : Fin 4096, aX m c (ix2 R d) * aX m c (ix2 R d)) (Ideal.ofBits FTy.f32 0x45800000#32) + Ideal.ofBits FTy.f32 0x358637BD#32) * aG m c (ix1 C) := rfl

theorem final : (dats m 0 c).arrAt 2 (cfgs 0).N = G m c := by
  refine (dats m 0 c).arrAt_eq_of_covers 2 _ (by decide +kernel) fun t hf y => ?_
  blk_simp
  rw [after0_2, out_apply]
  obtain ⟨i, j, rfl⟩ : ∃ (i : Fin 512) (j : Fin 4096), y = ix2 i j := ⟨y 0, y 1, eq_ix2 y⟩
  have h0 := ((grid0.coords t) 0).isLt
  change _ < 32 at h0
  obtain ⟨R, hR⟩ : ∃ R : Fin 16384, R.val = 512 * ((grid0.coords t) 0).val + i.val := ⟨⟨512 * ((grid0.coords t) 0).val + i.val, by omega⟩, rfl⟩
  refine (pay_apply _ _ i j).trans ?_
  rw [Finset.sum_congr rfl fun d _ => congrArg₂ (fun a b : EReal => a * b) (blk_x m c t i d R hR) (blk_x m c t i d R hR), blk_x m c t i j R hR, blk_g m c t j]
  refine (G_apply m c R j).symm.trans ?_
  blk_ext [idx t]

end Cert.Kernel7Ideal.Norm

namespace Cert.Reference7Ideal.Norm

open Cert.Reference7Ideal Cert.Reference7Ideal.Gen
open Idealize.ShloMosaic Idealize.ShloMosaic.TcCoe

/-- The reference's operations. -/
def refArr (X : FVec Ideal S16384x4096 .f32) (W : FVec Ideal S4096 .f32) : FVec Ideal S16384x4096 .f32 :=
  mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 W))

theorem refArr_apply (X : FVec Ideal S16384x4096 .f32) (W : FVec Ideal S4096 .f32) (R : Fin 16384) (C : Fin 4096) :
    (refArr X W (ix2 R C) : EReal) = X (ix2 R C)
      * Ideal.rsqrt (Ideal.div (∑ d : Fin 4096, X (ix2 R d) * X (ix2 R d)) (Ideal.ofBits FTy.f32 0x45800000#32) + Ideal.ofBits FTy.f32 0x358637BD#32) * W (ix1 C) := by
  unfold refArr
  pointwise

theorem refArr_eq (X : FVec Ideal S16384x4096 .f32) (W : FVec Ideal S4096 .f32) (X' : FVec Ideal S16384x4096 .f32) (W' : FVec Ideal S4096 .f32)
    (hX : X = X') (hW : W = W') : refArr X W = refArr X' W' := by
  rw [hX, hW]

end Cert.Reference7Ideal.Norm

namespace Cert.Proof

open Idealize.ShloMosaic Idealize.ShloMosaic.TcCoe Idealize.SL.Sem

theorem quiescent_Kernel7 : @Cert.quiescent_Kernel7 Cert.Kernel7.Gen.facts := fun m g _ =>
  Cert.Kernel7.Gen.frame m g

theorem quiescent_Kernel7Ideal : @Cert.quiescent_Kernel7Ideal Cert.Kernel7Ideal.Gen.facts := fun m g _ =>
  Cert.Kernel7Ideal.Gen.frame m g

theorem quiescent_Reference7Ideal : @Cert.quiescent_Reference7Ideal Cert.Reference7Ideal.Gen.facts := fun m g _ =>
  (θ_run Cert.Reference7Ideal.defs _ _).mono (fun r h => ⟨fun c => (h c).2, sem_eq_zero_of_no_sems (by decide) r.2⟩)
    (Cert.Reference7Ideal.Value.run (F := Ideal) m g)

theorem preserves7 : Cert.preserves_Kernel7_Kernel7Ideal := trivial

/-- Kernel and reference end with the same result. -/
theorem algebraic7 : @Cert.algebraic_Kernel7Ideal_Reference7Ideal Cert.Kernel7Ideal.Gen.facts Cert.Reference7Ideal.Gen.facts := by
  intro m g m' g' _ hargs
  refine ⟨fun c => Cert.Kernel7Ideal.Norm.G m c, ?_, ?_⟩
  · exact (θ_run Cert.Kernel7Ideal.defs _ _).mono
      (fun r h c => ⟨(h c).1.trans (Cert.Kernel7Ideal.Norm.final m c), (h c).2⟩)
      (Cert.Kernel7Ideal.Value.run_blocks (F := Ideal) m g)
  · refine (θ_run Cert.Reference7Ideal.defs _ _).mono
      (fun r h c => ⟨(h c).1.trans ?_, (h c).2⟩)
      (Cert.Reference7Ideal.Value.run (F := Ideal) m' g')
    have hA := hargs c
    refine (Cert.Reference7Ideal.Norm.refArr_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      (Cert.Kernel7Ideal.Norm.aX m c) (Cert.Kernel7Ideal.Norm.aG m c) hA.1 hA.2).trans ?_
    funext j
    obtain ⟨R, C, rfl⟩ : ∃ (R : Fin 16384) (C : Fin 4096), j = ix2 R C := ⟨j 0, j 1, eq_ix2 j⟩
    exact (Cert.Reference7Ideal.Norm.refArr_apply _ _ R C).trans (Cert.Kernel7Ideal.Norm.G_apply m c R C).symm

end Cert.Proof

end
-- ==== Proof.lean ====
/- The certificate's claim, from the two runs and the value proof. -/
module

public import proofs.«01_k».proof.Defs
public import proofs.«01_k».proof.Proof.KernelBits
public import proofs.«01_k».proof.Proof.Value
public import proofs.«01_k».proof.Proof.RefValue
public import proofs.«01_k».proof.Proof.Call2
public import proofs.«01_k».proof.Proof.Call3
public import proofs.«01_k».proof.Proof.Call4
public import proofs.«01_k».proof.Proof.Call5
public import proofs.«01_k».proof.Proof.Call6
public import proofs.«01_k».proof.Proof.Call7
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim

@[expose] public section

noncomputable section

namespace Cert.Proof

open Idealize.ShloMosaic Idealize.SL.Sem

theorem quiescent_KernelIdeal : @Cert.quiescent_KernelIdeal Cert.KernelIdeal.Gen.facts := fun m g _ =>
  Cert.KernelIdeal.Attn.frame (F := Ideal) m g

theorem preserves : Cert.preserves_Kernel_KernelIdeal := by
  exact IdealRules.named_const.statement _ _ _ _ _ rfl

theorem quiescent_ReferenceIdeal : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments the reference's result is the kernel's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Attn.aQ m' c = Cert.KernelIdeal.Attn.aQ m c) (h1 : Cert.ReferenceIdeal.Attn.aK m' c = Cert.KernelIdeal.Attn.aK m c)
    (h2 : Cert.ReferenceIdeal.Attn.aV m' c = Cert.KernelIdeal.Attn.aV m c) (h3 : Cert.ReferenceIdeal.Attn.aG m' c = Cert.KernelIdeal.Attn.aG m c)
    (h4 : Cert.ReferenceIdeal.Attn.aW m' c = Cert.KernelIdeal.Attn.aW m c) :
    Cert.ReferenceIdeal.Value.res_main_v33 (F := Ideal) m' c = Cert.KernelIdeal.Attn.G m c := by
  funext j
  obtain ⟨R, C, rfl⟩ : ∃ (R : Fin 16384) (C : Fin 2048), j = ix2 R C := ⟨j 0, j 1, eq_ix2 j⟩
  obtain ⟨b, hb⟩ : ∃ b : Fin 2, b = ⟨R.val / 8192, by omega⟩ := ⟨_, rfl⟩
  obtain ⟨q, hq⟩ : ∃ q : Fin 8192, q = ⟨R.val % 8192, by omega⟩ := ⟨_, rfl⟩
  obtain ⟨h, hh⟩ : ∃ h : Fin 16, h = ⟨C.val / 128, by omega⟩ := ⟨_, rfl⟩
  obtain ⟨d, hd⟩ : ∃ d : Fin 128, d = ⟨C.val % 128, by omega⟩ := ⟨_, rfl⟩
  have eb : b.val = R.val / 8192 := congrArg Fin.val hb
  have eq : q.val = R.val % 8192 := congrArg Fin.val hq
  have eh : h.val = C.val / 128 := congrArg Fin.val hh
  have ed : d.val = C.val % 128 := congrArg Fin.val hd
  refine (Cert.ReferenceIdeal.Attn.ref_value m' c R C b q h d hb hq hh hd).trans ?_
  rw [h0, h1, h2, h3, h4]
  exact (Cert.KernelIdeal.Attn.G_apply m c R C b q h d (by omega) (by omega)).symm

/-- Kernel and reference end with the same result. -/
theorem algebraic : @Cert.algebraic_KernelIdeal_ReferenceIdeal Cert.KernelIdeal.Gen.facts Cert.ReferenceIdeal.Gen.facts := by
  intro m g m' g' _ hargs
  refine ⟨fun c => Cert.KernelIdeal.Attn.G m c, ?_, ?_⟩
  · exact (θ_run Cert.KernelIdeal.defs _ _).mono
      (fun r h c => ⟨((h.1 c).1 5).trans (Cert.KernelIdeal.Attn.final m c), h.2 c⟩)
      (θ_run_and (Cert.KernelIdeal.Attn.run_main m g)
        (Cert.KernelIdeal.Gen.frame_of m g (Cert.KernelIdeal.Attn.dats m) (Cert.KernelIdeal.Attn.A_eq m) (Cert.KernelIdeal.Attn.run_main m g)))
  · exact (θ_run Cert.ReferenceIdeal.defs _ _).mono
      (fun r h c => ⟨(h c).1.trans (value_eq m m' c (hargs c).1 (hargs c).2.1 (hargs c).2.2.1 (hargs c).2.2.2.1 (hargs c).2.2.2.2), (h c).2⟩)
      (Cert.ReferenceIdeal.Value.run (F := Ideal) m' g')

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    quiescent_Kernel, quiescent_KernelIdeal, quiescent_ReferenceIdeal,
    quiescent_Kernel2, quiescent_Kernel2Ideal, quiescent_Reference2Ideal,
    quiescent_Kernel3, quiescent_Kernel3Ideal, quiescent_Reference3Ideal,
    quiescent_Kernel4, quiescent_Kernel4Ideal, quiescent_Reference4Ideal,
    quiescent_Kernel5, quiescent_Kernel5Ideal, quiescent_Reference5Ideal,
    quiescent_Kernel6, quiescent_Kernel6Ideal, quiescent_Reference6Ideal,
    quiescent_Kernel7, quiescent_Kernel7Ideal, quiescent_Reference7Ideal,
    preserves, algebraic, preserves2, algebraic2, preserves3, algebraic3, preserves4, algebraic4,
    preserves5, algebraic5, preserves6, algebraic6, preserves7, algebraic7⟩

end Cert.Proof

end
